-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 16384, 8, 128]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 16384, 8, 128]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .f32) (main_arg1 : FVec F S1024x1024 .f32) (main_arg2 : FVec F S1x1024x8x128 .f32) (main_arg3 : FVec F S1x1024x8x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x8x128 .f32 := Host.absf main_arg2
  let main_cst_2 : FVec F S_ .f32 := constant S_ .f32 0x7F800000#32
  let main_v10 : FVec F S1x1024x8x128 .f32 := broadcastInDim S1x1024x8x128 ![] bcast_S_S1x1024x8x128 main_cst_2
  let main_v11 : IVec S1x1024x8x128 1 := cmpf .olt main_v9 main_v10
  let main_c_3 : IVec S_ 1 := constantI S_ 1 1#1
  let main_v12 : IVec S_ 1 := (fun x v => Host.reduce IntOp.andi x v reducesTo_S1x1024x8x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x1024 : Shape := ⟨2, ![1024, 1024]⟩
abbrev S1x16384x8x128 : Shape := ⟨4, ![1, 16384, 8, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x16384x8x128 : S_.BroadcastsInDim S1x16384x8x128 (![] : Fin 0 → Fin S1x16384x8x128.rank)
  reducesTo_S1x16384x8x128_S_d0_1_2_3 : S1x16384x8x128.ReducesTo [0, 1, 2, 3] S_

variable [Facts]

def fn {F : FTy → Type} [FloatOps F] (main_arg0 : FVec F S1x1024x1024 .f32) (main_arg1 : FVec F S1024x1024 .f32) (main_arg2 : FVec F S1x16384x8x128 .f32) (main_arg3 : FVec F S1x16384x8x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x16384x8x128 .f32 := Host.absf main_arg2
  let main_cst_2 : FVec F S_ .f32 := constant S_ .f32 0x7F800000#32
  let main_v10 : FVec F S1x16384x8x128 .f32 := broadcastInDim S1x16384x8x128 ![] bcast_S_S1x16384x8x128 main_cst_2
  let main_v11 : IVec S1x16384x8x128 1 := cmpf .olt main_v9 main_v10
  let main_c_3 : IVec S_ 1 := constantI S_ 1 1#1
  let main_v12 : IVec S_ 1 := (fun x v => Host.reduce IntOp.andi x v reducesTo_S1x16384x8x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S16x64x1024 : Shape := ⟨3, ![16, 64, 1024]⟩
abbrev S1024x8 : Shape := ⟨2, ![1024, 8]⟩
abbrev S16x64x8 : Shape := ⟨3, ![16, 64, 8]⟩
abbrev S16 : Shape := ⟨1, ![16]⟩
abbrev S_ : Shape := ⟨0, ![]⟩
abbrev S1024x8x128 : Shape := ⟨3, ![1024, 8, 128]⟩
abbrev S64x1024 : Shape := ⟨2, ![64, 1024]⟩
abbrev S256x1024 : Shape := ⟨2, ![256, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S256x8 : Shape := ⟨2, ![256, 8]⟩
abbrev S1x64x1024 : Shape := ⟨3, ![1, 64, 1024]⟩
abbrev S64x8 : Shape := ⟨2, ![64, 8]⟩
abbrev S1x64x8 : Shape := ⟨3, ![1, 64, 8]⟩
abbrev S1 : Shape := ⟨1, ![1]⟩
abbrev S64x128 : Shape := ⟨2, ![64, 128]⟩
abbrev S64x1 : Shape := ⟨2, ![64, 1]⟩

abbrev nBuf : Space → Nat
  | .hbm => 6
  | .vmem => 11
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x8x128, .f32⟩
  | .hbm, ⟨3, _⟩ => ⟨S1x1024x8x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1x1024x8x128, .f32⟩
  | .local _ .vmem, ⟨3, _⟩ => ⟨S1x1024x8x128, .f32⟩
  | .local _ .vmem, ⟨4, _⟩ => ⟨S1024x1024, .f32⟩
  | .local _ .vmem, ⟨5, _⟩ => ⟨S1x1024x1024, .f32⟩
  | .local _ .vmem, ⟨6, _⟩ => ⟨S16x64x1024, .fp8e4m3⟩
  | .local _ .vmem, ⟨7, _⟩ => ⟨S16x64x1024, .fp8e4m3⟩
  | .local _ .vmem, ⟨8, _⟩ => ⟨S1024x8, .bf16⟩
  | .local _ .vmem, ⟨9, _⟩ => ⟨S16x64x8, .bf16⟩
  | .local _ .vmem, ⟨10, _⟩ => ⟨S1024x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  (ofTc nBuf bufTy 1 102 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v795 : Index := Scalar.indexCast v2
  let c0_326 : Index := 0#32
  let c0_327 : Index := 0#32
  ![v795.toNat, 0, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v801 : BitVec 32 := Scalar.muli v2 c64_i32
  let v802 : Index := Scalar.indexCast v801
  let c0_330 : Index := 0#32
  ![v802.toNat, 0]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v805 : Index := Scalar.indexCast v2
  let c0_331 : Index := 0#32
  let c0_332 : Index := 0#32
  ![v805.toNat, 0, 0]
def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_343 : BitVec 32 := 0#32
  let c0_i32_344 : BitVec 32 := 0#32
  ![v2.toNat, 0, 0]
def k0_off6 (d0 : Dev nD) (c1_i32_333 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v809 : BitVec 32 := Scalar.addi v2 c1_i32_333
  let c16_i32_334 : BitVec 32 := 16#32
  let c0_i32_335 : BitVec 32 := 0#32
  let v810 : BitVec 1 := Scalar.cmpi .eq c16_i32_334 c0_i32_335
  let c1_i32_336 : BitVec 32 := 1#32
  let v811 : BitVec 32 := Scalar.select v810 c1_i32_336 c16_i32_334
  let v812 : BitVec 32 := Scalar.remsi v809 v811
  let c0_i32_338 : BitVec 32 := 0#32
  let v814 : BitVec 1 := Scalar.cmpi .slt v812 c0_i32_338
  let c0_i32_339 : BitVec 32 := 0#32
  let v815 : BitVec 1 := Scalar.cmpi .slt v811 c0_i32_339
  let v816 : BitVec 1 := Scalar.xori v814 v815
  let c0_i32_337 : BitVec 32 := 0#32
  let v813 : BitVec 1 := Scalar.cmpi .ne v812 c0_i32_337
  let v817 : BitVec 1 := Scalar.andi v816 v813
  let v818 : BitVec 32 := Scalar.addi v812 v811
  let v819 : BitVec 32 := Scalar.select v817 v818 v812
  let c0_i32_345 : BitVec 32 := 0#32
  let c0_i32_346 : BitVec 32 := 0#32
  ![v819.toNat, 0, 0]
def k0_dev16 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_333 : BitVec 32 := 1#32
  let v809 : BitVec 32 := Scalar.addi v2 c1_i32_333
  let c16_i32_334 : BitVec 32 := 16#32
  let c0_i32_335 : BitVec 32 := 0#32
  let v810 : BitVec 1 := Scalar.cmpi .eq c16_i32_334 c0_i32_335
  let c1_i32_336 : BitVec 32 := 1#32
  let v811 : BitVec 32 := Scalar.select v810 c1_i32_336 c16_i32_334
  let v812 : BitVec 32 := Scalar.remsi v809 v811
  let c0_i32_338 : BitVec 32 := 0#32
  let v814 : BitVec 1 := Scalar.cmpi .slt v812 c0_i32_338
  let c0_i32_339 : BitVec 32 := 0#32
  let v815 : BitVec 1 := Scalar.cmpi .slt v811 c0_i32_339
  let v816 : BitVec 1 := Scalar.xori v814 v815
  let c0_i32_337 : BitVec 32 := 0#32
  let v813 : BitVec 1 := Scalar.cmpi .ne v812 c0_i32_337
  let v817 : BitVec 1 := Scalar.andi v816 v813
  let v818 : BitVec 32 := Scalar.addi v812 v811
  let v819 : BitVec 32 := Scalar.select v817 v818 v812
  let c1_i32_341 : BitVec 32 := 1#32
  let v820 : BitVec 32 := Scalar.muli v819 c1_i32_341
  let v821 : BitVec 32 := Scalar.addi c0_i32_342 v820
  v821.toNat
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_351 : BitVec 32 := 0#32
  let c0_i32_352 : BitVec 32 := 0#32
  ![v2.toNat, 0, 0]
def k0_off8 (d0 : Dev nD) (c1_i32_333 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v809 : BitVec 32 := Scalar.addi v2 c1_i32_333
  let c16_i32_334 : BitVec 32 := 16#32
  let c0_i32_335 : BitVec 32 := 0#32
  let v810 : BitVec 1 := Scalar.cmpi .eq c16_i32_334 c0_i32_335
  let c1_i32_336 : BitVec 32 := 1#32
  let v811 : BitVec 32 := Scalar.select v810 c1_i32_336 c16_i32_334
  let v812 : BitVec 32 := Scalar.remsi v809 v811
  let c0_i32_338 : BitVec 32 := 0#32
  let v814 : BitVec 1 := Scalar.cmpi .slt v812 c0_i32_338
  let c0_i32_339 : BitVec 32 := 0#32
  let v815 : BitVec 1 := Scalar.cmpi .slt v811 c0_i32_339
  let v816 : BitVec 1 := Scalar.xori v814 v815
  let c0_i32_337 : BitVec 32 := 0#32
  let v813 : BitVec 1 := Scalar.cmpi .ne v812 c0_i32_337
  let v817 : BitVec 1 := Scalar.andi v816 v813
  let v818 : BitVec 32 := Scalar.addi v812 v811
  let v819 : BitVec 32 := Scalar.select v817 v818 v812
  let c64_i32_347 : BitVec 32 := 64#32
  let v830 : BitVec 32 := Scalar.muli v819 c64_i32_347
  let c0_i32_353 : BitVec 32 := 0#32
  ![v830.toNat, 0]
def k0_dev17 (d0 : Dev nD) : Nat :=
  let c0_i32_350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_333 : BitVec 32 := 1#32
  let v809 : BitVec 32 := Scalar.addi v2 c1_i32_333
  let c16_i32_334 : BitVec 32 := 16#32
  let c0_i32_335 : BitVec 32 := 0#32
  let v810 : BitVec 1 := Scalar.cmpi .eq c16_i32_334 c0_i32_335
  let c1_i32_336 : BitVec 32 := 1#32
  let v811 : BitVec 32 := Scalar.select v810 c1_i32_336 c16_i32_334
  let v812 : BitVec 32 := Scalar.remsi v809 v811
  let c0_i32_338 : BitVec 32 := 0#32
  let v814 : BitVec 1 := Scalar.cmpi .slt v812 c0_i32_338
  let c0_i32_339 : BitVec 32 := 0#32
  let v815 : BitVec 1 := Scalar.cmpi .slt v811 c0_i32_339
  let v816 : BitVec 1 := Scalar.xori v814 v815
  let c0_i32_337 : BitVec 32 := 0#32
  let v813 : BitVec 1 := Scalar.cmpi .ne v812 c0_i32_337
  let v817 : BitVec 1 := Scalar.andi v816 v813
  let v818 : BitVec 32 := Scalar.addi v812 v811
  let v819 : BitVec 32 := Scalar.select v817 v818 v812
  let c1_i32_349 : BitVec 32 := 1#32
  let v831 : BitVec 32 := Scalar.muli v819 c1_i32_349
  let v832 : BitVec 32 := Scalar.addi c0_i32_350 v831
  v832.toNat
def k0_dev18 (d0 : Dev nD) : Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_354 : BitVec 32 := 2#32
  let v840 : BitVec 32 := Scalar.addi v2 c2_i32_354
  let c16_i32_355 : BitVec 32 := 16#32
  let c0_i32_356 : BitVec 32 := 0#32
  let v841 : BitVec 1 := Scalar.cmpi .eq c16_i32_355 c0_i32_356
  let c1_i32_357 : BitVec 32 := 1#32
  let v842 : BitVec 32 := Scalar.select v841 c1_i32_357 c16_i32_355
  let v843 : BitVec 32 := Scalar.remsi v840 v842
  let c0_i32_359 : BitVec 32 := 0#32
  let v845 : BitVec 1 := Scalar.cmpi .slt v843 c0_i32_359
  let c0_i32_360 : BitVec 32 := 0#32
  let v846 : BitVec 1 := Scalar.cmpi .slt v842 c0_i32_360
  let v847 : BitVec 1 := Scalar.xori v845 v846
  let c0_i32_358 : BitVec 32 := 0#32
  let v844 : BitVec 1 := Scalar.cmpi .ne v843 c0_i32_358
  let v848 : BitVec 1 := Scalar.andi v847 v844
  let v849 : BitVec 32 := Scalar.addi v843 v842
  let v850 : BitVec 32 := Scalar.select v848 v849 v843
  let c1_i32_362 : BitVec 32 := 1#32
  let v851 : BitVec 32 := Scalar.muli v850 c1_i32_362
  let v852 : BitVec 32 := Scalar.addi c0_i32_363 v851
  v852.toNat
def k0_dev19 (d0 : Dev nD) : Nat :=
  let c0_i32_371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_354 : BitVec 32 := 2#32
  let v840 : BitVec 32 := Scalar.addi v2 c2_i32_354
  let c16_i32_355 : BitVec 32 := 16#32
  let c0_i32_356 : BitVec 32 := 0#32
  let v841 : BitVec 1 := Scalar.cmpi .eq c16_i32_355 c0_i32_356
  let c1_i32_357 : BitVec 32 := 1#32
  let v842 : BitVec 32 := Scalar.select v841 c1_i32_357 c16_i32_355
  let v843 : BitVec 32 := Scalar.remsi v840 v842
  let c0_i32_359 : BitVec 32 := 0#32
  let v845 : BitVec 1 := Scalar.cmpi .slt v843 c0_i32_359
  let c0_i32_360 : BitVec 32 := 0#32
  let v846 : BitVec 1 := Scalar.cmpi .slt v842 c0_i32_360
  let v847 : BitVec 1 := Scalar.xori v845 v846
  let c0_i32_358 : BitVec 32 := 0#32
  let v844 : BitVec 1 := Scalar.cmpi .ne v843 c0_i32_358
  let v848 : BitVec 1 := Scalar.andi v847 v844
  let v849 : BitVec 32 := Scalar.addi v843 v842
  let v850 : BitVec 32 := Scalar.select v848 v849 v843
  let c1_i32_370 : BitVec 32 := 1#32
  let v862 : BitVec 32 := Scalar.muli v850 c1_i32_370
  let v863 : BitVec 32 := Scalar.addi c0_i32_371 v862
  v863.toNat
def k0_dev20 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_375 : BitVec 32 := 3#32
  let v871 : BitVec 32 := Scalar.addi v2 c3_i32_375
  let c16_i32_376 : BitVec 32 := 16#32
  let c0_i32_377 : BitVec 32 := 0#32
  let v872 : BitVec 1 := Scalar.cmpi .eq c16_i32_376 c0_i32_377
  let c1_i32_378 : BitVec 32 := 1#32
  let v873 : BitVec 32 := Scalar.select v872 c1_i32_378 c16_i32_376
  let v874 : BitVec 32 := Scalar.remsi v871 v873
  let c0_i32_380 : BitVec 32 := 0#32
  let v876 : BitVec 1 := Scalar.cmpi .slt v874 c0_i32_380
  let c0_i32_381 : BitVec 32 := 0#32
  let v877 : BitVec 1 := Scalar.cmpi .slt v873 c0_i32_381
  let v878 : BitVec 1 := Scalar.xori v876 v877
  let c0_i32_379 : BitVec 32 := 0#32
  let v875 : BitVec 1 := Scalar.cmpi .ne v874 c0_i32_379
  let v879 : BitVec 1 := Scalar.andi v878 v875
  let v880 : BitVec 32 := Scalar.addi v874 v873
  let v881 : BitVec 32 := Scalar.select v879 v880 v874
  let c1_i32_383 : BitVec 32 := 1#32
  let v882 : BitVec 32 := Scalar.muli v881 c1_i32_383
  let v883 : BitVec 32 := Scalar.addi c0_i32_384 v882
  v883.toNat
def k0_dev21 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_375 : BitVec 32 := 3#32
  let v871 : BitVec 32 := Scalar.addi v2 c3_i32_375
  let c16_i32_376 : BitVec 32 := 16#32
  let c0_i32_377 : BitVec 32 := 0#32
  let v872 : BitVec 1 := Scalar.cmpi .eq c16_i32_376 c0_i32_377
  let c1_i32_378 : BitVec 32 := 1#32
  let v873 : BitVec 32 := Scalar.select v872 c1_i32_378 c16_i32_376
  let v874 : BitVec 32 := Scalar.remsi v871 v873
  let c0_i32_380 : BitVec 32 := 0#32
  let v876 : BitVec 1 := Scalar.cmpi .slt v874 c0_i32_380
  let c0_i32_381 : BitVec 32 := 0#32
  let v877 : BitVec 1 := Scalar.cmpi .slt v873 c0_i32_381
  let v878 : BitVec 1 := Scalar.xori v876 v877
  let c0_i32_379 : BitVec 32 := 0#32
  let v875 : BitVec 1 := Scalar.cmpi .ne v874 c0_i32_379
  let v879 : BitVec 1 := Scalar.andi v878 v875
  let v880 : BitVec 32 := Scalar.addi v874 v873
  let v881 : BitVec 32 := Scalar.select v879 v880 v874
  let c1_i32_391 : BitVec 32 := 1#32
  let v893 : BitVec 32 := Scalar.muli v881 c1_i32_391
  let v894 : BitVec 32 := Scalar.addi c0_i32_392 v893
  v894.toNat
def k0_dev22 (d0 : Dev nD) : Nat :=
  let c0_i32_405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_396 : BitVec 32 := 4#32
  let v902 : BitVec 32 := Scalar.addi v2 c4_i32_396
  let c16_i32_397 : BitVec 32 := 16#32
  let c0_i32_398 : BitVec 32 := 0#32
  let v903 : BitVec 1 := Scalar.cmpi .eq c16_i32_397 c0_i32_398
  let c1_i32_399 : BitVec 32 := 1#32
  let v904 : BitVec 32 := Scalar.select v903 c1_i32_399 c16_i32_397
  let v905 : BitVec 32 := Scalar.remsi v902 v904
  let c0_i32_401 : BitVec 32 := 0#32
  let v907 : BitVec 1 := Scalar.cmpi .slt v905 c0_i32_401
  let c0_i32_402 : BitVec 32 := 0#32
  let v908 : BitVec 1 := Scalar.cmpi .slt v904 c0_i32_402
  let v909 : BitVec 1 := Scalar.xori v907 v908
  let c0_i32_400 : BitVec 32 := 0#32
  let v906 : BitVec 1 := Scalar.cmpi .ne v905 c0_i32_400
  let v910 : BitVec 1 := Scalar.andi v909 v906
  let v911 : BitVec 32 := Scalar.addi v905 v904
  let v912 : BitVec 32 := Scalar.select v910 v911 v905
  let c1_i32_404 : BitVec 32 := 1#32
  let v913 : BitVec 32 := Scalar.muli v912 c1_i32_404
  let v914 : BitVec 32 := Scalar.addi c0_i32_405 v913
  v914.toNat
def k0_dev23 (d0 : Dev nD) : Nat :=
  let c0_i32_413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_396 : BitVec 32 := 4#32
  let v902 : BitVec 32 := Scalar.addi v2 c4_i32_396
  let c16_i32_397 : BitVec 32 := 16#32
  let c0_i32_398 : BitVec 32 := 0#32
  let v903 : BitVec 1 := Scalar.cmpi .eq c16_i32_397 c0_i32_398
  let c1_i32_399 : BitVec 32 := 1#32
  let v904 : BitVec 32 := Scalar.select v903 c1_i32_399 c16_i32_397
  let v905 : BitVec 32 := Scalar.remsi v902 v904
  let c0_i32_401 : BitVec 32 := 0#32
  let v907 : BitVec 1 := Scalar.cmpi .slt v905 c0_i32_401
  let c0_i32_402 : BitVec 32 := 0#32
  let v908 : BitVec 1 := Scalar.cmpi .slt v904 c0_i32_402
  let v909 : BitVec 1 := Scalar.xori v907 v908
  let c0_i32_400 : BitVec 32 := 0#32
  let v906 : BitVec 1 := Scalar.cmpi .ne v905 c0_i32_400
  let v910 : BitVec 1 := Scalar.andi v909 v906
  let v911 : BitVec 32 := Scalar.addi v905 v904
  let v912 : BitVec 32 := Scalar.select v910 v911 v905
  let c1_i32_412 : BitVec 32 := 1#32
  let v924 : BitVec 32 := Scalar.muli v912 c1_i32_412
  let v925 : BitVec 32 := Scalar.addi c0_i32_413 v924
  v925.toNat
def k0_dev24 (d0 : Dev nD) : Nat :=
  let c0_i32_426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_417 : BitVec 32 := 5#32
  let v933 : BitVec 32 := Scalar.addi v2 c5_i32_417
  let c16_i32_418 : BitVec 32 := 16#32
  let c0_i32_419 : BitVec 32 := 0#32
  let v934 : BitVec 1 := Scalar.cmpi .eq c16_i32_418 c0_i32_419
  let c1_i32_420 : BitVec 32 := 1#32
  let v935 : BitVec 32 := Scalar.select v934 c1_i32_420 c16_i32_418
  let v936 : BitVec 32 := Scalar.remsi v933 v935
  let c0_i32_422 : BitVec 32 := 0#32
  let v938 : BitVec 1 := Scalar.cmpi .slt v936 c0_i32_422
  let c0_i32_423 : BitVec 32 := 0#32
  let v939 : BitVec 1 := Scalar.cmpi .slt v935 c0_i32_423
  let v940 : BitVec 1 := Scalar.xori v938 v939
  let c0_i32_421 : BitVec 32 := 0#32
  let v937 : BitVec 1 := Scalar.cmpi .ne v936 c0_i32_421
  let v941 : BitVec 1 := Scalar.andi v940 v937
  let v942 : BitVec 32 := Scalar.addi v936 v935
  let v943 : BitVec 32 := Scalar.select v941 v942 v936
  let c1_i32_425 : BitVec 32 := 1#32
  let v944 : BitVec 32 := Scalar.muli v943 c1_i32_425
  let v945 : BitVec 32 := Scalar.addi c0_i32_426 v944
  v945.toNat
def k0_dev25 (d0 : Dev nD) : Nat :=
  let c0_i32_434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_417 : BitVec 32 := 5#32
  let v933 : BitVec 32 := Scalar.addi v2 c5_i32_417
  let c16_i32_418 : BitVec 32 := 16#32
  let c0_i32_419 : BitVec 32 := 0#32
  let v934 : BitVec 1 := Scalar.cmpi .eq c16_i32_418 c0_i32_419
  let c1_i32_420 : BitVec 32 := 1#32
  let v935 : BitVec 32 := Scalar.select v934 c1_i32_420 c16_i32_418
  let v936 : BitVec 32 := Scalar.remsi v933 v935
  let c0_i32_422 : BitVec 32 := 0#32
  let v938 : BitVec 1 := Scalar.cmpi .slt v936 c0_i32_422
  let c0_i32_423 : BitVec 32 := 0#32
  let v939 : BitVec 1 := Scalar.cmpi .slt v935 c0_i32_423
  let v940 : BitVec 1 := Scalar.xori v938 v939
  let c0_i32_421 : BitVec 32 := 0#32
  let v937 : BitVec 1 := Scalar.cmpi .ne v936 c0_i32_421
  let v941 : BitVec 1 := Scalar.andi v940 v937
  let v942 : BitVec 32 := Scalar.addi v936 v935
  let v943 : BitVec 32 := Scalar.select v941 v942 v936
  let c1_i32_433 : BitVec 32 := 1#32
  let v955 : BitVec 32 := Scalar.muli v943 c1_i32_433
  let v956 : BitVec 32 := Scalar.addi c0_i32_434 v955
  v956.toNat
def k0_dev26 (d0 : Dev nD) : Nat :=
  let c0_i32_447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_438 : BitVec 32 := 6#32
  let v964 : BitVec 32 := Scalar.addi v2 c6_i32_438
  let c16_i32_439 : BitVec 32 := 16#32
  let c0_i32_440 : BitVec 32 := 0#32
  let v965 : BitVec 1 := Scalar.cmpi .eq c16_i32_439 c0_i32_440
  let c1_i32_441 : BitVec 32 := 1#32
  let v966 : BitVec 32 := Scalar.select v965 c1_i32_441 c16_i32_439
  let v967 : BitVec 32 := Scalar.remsi v964 v966
  let c0_i32_443 : BitVec 32 := 0#32
  let v969 : BitVec 1 := Scalar.cmpi .slt v967 c0_i32_443
  let c0_i32_444 : BitVec 32 := 0#32
  let v970 : BitVec 1 := Scalar.cmpi .slt v966 c0_i32_444
  let v971 : BitVec 1 := Scalar.xori v969 v970
  let c0_i32_442 : BitVec 32 := 0#32
  let v968 : BitVec 1 := Scalar.cmpi .ne v967 c0_i32_442
  let v972 : BitVec 1 := Scalar.andi v971 v968
  let v973 : BitVec 32 := Scalar.addi v967 v966
  let v974 : BitVec 32 := Scalar.select v972 v973 v967
  let c1_i32_446 : BitVec 32 := 1#32
  let v975 : BitVec 32 := Scalar.muli v974 c1_i32_446
  let v976 : BitVec 32 := Scalar.addi c0_i32_447 v975
  v976.toNat
def k0_dev27 (d0 : Dev nD) : Nat :=
  let c0_i32_455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_438 : BitVec 32 := 6#32
  let v964 : BitVec 32 := Scalar.addi v2 c6_i32_438
  let c16_i32_439 : BitVec 32 := 16#32
  let c0_i32_440 : BitVec 32 := 0#32
  let v965 : BitVec 1 := Scalar.cmpi .eq c16_i32_439 c0_i32_440
  let c1_i32_441 : BitVec 32 := 1#32
  let v966 : BitVec 32 := Scalar.select v965 c1_i32_441 c16_i32_439
  let v967 : BitVec 32 := Scalar.remsi v964 v966
  let c0_i32_443 : BitVec 32 := 0#32
  let v969 : BitVec 1 := Scalar.cmpi .slt v967 c0_i32_443
  let c0_i32_444 : BitVec 32 := 0#32
  let v970 : BitVec 1 := Scalar.cmpi .slt v966 c0_i32_444
  let v971 : BitVec 1 := Scalar.xori v969 v970
  let c0_i32_442 : BitVec 32 := 0#32
  let v968 : BitVec 1 := Scalar.cmpi .ne v967 c0_i32_442
  let v972 : BitVec 1 := Scalar.andi v971 v968
  let v973 : BitVec 32 := Scalar.addi v967 v966
  let v974 : BitVec 32 := Scalar.select v972 v973 v967
  let c1_i32_454 : BitVec 32 := 1#32
  let v986 : BitVec 32 := Scalar.muli v974 c1_i32_454
  let v987 : BitVec 32 := Scalar.addi c0_i32_455 v986
  v987.toNat
def k0_dev28 (d0 : Dev nD) : Nat :=
  let c0_i32_468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_459 : BitVec 32 := 7#32
  let v995 : BitVec 32 := Scalar.addi v2 c7_i32_459
  let c16_i32_460 : BitVec 32 := 16#32
  let c0_i32_461 : BitVec 32 := 0#32
  let v996 : BitVec 1 := Scalar.cmpi .eq c16_i32_460 c0_i32_461
  let c1_i32_462 : BitVec 32 := 1#32
  let v997 : BitVec 32 := Scalar.select v996 c1_i32_462 c16_i32_460
  let v998 : BitVec 32 := Scalar.remsi v995 v997
  let c0_i32_464 : BitVec 32 := 0#32
  let v1000 : BitVec 1 := Scalar.cmpi .slt v998 c0_i32_464
  let c0_i32_465 : BitVec 32 := 0#32
  let v1001 : BitVec 1 := Scalar.cmpi .slt v997 c0_i32_465
  let v1002 : BitVec 1 := Scalar.xori v1000 v1001
  let c0_i32_463 : BitVec 32 := 0#32
  let v999 : BitVec 1 := Scalar.cmpi .ne v998 c0_i32_463
  let v1003 : BitVec 1 := Scalar.andi v1002 v999
  let v1004 : BitVec 32 := Scalar.addi v998 v997
  let v1005 : BitVec 32 := Scalar.select v1003 v1004 v998
  let c1_i32_467 : BitVec 32 := 1#32
  let v1006 : BitVec 32 := Scalar.muli v1005 c1_i32_467
  let v1007 : BitVec 32 := Scalar.addi c0_i32_468 v1006
  v1007.toNat
def k0_dev29 (d0 : Dev nD) : Nat :=
  let c0_i32_476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_459 : BitVec 32 := 7#32
  let v995 : BitVec 32 := Scalar.addi v2 c7_i32_459
  let c16_i32_460 : BitVec 32 := 16#32
  let c0_i32_461 : BitVec 32 := 0#32
  let v996 : BitVec 1 := Scalar.cmpi .eq c16_i32_460 c0_i32_461
  let c1_i32_462 : BitVec 32 := 1#32
  let v997 : BitVec 32 := Scalar.select v996 c1_i32_462 c16_i32_460
  let v998 : BitVec 32 := Scalar.remsi v995 v997
  let c0_i32_464 : BitVec 32 := 0#32
  let v1000 : BitVec 1 := Scalar.cmpi .slt v998 c0_i32_464
  let c0_i32_465 : BitVec 32 := 0#32
  let v1001 : BitVec 1 := Scalar.cmpi .slt v997 c0_i32_465
  let v1002 : BitVec 1 := Scalar.xori v1000 v1001
  let c0_i32_463 : BitVec 32 := 0#32
  let v999 : BitVec 1 := Scalar.cmpi .ne v998 c0_i32_463
  let v1003 : BitVec 1 := Scalar.andi v1002 v999
  let v1004 : BitVec 32 := Scalar.addi v998 v997
  let v1005 : BitVec 32 := Scalar.select v1003 v1004 v998
  let c1_i32_475 : BitVec 32 := 1#32
  let v1017 : BitVec 32 := Scalar.muli v1005 c1_i32_475
  let v1018 : BitVec 32 := Scalar.addi c0_i32_476 v1017
  v1018.toNat
def k0_dev30 (d0 : Dev nD) : Nat :=
  let c0_i32_489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_480 : BitVec 32 := 8#32
  let v1026 : BitVec 32 := Scalar.addi v2 c8_i32_480
  let c16_i32_481 : BitVec 32 := 16#32
  let c0_i32_482 : BitVec 32 := 0#32
  let v1027 : BitVec 1 := Scalar.cmpi .eq c16_i32_481 c0_i32_482
  let c1_i32_483 : BitVec 32 := 1#32
  let v1028 : BitVec 32 := Scalar.select v1027 c1_i32_483 c16_i32_481
  let v1029 : BitVec 32 := Scalar.remsi v1026 v1028
  let c0_i32_485 : BitVec 32 := 0#32
  let v1031 : BitVec 1 := Scalar.cmpi .slt v1029 c0_i32_485
  let c0_i32_486 : BitVec 32 := 0#32
  let v1032 : BitVec 1 := Scalar.cmpi .slt v1028 c0_i32_486
  let v1033 : BitVec 1 := Scalar.xori v1031 v1032
  let c0_i32_484 : BitVec 32 := 0#32
  let v1030 : BitVec 1 := Scalar.cmpi .ne v1029 c0_i32_484
  let v1034 : BitVec 1 := Scalar.andi v1033 v1030
  let v1035 : BitVec 32 := Scalar.addi v1029 v1028
  let v1036 : BitVec 32 := Scalar.select v1034 v1035 v1029
  let c1_i32_488 : BitVec 32 := 1#32
  let v1037 : BitVec 32 := Scalar.muli v1036 c1_i32_488
  let v1038 : BitVec 32 := Scalar.addi c0_i32_489 v1037
  v1038.toNat
def k0_dev31 (d0 : Dev nD) : Nat :=
  let c0_i32_497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_480 : BitVec 32 := 8#32
  let v1026 : BitVec 32 := Scalar.addi v2 c8_i32_480
  let c16_i32_481 : BitVec 32 := 16#32
  let c0_i32_482 : BitVec 32 := 0#32
  let v1027 : BitVec 1 := Scalar.cmpi .eq c16_i32_481 c0_i32_482
  let c1_i32_483 : BitVec 32 := 1#32
  let v1028 : BitVec 32 := Scalar.select v1027 c1_i32_483 c16_i32_481
  let v1029 : BitVec 32 := Scalar.remsi v1026 v1028
  let c0_i32_485 : BitVec 32 := 0#32
  let v1031 : BitVec 1 := Scalar.cmpi .slt v1029 c0_i32_485
  let c0_i32_486 : BitVec 32 := 0#32
  let v1032 : BitVec 1 := Scalar.cmpi .slt v1028 c0_i32_486
  let v1033 : BitVec 1 := Scalar.xori v1031 v1032
  let c0_i32_484 : BitVec 32 := 0#32
  let v1030 : BitVec 1 := Scalar.cmpi .ne v1029 c0_i32_484
  let v1034 : BitVec 1 := Scalar.andi v1033 v1030
  let v1035 : BitVec 32 := Scalar.addi v1029 v1028
  let v1036 : BitVec 32 := Scalar.select v1034 v1035 v1029
  let c1_i32_496 : BitVec 32 := 1#32
  let v1048 : BitVec 32 := Scalar.muli v1036 c1_i32_496
  let v1049 : BitVec 32 := Scalar.addi c0_i32_497 v1048
  v1049.toNat
def k0_dev32 (d0 : Dev nD) : Nat :=
  let c0_i32_510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_501 : BitVec 32 := 9#32
  let v1057 : BitVec 32 := Scalar.addi v2 c9_i32_501
  let c16_i32_502 : BitVec 32 := 16#32
  let c0_i32_503 : BitVec 32 := 0#32
  let v1058 : BitVec 1 := Scalar.cmpi .eq c16_i32_502 c0_i32_503
  let c1_i32_504 : BitVec 32 := 1#32
  let v1059 : BitVec 32 := Scalar.select v1058 c1_i32_504 c16_i32_502
  let v1060 : BitVec 32 := Scalar.remsi v1057 v1059
  let c0_i32_506 : BitVec 32 := 0#32
  let v1062 : BitVec 1 := Scalar.cmpi .slt v1060 c0_i32_506
  let c0_i32_507 : BitVec 32 := 0#32
  let v1063 : BitVec 1 := Scalar.cmpi .slt v1059 c0_i32_507
  let v1064 : BitVec 1 := Scalar.xori v1062 v1063
  let c0_i32_505 : BitVec 32 := 0#32
  let v1061 : BitVec 1 := Scalar.cmpi .ne v1060 c0_i32_505
  let v1065 : BitVec 1 := Scalar.andi v1064 v1061
  let v1066 : BitVec 32 := Scalar.addi v1060 v1059
  let v1067 : BitVec 32 := Scalar.select v1065 v1066 v1060
  let c1_i32_509 : BitVec 32 := 1#32
  let v1068 : BitVec 32 := Scalar.muli v1067 c1_i32_509
  let v1069 : BitVec 32 := Scalar.addi c0_i32_510 v1068
  v1069.toNat
def k0_dev33 (d0 : Dev nD) : Nat :=
  let c0_i32_518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_501 : BitVec 32 := 9#32
  let v1057 : BitVec 32 := Scalar.addi v2 c9_i32_501
  let c16_i32_502 : BitVec 32 := 16#32
  let c0_i32_503 : BitVec 32 := 0#32
  let v1058 : BitVec 1 := Scalar.cmpi .eq c16_i32_502 c0_i32_503
  let c1_i32_504 : BitVec 32 := 1#32
  let v1059 : BitVec 32 := Scalar.select v1058 c1_i32_504 c16_i32_502
  let v1060 : BitVec 32 := Scalar.remsi v1057 v1059
  let c0_i32_506 : BitVec 32 := 0#32
  let v1062 : BitVec 1 := Scalar.cmpi .slt v1060 c0_i32_506
  let c0_i32_507 : BitVec 32 := 0#32
  let v1063 : BitVec 1 := Scalar.cmpi .slt v1059 c0_i32_507
  let v1064 : BitVec 1 := Scalar.xori v1062 v1063
  let c0_i32_505 : BitVec 32 := 0#32
  let v1061 : BitVec 1 := Scalar.cmpi .ne v1060 c0_i32_505
  let v1065 : BitVec 1 := Scalar.andi v1064 v1061
  let v1066 : BitVec 32 := Scalar.addi v1060 v1059
  let v1067 : BitVec 32 := Scalar.select v1065 v1066 v1060
  let c1_i32_517 : BitVec 32 := 1#32
  let v1079 : BitVec 32 := Scalar.muli v1067 c1_i32_517
  let v1080 : BitVec 32 := Scalar.addi c0_i32_518 v1079
  v1080.toNat
def k0_dev34 (d0 : Dev nD) : Nat :=
  let c0_i32_531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_522 : BitVec 32 := 10#32
  let v1088 : BitVec 32 := Scalar.addi v2 c10_i32_522
  let c16_i32_523 : BitVec 32 := 16#32
  let c0_i32_524 : BitVec 32 := 0#32
  let v1089 : BitVec 1 := Scalar.cmpi .eq c16_i32_523 c0_i32_524
  let c1_i32_525 : BitVec 32 := 1#32
  let v1090 : BitVec 32 := Scalar.select v1089 c1_i32_525 c16_i32_523
  let v1091 : BitVec 32 := Scalar.remsi v1088 v1090
  let c0_i32_527 : BitVec 32 := 0#32
  let v1093 : BitVec 1 := Scalar.cmpi .slt v1091 c0_i32_527
  let c0_i32_528 : BitVec 32 := 0#32
  let v1094 : BitVec 1 := Scalar.cmpi .slt v1090 c0_i32_528
  let v1095 : BitVec 1 := Scalar.xori v1093 v1094
  let c0_i32_526 : BitVec 32 := 0#32
  let v1092 : BitVec 1 := Scalar.cmpi .ne v1091 c0_i32_526
  let v1096 : BitVec 1 := Scalar.andi v1095 v1092
  let v1097 : BitVec 32 := Scalar.addi v1091 v1090
  let v1098 : BitVec 32 := Scalar.select v1096 v1097 v1091
  let c1_i32_530 : BitVec 32 := 1#32
  let v1099 : BitVec 32 := Scalar.muli v1098 c1_i32_530
  let v1100 : BitVec 32 := Scalar.addi c0_i32_531 v1099
  v1100.toNat
def k0_dev35 (d0 : Dev nD) : Nat :=
  let c0_i32_539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_522 : BitVec 32 := 10#32
  let v1088 : BitVec 32 := Scalar.addi v2 c10_i32_522
  let c16_i32_523 : BitVec 32 := 16#32
  let c0_i32_524 : BitVec 32 := 0#32
  let v1089 : BitVec 1 := Scalar.cmpi .eq c16_i32_523 c0_i32_524
  let c1_i32_525 : BitVec 32 := 1#32
  let v1090 : BitVec 32 := Scalar.select v1089 c1_i32_525 c16_i32_523
  let v1091 : BitVec 32 := Scalar.remsi v1088 v1090
  let c0_i32_527 : BitVec 32 := 0#32
  let v1093 : BitVec 1 := Scalar.cmpi .slt v1091 c0_i32_527
  let c0_i32_528 : BitVec 32 := 0#32
  let v1094 : BitVec 1 := Scalar.cmpi .slt v1090 c0_i32_528
  let v1095 : BitVec 1 := Scalar.xori v1093 v1094
  let c0_i32_526 : BitVec 32 := 0#32
  let v1092 : BitVec 1 := Scalar.cmpi .ne v1091 c0_i32_526
  let v1096 : BitVec 1 := Scalar.andi v1095 v1092
  let v1097 : BitVec 32 := Scalar.addi v1091 v1090
  let v1098 : BitVec 32 := Scalar.select v1096 v1097 v1091
  let c1_i32_538 : BitVec 32 := 1#32
  let v1110 : BitVec 32 := Scalar.muli v1098 c1_i32_538
  let v1111 : BitVec 32 := Scalar.addi c0_i32_539 v1110
  v1111.toNat
def k0_dev36 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_543 : BitVec 32 := 11#32
  let v1119 : BitVec 32 := Scalar.addi v2 c11_i32_543
  let c16_i32_544 : BitVec 32 := 16#32
  let c0_i32_545 : BitVec 32 := 0#32
  let v1120 : BitVec 1 := Scalar.cmpi .eq c16_i32_544 c0_i32_545
  let c1_i32_546 : BitVec 32 := 1#32
  let v1121 : BitVec 32 := Scalar.select v1120 c1_i32_546 c16_i32_544
  let v1122 : BitVec 32 := Scalar.remsi v1119 v1121
  let c0_i32_548 : BitVec 32 := 0#32
  let v1124 : BitVec 1 := Scalar.cmpi .slt v1122 c0_i32_548
  let c0_i32_549 : BitVec 32 := 0#32
  let v1125 : BitVec 1 := Scalar.cmpi .slt v1121 c0_i32_549
  let v1126 : BitVec 1 := Scalar.xori v1124 v1125
  let c0_i32_547 : BitVec 32 := 0#32
  let v1123 : BitVec 1 := Scalar.cmpi .ne v1122 c0_i32_547
  let v1127 : BitVec 1 := Scalar.andi v1126 v1123
  let v1128 : BitVec 32 := Scalar.addi v1122 v1121
  let v1129 : BitVec 32 := Scalar.select v1127 v1128 v1122
  let c1_i32_551 : BitVec 32 := 1#32
  let v1130 : BitVec 32 := Scalar.muli v1129 c1_i32_551
  let v1131 : BitVec 32 := Scalar.addi c0_i32_552 v1130
  v1131.toNat
def k0_dev37 (d0 : Dev nD) : Nat :=
  let c0_i32_560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_543 : BitVec 32 := 11#32
  let v1119 : BitVec 32 := Scalar.addi v2 c11_i32_543
  let c16_i32_544 : BitVec 32 := 16#32
  let c0_i32_545 : BitVec 32 := 0#32
  let v1120 : BitVec 1 := Scalar.cmpi .eq c16_i32_544 c0_i32_545
  let c1_i32_546 : BitVec 32 := 1#32
  let v1121 : BitVec 32 := Scalar.select v1120 c1_i32_546 c16_i32_544
  let v1122 : BitVec 32 := Scalar.remsi v1119 v1121
  let c0_i32_548 : BitVec 32 := 0#32
  let v1124 : BitVec 1 := Scalar.cmpi .slt v1122 c0_i32_548
  let c0_i32_549 : BitVec 32 := 0#32
  let v1125 : BitVec 1 := Scalar.cmpi .slt v1121 c0_i32_549
  let v1126 : BitVec 1 := Scalar.xori v1124 v1125
  let c0_i32_547 : BitVec 32 := 0#32
  let v1123 : BitVec 1 := Scalar.cmpi .ne v1122 c0_i32_547
  let v1127 : BitVec 1 := Scalar.andi v1126 v1123
  let v1128 : BitVec 32 := Scalar.addi v1122 v1121
  let v1129 : BitVec 32 := Scalar.select v1127 v1128 v1122
  let c1_i32_559 : BitVec 32 := 1#32
  let v1141 : BitVec 32 := Scalar.muli v1129 c1_i32_559
  let v1142 : BitVec 32 := Scalar.addi c0_i32_560 v1141
  v1142.toNat
def k0_dev38 (d0 : Dev nD) : Nat :=
  let c0_i32_573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_564 : BitVec 32 := 12#32
  let v1150 : BitVec 32 := Scalar.addi v2 c12_i32_564
  let c16_i32_565 : BitVec 32 := 16#32
  let c0_i32_566 : BitVec 32 := 0#32
  let v1151 : BitVec 1 := Scalar.cmpi .eq c16_i32_565 c0_i32_566
  let c1_i32_567 : BitVec 32 := 1#32
  let v1152 : BitVec 32 := Scalar.select v1151 c1_i32_567 c16_i32_565
  let v1153 : BitVec 32 := Scalar.remsi v1150 v1152
  let c0_i32_569 : BitVec 32 := 0#32
  let v1155 : BitVec 1 := Scalar.cmpi .slt v1153 c0_i32_569
  let c0_i32_570 : BitVec 32 := 0#32
  let v1156 : BitVec 1 := Scalar.cmpi .slt v1152 c0_i32_570
  let v1157 : BitVec 1 := Scalar.xori v1155 v1156
  let c0_i32_568 : BitVec 32 := 0#32
  let v1154 : BitVec 1 := Scalar.cmpi .ne v1153 c0_i32_568
  let v1158 : BitVec 1 := Scalar.andi v1157 v1154
  let v1159 : BitVec 32 := Scalar.addi v1153 v1152
  let v1160 : BitVec 32 := Scalar.select v1158 v1159 v1153
  let c1_i32_572 : BitVec 32 := 1#32
  let v1161 : BitVec 32 := Scalar.muli v1160 c1_i32_572
  let v1162 : BitVec 32 := Scalar.addi c0_i32_573 v1161
  v1162.toNat
def k0_dev39 (d0 : Dev nD) : Nat :=
  let c0_i32_581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_564 : BitVec 32 := 12#32
  let v1150 : BitVec 32 := Scalar.addi v2 c12_i32_564
  let c16_i32_565 : BitVec 32 := 16#32
  let c0_i32_566 : BitVec 32 := 0#32
  let v1151 : BitVec 1 := Scalar.cmpi .eq c16_i32_565 c0_i32_566
  let c1_i32_567 : BitVec 32 := 1#32
  let v1152 : BitVec 32 := Scalar.select v1151 c1_i32_567 c16_i32_565
  let v1153 : BitVec 32 := Scalar.remsi v1150 v1152
  let c0_i32_569 : BitVec 32 := 0#32
  let v1155 : BitVec 1 := Scalar.cmpi .slt v1153 c0_i32_569
  let c0_i32_570 : BitVec 32 := 0#32
  let v1156 : BitVec 1 := Scalar.cmpi .slt v1152 c0_i32_570
  let v1157 : BitVec 1 := Scalar.xori v1155 v1156
  let c0_i32_568 : BitVec 32 := 0#32
  let v1154 : BitVec 1 := Scalar.cmpi .ne v1153 c0_i32_568
  let v1158 : BitVec 1 := Scalar.andi v1157 v1154
  let v1159 : BitVec 32 := Scalar.addi v1153 v1152
  let v1160 : BitVec 32 := Scalar.select v1158 v1159 v1153
  let c1_i32_580 : BitVec 32 := 1#32
  let v1172 : BitVec 32 := Scalar.muli v1160 c1_i32_580
  let v1173 : BitVec 32 := Scalar.addi c0_i32_581 v1172
  v1173.toNat
def k0_dev40 (d0 : Dev nD) : Nat :=
  let c0_i32_594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_585 : BitVec 32 := 13#32
  let v1181 : BitVec 32 := Scalar.addi v2 c13_i32_585
  let c16_i32_586 : BitVec 32 := 16#32
  let c0_i32_587 : BitVec 32 := 0#32
  let v1182 : BitVec 1 := Scalar.cmpi .eq c16_i32_586 c0_i32_587
  let c1_i32_588 : BitVec 32 := 1#32
  let v1183 : BitVec 32 := Scalar.select v1182 c1_i32_588 c16_i32_586
  let v1184 : BitVec 32 := Scalar.remsi v1181 v1183
  let c0_i32_590 : BitVec 32 := 0#32
  let v1186 : BitVec 1 := Scalar.cmpi .slt v1184 c0_i32_590
  let c0_i32_591 : BitVec 32 := 0#32
  let v1187 : BitVec 1 := Scalar.cmpi .slt v1183 c0_i32_591
  let v1188 : BitVec 1 := Scalar.xori v1186 v1187
  let c0_i32_589 : BitVec 32 := 0#32
  let v1185 : BitVec 1 := Scalar.cmpi .ne v1184 c0_i32_589
  let v1189 : BitVec 1 := Scalar.andi v1188 v1185
  let v1190 : BitVec 32 := Scalar.addi v1184 v1183
  let v1191 : BitVec 32 := Scalar.select v1189 v1190 v1184
  let c1_i32_593 : BitVec 32 := 1#32
  let v1192 : BitVec 32 := Scalar.muli v1191 c1_i32_593
  let v1193 : BitVec 32 := Scalar.addi c0_i32_594 v1192
  v1193.toNat
def k0_dev41 (d0 : Dev nD) : Nat :=
  let c0_i32_602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_585 : BitVec 32 := 13#32
  let v1181 : BitVec 32 := Scalar.addi v2 c13_i32_585
  let c16_i32_586 : BitVec 32 := 16#32
  let c0_i32_587 : BitVec 32 := 0#32
  let v1182 : BitVec 1 := Scalar.cmpi .eq c16_i32_586 c0_i32_587
  let c1_i32_588 : BitVec 32 := 1#32
  let v1183 : BitVec 32 := Scalar.select v1182 c1_i32_588 c16_i32_586
  let v1184 : BitVec 32 := Scalar.remsi v1181 v1183
  let c0_i32_590 : BitVec 32 := 0#32
  let v1186 : BitVec 1 := Scalar.cmpi .slt v1184 c0_i32_590
  let c0_i32_591 : BitVec 32 := 0#32
  let v1187 : BitVec 1 := Scalar.cmpi .slt v1183 c0_i32_591
  let v1188 : BitVec 1 := Scalar.xori v1186 v1187
  let c0_i32_589 : BitVec 32 := 0#32
  let v1185 : BitVec 1 := Scalar.cmpi .ne v1184 c0_i32_589
  let v1189 : BitVec 1 := Scalar.andi v1188 v1185
  let v1190 : BitVec 32 := Scalar.addi v1184 v1183
  let v1191 : BitVec 32 := Scalar.select v1189 v1190 v1184
  let c1_i32_601 : BitVec 32 := 1#32
  let v1203 : BitVec 32 := Scalar.muli v1191 c1_i32_601
  let v1204 : BitVec 32 := Scalar.addi c0_i32_602 v1203
  v1204.toNat
def k0_dev42 (d0 : Dev nD) : Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_606 : BitVec 32 := 14#32
  let v1212 : BitVec 32 := Scalar.addi v2 c14_i32_606
  let c16_i32_607 : BitVec 32 := 16#32
  let c0_i32_608 : BitVec 32 := 0#32
  let v1213 : BitVec 1 := Scalar.cmpi .eq c16_i32_607 c0_i32_608
  let c1_i32_609 : BitVec 32 := 1#32
  let v1214 : BitVec 32 := Scalar.select v1213 c1_i32_609 c16_i32_607
  let v1215 : BitVec 32 := Scalar.remsi v1212 v1214
  let c0_i32_611 : BitVec 32 := 0#32
  let v1217 : BitVec 1 := Scalar.cmpi .slt v1215 c0_i32_611
  let c0_i32_612 : BitVec 32 := 0#32
  let v1218 : BitVec 1 := Scalar.cmpi .slt v1214 c0_i32_612
  let v1219 : BitVec 1 := Scalar.xori v1217 v1218
  let c0_i32_610 : BitVec 32 := 0#32
  let v1216 : BitVec 1 := Scalar.cmpi .ne v1215 c0_i32_610
  let v1220 : BitVec 1 := Scalar.andi v1219 v1216
  let v1221 : BitVec 32 := Scalar.addi v1215 v1214
  let v1222 : BitVec 32 := Scalar.select v1220 v1221 v1215
  let c1_i32_614 : BitVec 32 := 1#32
  let v1223 : BitVec 32 := Scalar.muli v1222 c1_i32_614
  let v1224 : BitVec 32 := Scalar.addi c0_i32_615 v1223
  v1224.toNat
def k0_dev43 (d0 : Dev nD) : Nat :=
  let c0_i32_623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_606 : BitVec 32 := 14#32
  let v1212 : BitVec 32 := Scalar.addi v2 c14_i32_606
  let c16_i32_607 : BitVec 32 := 16#32
  let c0_i32_608 : BitVec 32 := 0#32
  let v1213 : BitVec 1 := Scalar.cmpi .eq c16_i32_607 c0_i32_608
  let c1_i32_609 : BitVec 32 := 1#32
  let v1214 : BitVec 32 := Scalar.select v1213 c1_i32_609 c16_i32_607
  let v1215 : BitVec 32 := Scalar.remsi v1212 v1214
  let c0_i32_611 : BitVec 32 := 0#32
  let v1217 : BitVec 1 := Scalar.cmpi .slt v1215 c0_i32_611
  let c0_i32_612 : BitVec 32 := 0#32
  let v1218 : BitVec 1 := Scalar.cmpi .slt v1214 c0_i32_612
  let v1219 : BitVec 1 := Scalar.xori v1217 v1218
  let c0_i32_610 : BitVec 32 := 0#32
  let v1216 : BitVec 1 := Scalar.cmpi .ne v1215 c0_i32_610
  let v1220 : BitVec 1 := Scalar.andi v1219 v1216
  let v1221 : BitVec 32 := Scalar.addi v1215 v1214
  let v1222 : BitVec 32 := Scalar.select v1220 v1221 v1215
  let c1_i32_622 : BitVec 32 := 1#32
  let v1234 : BitVec 32 := Scalar.muli v1222 c1_i32_622
  let v1235 : BitVec 32 := Scalar.addi c0_i32_623 v1234
  v1235.toNat
def k0_dev44 (d0 : Dev nD) : Nat :=
  let c0_i32_636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_627 : BitVec 32 := 15#32
  let v1243 : BitVec 32 := Scalar.addi v2 c15_i32_627
  let c16_i32_628 : BitVec 32 := 16#32
  let c0_i32_629 : BitVec 32 := 0#32
  let v1244 : BitVec 1 := Scalar.cmpi .eq c16_i32_628 c0_i32_629
  let c1_i32_630 : BitVec 32 := 1#32
  let v1245 : BitVec 32 := Scalar.select v1244 c1_i32_630 c16_i32_628
  let v1246 : BitVec 32 := Scalar.remsi v1243 v1245
  let c0_i32_632 : BitVec 32 := 0#32
  let v1248 : BitVec 1 := Scalar.cmpi .slt v1246 c0_i32_632
  let c0_i32_633 : BitVec 32 := 0#32
  let v1249 : BitVec 1 := Scalar.cmpi .slt v1245 c0_i32_633
  let v1250 : BitVec 1 := Scalar.xori v1248 v1249
  let c0_i32_631 : BitVec 32 := 0#32
  let v1247 : BitVec 1 := Scalar.cmpi .ne v1246 c0_i32_631
  let v1251 : BitVec 1 := Scalar.andi v1250 v1247
  let v1252 : BitVec 32 := Scalar.addi v1246 v1245
  let v1253 : BitVec 32 := Scalar.select v1251 v1252 v1246
  let c1_i32_635 : BitVec 32 := 1#32
  let v1254 : BitVec 32 := Scalar.muli v1253 c1_i32_635
  let v1255 : BitVec 32 := Scalar.addi c0_i32_636 v1254
  v1255.toNat
def k0_dev45 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_627 : BitVec 32 := 15#32
  let v1243 : BitVec 32 := Scalar.addi v2 c15_i32_627
  let c16_i32_628 : BitVec 32 := 16#32
  let c0_i32_629 : BitVec 32 := 0#32
  let v1244 : BitVec 1 := Scalar.cmpi .eq c16_i32_628 c0_i32_629
  let c1_i32_630 : BitVec 32 := 1#32
  let v1245 : BitVec 32 := Scalar.select v1244 c1_i32_630 c16_i32_628
  let v1246 : BitVec 32 := Scalar.remsi v1243 v1245
  let c0_i32_632 : BitVec 32 := 0#32
  let v1248 : BitVec 1 := Scalar.cmpi .slt v1246 c0_i32_632
  let c0_i32_633 : BitVec 32 := 0#32
  let v1249 : BitVec 1 := Scalar.cmpi .slt v1245 c0_i32_633
  let v1250 : BitVec 1 := Scalar.xori v1248 v1249
  let c0_i32_631 : BitVec 32 := 0#32
  let v1247 : BitVec 1 := Scalar.cmpi .ne v1246 c0_i32_631
  let v1251 : BitVec 1 := Scalar.andi v1250 v1247
  let v1252 : BitVec 32 := Scalar.addi v1246 v1245
  let v1253 : BitVec 32 := Scalar.select v1251 v1252 v1246
  let c1_i32_643 : BitVec 32 := 1#32
  let v1265 : BitVec 32 := Scalar.muli v1253 c1_i32_643
  let v1266 : BitVec 32 := Scalar.addi c0_i32_644 v1265
  v1266.toNat
def k0_off9 (d0 : Dev nD) (c1_i32_648 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1274 : BitVec 32 := Scalar.subi v2 c1_i32_648
  let c16_i32_649 : BitVec 32 := 16#32
  let c0_i32_650 : BitVec 32 := 0#32
  let v1275 : BitVec 1 := Scalar.cmpi .eq c16_i32_649 c0_i32_650
  let c1_i32_651 : BitVec 32 := 1#32
  let v1276 : BitVec 32 := Scalar.select v1275 c1_i32_651 c16_i32_649
  let v1277 : BitVec 32 := Scalar.remsi v1274 v1276
  let c0_i32_653 : BitVec 32 := 0#32
  let v1279 : BitVec 1 := Scalar.cmpi .slt v1277 c0_i32_653
  let c0_i32_654 : BitVec 32 := 0#32
  let v1280 : BitVec 1 := Scalar.cmpi .slt v1276 c0_i32_654
  let v1281 : BitVec 1 := Scalar.xori v1279 v1280
  let c0_i32_652 : BitVec 32 := 0#32
  let v1278 : BitVec 1 := Scalar.cmpi .ne v1277 c0_i32_652
  let v1282 : BitVec 1 := Scalar.andi v1281 v1278
  let v1283 : BitVec 32 := Scalar.addi v1277 v1276
  let v1284 : BitVec 32 := Scalar.select v1282 v1283 v1277
  ![v1284.toNat]
def k0_off10 (d0 : Dev nD) (c1_i32_648 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1274 : BitVec 32 := Scalar.subi v2 c1_i32_648
  let c16_i32_649 : BitVec 32 := 16#32
  let c0_i32_650 : BitVec 32 := 0#32
  let v1275 : BitVec 1 := Scalar.cmpi .eq c16_i32_649 c0_i32_650
  let c1_i32_651 : BitVec 32 := 1#32
  let v1276 : BitVec 32 := Scalar.select v1275 c1_i32_651 c16_i32_649
  let v1277 : BitVec 32 := Scalar.remsi v1274 v1276
  let c0_i32_653 : BitVec 32 := 0#32
  let v1279 : BitVec 1 := Scalar.cmpi .slt v1277 c0_i32_653
  let c0_i32_654 : BitVec 32 := 0#32
  let v1280 : BitVec 1 := Scalar.cmpi .slt v1276 c0_i32_654
  let v1281 : BitVec 1 := Scalar.xori v1279 v1280
  let c0_i32_652 : BitVec 32 := 0#32
  let v1278 : BitVec 1 := Scalar.cmpi .ne v1277 c0_i32_652
  let v1282 : BitVec 1 := Scalar.andi v1281 v1278
  let v1283 : BitVec 32 := Scalar.addi v1277 v1276
  let v1284 : BitVec 32 := Scalar.select v1282 v1283 v1277
  let c0_i32_658 : BitVec 32 := 0#32
  let c0_i32_659 : BitVec 32 := 0#32
  ![v1284.toNat, 0, 0]
def k0_off11 (d0 : Dev nD) (c1_i32_648 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1274 : BitVec 32 := Scalar.subi v2 c1_i32_648
  let c16_i32_649 : BitVec 32 := 16#32
  let c0_i32_650 : BitVec 32 := 0#32
  let v1275 : BitVec 1 := Scalar.cmpi .eq c16_i32_649 c0_i32_650
  let c1_i32_651 : BitVec 32 := 1#32
  let v1276 : BitVec 32 := Scalar.select v1275 c1_i32_651 c16_i32_649
  let v1277 : BitVec 32 := Scalar.remsi v1274 v1276
  let c0_i32_653 : BitVec 32 := 0#32
  let v1279 : BitVec 1 := Scalar.cmpi .slt v1277 c0_i32_653
  let c0_i32_654 : BitVec 32 := 0#32
  let v1280 : BitVec 1 := Scalar.cmpi .slt v1276 c0_i32_654
  let v1281 : BitVec 1 := Scalar.xori v1279 v1280
  let c0_i32_652 : BitVec 32 := 0#32
  let v1278 : BitVec 1 := Scalar.cmpi .ne v1277 c0_i32_652
  let v1282 : BitVec 1 := Scalar.andi v1281 v1278
  let v1283 : BitVec 32 := Scalar.addi v1277 v1276
  let v1284 : BitVec 32 := Scalar.select v1282 v1283 v1277
  let c0_i32_666 : BitVec 32 := 0#32
  let c0_i32_667 : BitVec 32 := 0#32
  ![v1284.toNat, 0, 0]
def k0_off12 (d0 : Dev nD) (c1_i32_648 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1274 : BitVec 32 := Scalar.subi v2 c1_i32_648
  let c16_i32_649 : BitVec 32 := 16#32
  let c0_i32_650 : BitVec 32 := 0#32
  let v1275 : BitVec 1 := Scalar.cmpi .eq c16_i32_649 c0_i32_650
  let c1_i32_651 : BitVec 32 := 1#32
  let v1276 : BitVec 32 := Scalar.select v1275 c1_i32_651 c16_i32_649
  let v1277 : BitVec 32 := Scalar.remsi v1274 v1276
  let c0_i32_653 : BitVec 32 := 0#32
  let v1279 : BitVec 1 := Scalar.cmpi .slt v1277 c0_i32_653
  let c0_i32_654 : BitVec 32 := 0#32
  let v1280 : BitVec 1 := Scalar.cmpi .slt v1276 c0_i32_654
  let v1281 : BitVec 1 := Scalar.xori v1279 v1280
  let c0_i32_652 : BitVec 32 := 0#32
  let v1278 : BitVec 1 := Scalar.cmpi .ne v1277 c0_i32_652
  let v1282 : BitVec 1 := Scalar.andi v1281 v1278
  let v1283 : BitVec 32 := Scalar.addi v1277 v1276
  let v1284 : BitVec 32 := Scalar.select v1282 v1283 v1277
  let c64_i32_662 : BitVec 32 := 64#32
  let v1293 : BitVec 32 := Scalar.muli v1284 c64_i32_662
  let c0_i32_668 : BitVec 32 := 0#32
  ![v1293.toNat, 0]
def k0_off13 (d0 : Dev nD) : Fin 3 → Nat :=
  let c0_1063 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_1062 : BitVec 32 := 64#32
  let v1843 : BitVec 32 := Scalar.muli v2 c64_i32_1062
  let v1844 : Index := Scalar.indexCast v1843
  let c0_1064 : Index := 0#32
  ![0, v1844.toNat, 0]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_1065 : BitVec 32 := 64#32
  let v1849 : BitVec 32 := Scalar.muli v2 c64_i32_1065
  let v1850 : Index := Scalar.indexCast v1849
  let c0_1066 : Index := 0#32
  ![v1850.toNat, 0]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_1075 : BitVec 32 := 64#32
  let v1866 : BitVec 32 := Scalar.muli v2 c64_i32_1075
  let c0_i32_1079 : BitVec 32 := 0#32
  ![v1866.toNat, 0]
def k0_dev46 (d0 : Dev nD) : Nat :=
  let c0_i32_1078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1067 : BitVec 32 := 1#32
  let v1854 : BitVec 32 := Scalar.addi v2 c1_i32_1067
  let c16_i32_1068 : BitVec 32 := 16#32
  let c0_i32_1069 : BitVec 32 := 0#32
  let v1855 : BitVec 1 := Scalar.cmpi .eq c16_i32_1068 c0_i32_1069
  let c1_i32_1070 : BitVec 32 := 1#32
  let v1856 : BitVec 32 := Scalar.select v1855 c1_i32_1070 c16_i32_1068
  let v1857 : BitVec 32 := Scalar.remsi v1854 v1856
  let c0_i32_1072 : BitVec 32 := 0#32
  let v1859 : BitVec 1 := Scalar.cmpi .slt v1857 c0_i32_1072
  let c0_i32_1073 : BitVec 32 := 0#32
  let v1860 : BitVec 1 := Scalar.cmpi .slt v1856 c0_i32_1073
  let v1861 : BitVec 1 := Scalar.xori v1859 v1860
  let c0_i32_1071 : BitVec 32 := 0#32
  let v1858 : BitVec 1 := Scalar.cmpi .ne v1857 c0_i32_1071
  let v1862 : BitVec 1 := Scalar.andi v1861 v1858
  let v1863 : BitVec 32 := Scalar.addi v1857 v1856
  let v1864 : BitVec 32 := Scalar.select v1862 v1863 v1857
  let c1_i32_1077 : BitVec 32 := 1#32
  let v1867 : BitVec 32 := Scalar.muli v1864 c1_i32_1077
  let v1868 : BitVec 32 := Scalar.addi c0_i32_1078 v1867
  v1868.toNat
def k0_dev47 (d0 : Dev nD) : Nat :=
  let c0_i32_1092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1081 : BitVec 32 := 2#32
  let v1875 : BitVec 32 := Scalar.addi v2 c2_i32_1081
  let c16_i32_1082 : BitVec 32 := 16#32
  let c0_i32_1083 : BitVec 32 := 0#32
  let v1876 : BitVec 1 := Scalar.cmpi .eq c16_i32_1082 c0_i32_1083
  let c1_i32_1084 : BitVec 32 := 1#32
  let v1877 : BitVec 32 := Scalar.select v1876 c1_i32_1084 c16_i32_1082
  let v1878 : BitVec 32 := Scalar.remsi v1875 v1877
  let c0_i32_1086 : BitVec 32 := 0#32
  let v1880 : BitVec 1 := Scalar.cmpi .slt v1878 c0_i32_1086
  let c0_i32_1087 : BitVec 32 := 0#32
  let v1881 : BitVec 1 := Scalar.cmpi .slt v1877 c0_i32_1087
  let v1882 : BitVec 1 := Scalar.xori v1880 v1881
  let c0_i32_1085 : BitVec 32 := 0#32
  let v1879 : BitVec 1 := Scalar.cmpi .ne v1878 c0_i32_1085
  let v1883 : BitVec 1 := Scalar.andi v1882 v1879
  let v1884 : BitVec 32 := Scalar.addi v1878 v1877
  let v1885 : BitVec 32 := Scalar.select v1883 v1884 v1878
  let c1_i32_1091 : BitVec 32 := 1#32
  let v1888 : BitVec 32 := Scalar.muli v1885 c1_i32_1091
  let v1889 : BitVec 32 := Scalar.addi c0_i32_1092 v1888
  v1889.toNat
def k0_dev48 (d0 : Dev nD) : Nat :=
  let c0_i32_1106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1095 : BitVec 32 := 3#32
  let v1896 : BitVec 32 := Scalar.addi v2 c3_i32_1095
  let c16_i32_1096 : BitVec 32 := 16#32
  let c0_i32_1097 : BitVec 32 := 0#32
  let v1897 : BitVec 1 := Scalar.cmpi .eq c16_i32_1096 c0_i32_1097
  let c1_i32_1098 : BitVec 32 := 1#32
  let v1898 : BitVec 32 := Scalar.select v1897 c1_i32_1098 c16_i32_1096
  let v1899 : BitVec 32 := Scalar.remsi v1896 v1898
  let c0_i32_1100 : BitVec 32 := 0#32
  let v1901 : BitVec 1 := Scalar.cmpi .slt v1899 c0_i32_1100
  let c0_i32_1101 : BitVec 32 := 0#32
  let v1902 : BitVec 1 := Scalar.cmpi .slt v1898 c0_i32_1101
  let v1903 : BitVec 1 := Scalar.xori v1901 v1902
  let c0_i32_1099 : BitVec 32 := 0#32
  let v1900 : BitVec 1 := Scalar.cmpi .ne v1899 c0_i32_1099
  let v1904 : BitVec 1 := Scalar.andi v1903 v1900
  let v1905 : BitVec 32 := Scalar.addi v1899 v1898
  let v1906 : BitVec 32 := Scalar.select v1904 v1905 v1899
  let c1_i32_1105 : BitVec 32 := 1#32
  let v1909 : BitVec 32 := Scalar.muli v1906 c1_i32_1105
  let v1910 : BitVec 32 := Scalar.addi c0_i32_1106 v1909
  v1910.toNat
def k0_dev49 (d0 : Dev nD) : Nat :=
  let c0_i32_1120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1109 : BitVec 32 := 4#32
  let v1917 : BitVec 32 := Scalar.addi v2 c4_i32_1109
  let c16_i32_1110 : BitVec 32 := 16#32
  let c0_i32_1111 : BitVec 32 := 0#32
  let v1918 : BitVec 1 := Scalar.cmpi .eq c16_i32_1110 c0_i32_1111
  let c1_i32_1112 : BitVec 32 := 1#32
  let v1919 : BitVec 32 := Scalar.select v1918 c1_i32_1112 c16_i32_1110
  let v1920 : BitVec 32 := Scalar.remsi v1917 v1919
  let c0_i32_1114 : BitVec 32 := 0#32
  let v1922 : BitVec 1 := Scalar.cmpi .slt v1920 c0_i32_1114
  let c0_i32_1115 : BitVec 32 := 0#32
  let v1923 : BitVec 1 := Scalar.cmpi .slt v1919 c0_i32_1115
  let v1924 : BitVec 1 := Scalar.xori v1922 v1923
  let c0_i32_1113 : BitVec 32 := 0#32
  let v1921 : BitVec 1 := Scalar.cmpi .ne v1920 c0_i32_1113
  let v1925 : BitVec 1 := Scalar.andi v1924 v1921
  let v1926 : BitVec 32 := Scalar.addi v1920 v1919
  let v1927 : BitVec 32 := Scalar.select v1925 v1926 v1920
  let c1_i32_1119 : BitVec 32 := 1#32
  let v1930 : BitVec 32 := Scalar.muli v1927 c1_i32_1119
  let v1931 : BitVec 32 := Scalar.addi c0_i32_1120 v1930
  v1931.toNat
def k0_dev50 (d0 : Dev nD) : Nat :=
  let c0_i32_1134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1123 : BitVec 32 := 5#32
  let v1938 : BitVec 32 := Scalar.addi v2 c5_i32_1123
  let c16_i32_1124 : BitVec 32 := 16#32
  let c0_i32_1125 : BitVec 32 := 0#32
  let v1939 : BitVec 1 := Scalar.cmpi .eq c16_i32_1124 c0_i32_1125
  let c1_i32_1126 : BitVec 32 := 1#32
  let v1940 : BitVec 32 := Scalar.select v1939 c1_i32_1126 c16_i32_1124
  let v1941 : BitVec 32 := Scalar.remsi v1938 v1940
  let c0_i32_1128 : BitVec 32 := 0#32
  let v1943 : BitVec 1 := Scalar.cmpi .slt v1941 c0_i32_1128
  let c0_i32_1129 : BitVec 32 := 0#32
  let v1944 : BitVec 1 := Scalar.cmpi .slt v1940 c0_i32_1129
  let v1945 : BitVec 1 := Scalar.xori v1943 v1944
  let c0_i32_1127 : BitVec 32 := 0#32
  let v1942 : BitVec 1 := Scalar.cmpi .ne v1941 c0_i32_1127
  let v1946 : BitVec 1 := Scalar.andi v1945 v1942
  let v1947 : BitVec 32 := Scalar.addi v1941 v1940
  let v1948 : BitVec 32 := Scalar.select v1946 v1947 v1941
  let c1_i32_1133 : BitVec 32 := 1#32
  let v1951 : BitVec 32 := Scalar.muli v1948 c1_i32_1133
  let v1952 : BitVec 32 := Scalar.addi c0_i32_1134 v1951
  v1952.toNat
def k0_dev51 (d0 : Dev nD) : Nat :=
  let c0_i32_1148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1137 : BitVec 32 := 6#32
  let v1959 : BitVec 32 := Scalar.addi v2 c6_i32_1137
  let c16_i32_1138 : BitVec 32 := 16#32
  let c0_i32_1139 : BitVec 32 := 0#32
  let v1960 : BitVec 1 := Scalar.cmpi .eq c16_i32_1138 c0_i32_1139
  let c1_i32_1140 : BitVec 32 := 1#32
  let v1961 : BitVec 32 := Scalar.select v1960 c1_i32_1140 c16_i32_1138
  let v1962 : BitVec 32 := Scalar.remsi v1959 v1961
  let c0_i32_1142 : BitVec 32 := 0#32
  let v1964 : BitVec 1 := Scalar.cmpi .slt v1962 c0_i32_1142
  let c0_i32_1143 : BitVec 32 := 0#32
  let v1965 : BitVec 1 := Scalar.cmpi .slt v1961 c0_i32_1143
  let v1966 : BitVec 1 := Scalar.xori v1964 v1965
  let c0_i32_1141 : BitVec 32 := 0#32
  let v1963 : BitVec 1 := Scalar.cmpi .ne v1962 c0_i32_1141
  let v1967 : BitVec 1 := Scalar.andi v1966 v1963
  let v1968 : BitVec 32 := Scalar.addi v1962 v1961
  let v1969 : BitVec 32 := Scalar.select v1967 v1968 v1962
  let c1_i32_1147 : BitVec 32 := 1#32
  let v1972 : BitVec 32 := Scalar.muli v1969 c1_i32_1147
  let v1973 : BitVec 32 := Scalar.addi c0_i32_1148 v1972
  v1973.toNat
def k0_dev52 (d0 : Dev nD) : Nat :=
  let c0_i32_1162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1151 : BitVec 32 := 7#32
  let v1980 : BitVec 32 := Scalar.addi v2 c7_i32_1151
  let c16_i32_1152 : BitVec 32 := 16#32
  let c0_i32_1153 : BitVec 32 := 0#32
  let v1981 : BitVec 1 := Scalar.cmpi .eq c16_i32_1152 c0_i32_1153
  let c1_i32_1154 : BitVec 32 := 1#32
  let v1982 : BitVec 32 := Scalar.select v1981 c1_i32_1154 c16_i32_1152
  let v1983 : BitVec 32 := Scalar.remsi v1980 v1982
  let c0_i32_1156 : BitVec 32 := 0#32
  let v1985 : BitVec 1 := Scalar.cmpi .slt v1983 c0_i32_1156
  let c0_i32_1157 : BitVec 32 := 0#32
  let v1986 : BitVec 1 := Scalar.cmpi .slt v1982 c0_i32_1157
  let v1987 : BitVec 1 := Scalar.xori v1985 v1986
  let c0_i32_1155 : BitVec 32 := 0#32
  let v1984 : BitVec 1 := Scalar.cmpi .ne v1983 c0_i32_1155
  let v1988 : BitVec 1 := Scalar.andi v1987 v1984
  let v1989 : BitVec 32 := Scalar.addi v1983 v1982
  let v1990 : BitVec 32 := Scalar.select v1988 v1989 v1983
  let c1_i32_1161 : BitVec 32 := 1#32
  let v1993 : BitVec 32 := Scalar.muli v1990 c1_i32_1161
  let v1994 : BitVec 32 := Scalar.addi c0_i32_1162 v1993
  v1994.toNat
def k0_dev53 (d0 : Dev nD) : Nat :=
  let c0_i32_1176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1165 : BitVec 32 := 8#32
  let v2001 : BitVec 32 := Scalar.addi v2 c8_i32_1165
  let c16_i32_1166 : BitVec 32 := 16#32
  let c0_i32_1167 : BitVec 32 := 0#32
  let v2002 : BitVec 1 := Scalar.cmpi .eq c16_i32_1166 c0_i32_1167
  let c1_i32_1168 : BitVec 32 := 1#32
  let v2003 : BitVec 32 := Scalar.select v2002 c1_i32_1168 c16_i32_1166
  let v2004 : BitVec 32 := Scalar.remsi v2001 v2003
  let c0_i32_1170 : BitVec 32 := 0#32
  let v2006 : BitVec 1 := Scalar.cmpi .slt v2004 c0_i32_1170
  let c0_i32_1171 : BitVec 32 := 0#32
  let v2007 : BitVec 1 := Scalar.cmpi .slt v2003 c0_i32_1171
  let v2008 : BitVec 1 := Scalar.xori v2006 v2007
  let c0_i32_1169 : BitVec 32 := 0#32
  let v2005 : BitVec 1 := Scalar.cmpi .ne v2004 c0_i32_1169
  let v2009 : BitVec 1 := Scalar.andi v2008 v2005
  let v2010 : BitVec 32 := Scalar.addi v2004 v2003
  let v2011 : BitVec 32 := Scalar.select v2009 v2010 v2004
  let c1_i32_1175 : BitVec 32 := 1#32
  let v2014 : BitVec 32 := Scalar.muli v2011 c1_i32_1175
  let v2015 : BitVec 32 := Scalar.addi c0_i32_1176 v2014
  v2015.toNat
def k0_dev54 (d0 : Dev nD) : Nat :=
  let c0_i32_1190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1179 : BitVec 32 := 9#32
  let v2022 : BitVec 32 := Scalar.addi v2 c9_i32_1179
  let c16_i32_1180 : BitVec 32 := 16#32
  let c0_i32_1181 : BitVec 32 := 0#32
  let v2023 : BitVec 1 := Scalar.cmpi .eq c16_i32_1180 c0_i32_1181
  let c1_i32_1182 : BitVec 32 := 1#32
  let v2024 : BitVec 32 := Scalar.select v2023 c1_i32_1182 c16_i32_1180
  let v2025 : BitVec 32 := Scalar.remsi v2022 v2024
  let c0_i32_1184 : BitVec 32 := 0#32
  let v2027 : BitVec 1 := Scalar.cmpi .slt v2025 c0_i32_1184
  let c0_i32_1185 : BitVec 32 := 0#32
  let v2028 : BitVec 1 := Scalar.cmpi .slt v2024 c0_i32_1185
  let v2029 : BitVec 1 := Scalar.xori v2027 v2028
  let c0_i32_1183 : BitVec 32 := 0#32
  let v2026 : BitVec 1 := Scalar.cmpi .ne v2025 c0_i32_1183
  let v2030 : BitVec 1 := Scalar.andi v2029 v2026
  let v2031 : BitVec 32 := Scalar.addi v2025 v2024
  let v2032 : BitVec 32 := Scalar.select v2030 v2031 v2025
  let c1_i32_1189 : BitVec 32 := 1#32
  let v2035 : BitVec 32 := Scalar.muli v2032 c1_i32_1189
  let v2036 : BitVec 32 := Scalar.addi c0_i32_1190 v2035
  v2036.toNat
def k0_dev55 (d0 : Dev nD) : Nat :=
  let c0_i32_1204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1193 : BitVec 32 := 10#32
  let v2043 : BitVec 32 := Scalar.addi v2 c10_i32_1193
  let c16_i32_1194 : BitVec 32 := 16#32
  let c0_i32_1195 : BitVec 32 := 0#32
  let v2044 : BitVec 1 := Scalar.cmpi .eq c16_i32_1194 c0_i32_1195
  let c1_i32_1196 : BitVec 32 := 1#32
  let v2045 : BitVec 32 := Scalar.select v2044 c1_i32_1196 c16_i32_1194
  let v2046 : BitVec 32 := Scalar.remsi v2043 v2045
  let c0_i32_1198 : BitVec 32 := 0#32
  let v2048 : BitVec 1 := Scalar.cmpi .slt v2046 c0_i32_1198
  let c0_i32_1199 : BitVec 32 := 0#32
  let v2049 : BitVec 1 := Scalar.cmpi .slt v2045 c0_i32_1199
  let v2050 : BitVec 1 := Scalar.xori v2048 v2049
  let c0_i32_1197 : BitVec 32 := 0#32
  let v2047 : BitVec 1 := Scalar.cmpi .ne v2046 c0_i32_1197
  let v2051 : BitVec 1 := Scalar.andi v2050 v2047
  let v2052 : BitVec 32 := Scalar.addi v2046 v2045
  let v2053 : BitVec 32 := Scalar.select v2051 v2052 v2046
  let c1_i32_1203 : BitVec 32 := 1#32
  let v2056 : BitVec 32 := Scalar.muli v2053 c1_i32_1203
  let v2057 : BitVec 32 := Scalar.addi c0_i32_1204 v2056
  v2057.toNat
def k0_dev56 (d0 : Dev nD) : Nat :=
  let c0_i32_1218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1207 : BitVec 32 := 11#32
  let v2064 : BitVec 32 := Scalar.addi v2 c11_i32_1207
  let c16_i32_1208 : BitVec 32 := 16#32
  let c0_i32_1209 : BitVec 32 := 0#32
  let v2065 : BitVec 1 := Scalar.cmpi .eq c16_i32_1208 c0_i32_1209
  let c1_i32_1210 : BitVec 32 := 1#32
  let v2066 : BitVec 32 := Scalar.select v2065 c1_i32_1210 c16_i32_1208
  let v2067 : BitVec 32 := Scalar.remsi v2064 v2066
  let c0_i32_1212 : BitVec 32 := 0#32
  let v2069 : BitVec 1 := Scalar.cmpi .slt v2067 c0_i32_1212
  let c0_i32_1213 : BitVec 32 := 0#32
  let v2070 : BitVec 1 := Scalar.cmpi .slt v2066 c0_i32_1213
  let v2071 : BitVec 1 := Scalar.xori v2069 v2070
  let c0_i32_1211 : BitVec 32 := 0#32
  let v2068 : BitVec 1 := Scalar.cmpi .ne v2067 c0_i32_1211
  let v2072 : BitVec 1 := Scalar.andi v2071 v2068
  let v2073 : BitVec 32 := Scalar.addi v2067 v2066
  let v2074 : BitVec 32 := Scalar.select v2072 v2073 v2067
  let c1_i32_1217 : BitVec 32 := 1#32
  let v2077 : BitVec 32 := Scalar.muli v2074 c1_i32_1217
  let v2078 : BitVec 32 := Scalar.addi c0_i32_1218 v2077
  v2078.toNat
def k0_dev57 (d0 : Dev nD) : Nat :=
  let c0_i32_1232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1221 : BitVec 32 := 12#32
  let v2085 : BitVec 32 := Scalar.addi v2 c12_i32_1221
  let c16_i32_1222 : BitVec 32 := 16#32
  let c0_i32_1223 : BitVec 32 := 0#32
  let v2086 : BitVec 1 := Scalar.cmpi .eq c16_i32_1222 c0_i32_1223
  let c1_i32_1224 : BitVec 32 := 1#32
  let v2087 : BitVec 32 := Scalar.select v2086 c1_i32_1224 c16_i32_1222
  let v2088 : BitVec 32 := Scalar.remsi v2085 v2087
  let c0_i32_1226 : BitVec 32 := 0#32
  let v2090 : BitVec 1 := Scalar.cmpi .slt v2088 c0_i32_1226
  let c0_i32_1227 : BitVec 32 := 0#32
  let v2091 : BitVec 1 := Scalar.cmpi .slt v2087 c0_i32_1227
  let v2092 : BitVec 1 := Scalar.xori v2090 v2091
  let c0_i32_1225 : BitVec 32 := 0#32
  let v2089 : BitVec 1 := Scalar.cmpi .ne v2088 c0_i32_1225
  let v2093 : BitVec 1 := Scalar.andi v2092 v2089
  let v2094 : BitVec 32 := Scalar.addi v2088 v2087
  let v2095 : BitVec 32 := Scalar.select v2093 v2094 v2088
  let c1_i32_1231 : BitVec 32 := 1#32
  let v2098 : BitVec 32 := Scalar.muli v2095 c1_i32_1231
  let v2099 : BitVec 32 := Scalar.addi c0_i32_1232 v2098
  v2099.toNat
def k0_dev58 (d0 : Dev nD) : Nat :=
  let c0_i32_1246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1235 : BitVec 32 := 13#32
  let v2106 : BitVec 32 := Scalar.addi v2 c13_i32_1235
  let c16_i32_1236 : BitVec 32 := 16#32
  let c0_i32_1237 : BitVec 32 := 0#32
  let v2107 : BitVec 1 := Scalar.cmpi .eq c16_i32_1236 c0_i32_1237
  let c1_i32_1238 : BitVec 32 := 1#32
  let v2108 : BitVec 32 := Scalar.select v2107 c1_i32_1238 c16_i32_1236
  let v2109 : BitVec 32 := Scalar.remsi v2106 v2108
  let c0_i32_1240 : BitVec 32 := 0#32
  let v2111 : BitVec 1 := Scalar.cmpi .slt v2109 c0_i32_1240
  let c0_i32_1241 : BitVec 32 := 0#32
  let v2112 : BitVec 1 := Scalar.cmpi .slt v2108 c0_i32_1241
  let v2113 : BitVec 1 := Scalar.xori v2111 v2112
  let c0_i32_1239 : BitVec 32 := 0#32
  let v2110 : BitVec 1 := Scalar.cmpi .ne v2109 c0_i32_1239
  let v2114 : BitVec 1 := Scalar.andi v2113 v2110
  let v2115 : BitVec 32 := Scalar.addi v2109 v2108
  let v2116 : BitVec 32 := Scalar.select v2114 v2115 v2109
  let c1_i32_1245 : BitVec 32 := 1#32
  let v2119 : BitVec 32 := Scalar.muli v2116 c1_i32_1245
  let v2120 : BitVec 32 := Scalar.addi c0_i32_1246 v2119
  v2120.toNat
def k0_dev59 (d0 : Dev nD) : Nat :=
  let c0_i32_1260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1249 : BitVec 32 := 14#32
  let v2127 : BitVec 32 := Scalar.addi v2 c14_i32_1249
  let c16_i32_1250 : BitVec 32 := 16#32
  let c0_i32_1251 : BitVec 32 := 0#32
  let v2128 : BitVec 1 := Scalar.cmpi .eq c16_i32_1250 c0_i32_1251
  let c1_i32_1252 : BitVec 32 := 1#32
  let v2129 : BitVec 32 := Scalar.select v2128 c1_i32_1252 c16_i32_1250
  let v2130 : BitVec 32 := Scalar.remsi v2127 v2129
  let c0_i32_1254 : BitVec 32 := 0#32
  let v2132 : BitVec 1 := Scalar.cmpi .slt v2130 c0_i32_1254
  let c0_i32_1255 : BitVec 32 := 0#32
  let v2133 : BitVec 1 := Scalar.cmpi .slt v2129 c0_i32_1255
  let v2134 : BitVec 1 := Scalar.xori v2132 v2133
  let c0_i32_1253 : BitVec 32 := 0#32
  let v2131 : BitVec 1 := Scalar.cmpi .ne v2130 c0_i32_1253
  let v2135 : BitVec 1 := Scalar.andi v2134 v2131
  let v2136 : BitVec 32 := Scalar.addi v2130 v2129
  let v2137 : BitVec 32 := Scalar.select v2135 v2136 v2130
  let c1_i32_1259 : BitVec 32 := 1#32
  let v2140 : BitVec 32 := Scalar.muli v2137 c1_i32_1259
  let v2141 : BitVec 32 := Scalar.addi c0_i32_1260 v2140
  v2141.toNat
def k0_dev60 (d0 : Dev nD) : Nat :=
  let c0_i32_1274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1263 : BitVec 32 := 15#32
  let v2148 : BitVec 32 := Scalar.addi v2 c15_i32_1263
  let c16_i32_1264 : BitVec 32 := 16#32
  let c0_i32_1265 : BitVec 32 := 0#32
  let v2149 : BitVec 1 := Scalar.cmpi .eq c16_i32_1264 c0_i32_1265
  let c1_i32_1266 : BitVec 32 := 1#32
  let v2150 : BitVec 32 := Scalar.select v2149 c1_i32_1266 c16_i32_1264
  let v2151 : BitVec 32 := Scalar.remsi v2148 v2150
  let c0_i32_1268 : BitVec 32 := 0#32
  let v2153 : BitVec 1 := Scalar.cmpi .slt v2151 c0_i32_1268
  let c0_i32_1269 : BitVec 32 := 0#32
  let v2154 : BitVec 1 := Scalar.cmpi .slt v2150 c0_i32_1269
  let v2155 : BitVec 1 := Scalar.xori v2153 v2154
  let c0_i32_1267 : BitVec 32 := 0#32
  let v2152 : BitVec 1 := Scalar.cmpi .ne v2151 c0_i32_1267
  let v2156 : BitVec 1 := Scalar.andi v2155 v2152
  let v2157 : BitVec 32 := Scalar.addi v2151 v2150
  let v2158 : BitVec 32 := Scalar.select v2156 v2157 v2151
  let c1_i32_1273 : BitVec 32 := 1#32
  let v2161 : BitVec 32 := Scalar.muli v2158 c1_i32_1273
  let v2162 : BitVec 32 := Scalar.addi c0_i32_1274 v2161
  v2162.toNat
def k0_off16 (d0 : Dev nD) (c1_i32_1442 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2334 : BitVec 32 := Scalar.subi v2 c1_i32_1442
  let c16_i32_1443 : BitVec 32 := 16#32
  let c0_i32_1444 : BitVec 32 := 0#32
  let v2335 : BitVec 1 := Scalar.cmpi .eq c16_i32_1443 c0_i32_1444
  let c1_i32_1445 : BitVec 32 := 1#32
  let v2336 : BitVec 32 := Scalar.select v2335 c1_i32_1445 c16_i32_1443
  let v2337 : BitVec 32 := Scalar.remsi v2334 v2336
  let c0_i32_1447 : BitVec 32 := 0#32
  let v2339 : BitVec 1 := Scalar.cmpi .slt v2337 c0_i32_1447
  let c0_i32_1448 : BitVec 32 := 0#32
  let v2340 : BitVec 1 := Scalar.cmpi .slt v2336 c0_i32_1448
  let v2341 : BitVec 1 := Scalar.xori v2339 v2340
  let c0_i32_1446 : BitVec 32 := 0#32
  let v2338 : BitVec 1 := Scalar.cmpi .ne v2337 c0_i32_1446
  let v2342 : BitVec 1 := Scalar.andi v2341 v2338
  let v2343 : BitVec 32 := Scalar.addi v2337 v2336
  let v2344 : BitVec 32 := Scalar.select v2342 v2343 v2337
  let c64_i32_1450 : BitVec 32 := 64#32
  let v2346 : BitVec 32 := Scalar.muli v2344 c64_i32_1450
  let c0_i32_1454 : BitVec 32 := 0#32
  ![v2346.toNat, 0]
def k0_off17 (d0 : Dev nD) (c1_i32_1442 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2334 : BitVec 32 := Scalar.subi v2 c1_i32_1442
  let c16_i32_1443 : BitVec 32 := 16#32
  let c0_i32_1444 : BitVec 32 := 0#32
  let v2335 : BitVec 1 := Scalar.cmpi .eq c16_i32_1443 c0_i32_1444
  let c1_i32_1445 : BitVec 32 := 1#32
  let v2336 : BitVec 32 := Scalar.select v2335 c1_i32_1445 c16_i32_1443
  let v2337 : BitVec 32 := Scalar.remsi v2334 v2336
  let c0_i32_1447 : BitVec 32 := 0#32
  let v2339 : BitVec 1 := Scalar.cmpi .slt v2337 c0_i32_1447
  let c0_i32_1448 : BitVec 32 := 0#32
  let v2340 : BitVec 1 := Scalar.cmpi .slt v2336 c0_i32_1448
  let v2341 : BitVec 1 := Scalar.xori v2339 v2340
  let c0_i32_1446 : BitVec 32 := 0#32
  let v2338 : BitVec 1 := Scalar.cmpi .ne v2337 c0_i32_1446
  let v2342 : BitVec 1 := Scalar.andi v2341 v2338
  let v2343 : BitVec 32 := Scalar.addi v2337 v2336
  let v2344 : BitVec 32 := Scalar.select v2342 v2343 v2337
  let c64_i32_1456 : BitVec 32 := 64#32
  let v2353 : BitVec 32 := Scalar.muli v2344 c64_i32_1456
  let v2354 : Index := Scalar.indexCast v2353
  let c0_1457 : Index := 0#32
  ![v2354.toNat, 0]
def k0_off18 (d0 : Dev nD) (c1_i32_1442 : BitVec 32) : Fin 3 → Nat :=
  let c0_1459 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2334 : BitVec 32 := Scalar.subi v2 c1_i32_1442
  let c16_i32_1443 : BitVec 32 := 16#32
  let c0_i32_1444 : BitVec 32 := 0#32
  let v2335 : BitVec 1 := Scalar.cmpi .eq c16_i32_1443 c0_i32_1444
  let c1_i32_1445 : BitVec 32 := 1#32
  let v2336 : BitVec 32 := Scalar.select v2335 c1_i32_1445 c16_i32_1443
  let v2337 : BitVec 32 := Scalar.remsi v2334 v2336
  let c0_i32_1447 : BitVec 32 := 0#32
  let v2339 : BitVec 1 := Scalar.cmpi .slt v2337 c0_i32_1447
  let c0_i32_1448 : BitVec 32 := 0#32
  let v2340 : BitVec 1 := Scalar.cmpi .slt v2336 c0_i32_1448
  let v2341 : BitVec 1 := Scalar.xori v2339 v2340
  let c0_i32_1446 : BitVec 32 := 0#32
  let v2338 : BitVec 1 := Scalar.cmpi .ne v2337 c0_i32_1446
  let v2342 : BitVec 1 := Scalar.andi v2341 v2338
  let v2343 : BitVec 32 := Scalar.addi v2337 v2336
  let v2344 : BitVec 32 := Scalar.select v2342 v2343 v2337
  let c64_i32_1458 : BitVec 32 := 64#32
  let v2357 : BitVec 32 := Scalar.muli v2344 c64_i32_1458
  let v2358 : Index := Scalar.indexCast v2357
  let c0_1460 : Index := 0#32
  ![0, v2358.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x1024 : Shape := ⟨2, ![1024, 1024]⟩
abbrev S1x16384x8x128 : Shape := ⟨4, ![1, 16384, 8, 128]⟩
abbrev S1x1024x8x128 : Shape := ⟨4, ![1, 1024, 8, 128]⟩
abbrev S1024 : Shape := ⟨1, ![1024]⟩
abbrev S_ : Shape := ⟨0, ![]⟩
abbrev S1024x1 : Shape := ⟨2, ![1024, 1]⟩
abbrev S16384 : Shape := ⟨1, ![16384]⟩
abbrev S1x16384 : Shape := ⟨2, ![1, 16384]⟩
abbrev S1024x16384 : Shape := ⟨2, ![1024, 16384]⟩
abbrev S1x8x1024x16384 : Shape := ⟨4, ![1, 8, 1024, 16384]⟩
abbrev S1x1x1024x16384 : Shape := ⟨4, ![1, 1, 1024, 16384]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩

abbrev nBuf : Space → Nat
  | .hbm => 137
  | .vmem => 0
  | .smem => 0
  | _ => 0

abbrev hbmTy0_0 (i : Nat) : BufTy := match i % 128 with
  | 0 => ⟨S1x1024x1024, .f32⟩
  | 1 => ⟨S1024x1024, .f32⟩
  | 2 => ⟨S1x16384x8x128, .f32⟩
  | 3 => ⟨S1x16384x8x128, .f32⟩
  | 4 => ⟨S1024x1024, .f32⟩
  | 5 => ⟨S1x1024x1024, .f32⟩
  | 6 => ⟨S1x1024x8x128, .f32⟩
  | 7 => ⟨S1024, .i32⟩
  | 8 => ⟨S_, .i32⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S1024, .i32⟩
  | 17 => ⟨S1024, .i32⟩
  | 18 => ⟨S_, .i32⟩
  | 19 => ⟨S1024, .i32⟩
  | 20 => ⟨S1024, .i1⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S16384, .i32⟩
  | 28 => ⟨S_, .i32⟩
  | 29 => ⟨S_, .i32⟩
  | 30 => ⟨S16384, .i32⟩
  | 31 => ⟨S16384, .i32⟩
  | 32 => ⟨S16384, .i32⟩
  | 33 => ⟨S_, .i32⟩
  | 34 => ⟨S16384, .i32⟩
  | 35 => ⟨S16384, .i1⟩
  | 36 => ⟨S16384, .i32⟩
  | 37 => ⟨S16384, .i32⟩
  | 38 => ⟨S_, .i32⟩
  | 39 => ⟨S16384, .i32⟩
  | 40 => ⟨S16384, .i1⟩
  | 41 => ⟨S16384, .i1⟩
  | 42 => ⟨S_, .i32⟩
  | 43 => ⟨S16384, .i32⟩
  | 44 => ⟨S16384, .i32⟩
  | 45 => ⟨S16384, .i32⟩
  | 46 => ⟨S1x16384, .i32⟩
  | 47 => ⟨S1024x16384, .i32⟩
  | 48 => ⟨S1024x16384, .i32⟩
  | 49 => ⟨S1024x16384, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x16384, .i32⟩
  | 57 => ⟨S1x16384, .i32⟩
  | 58 => ⟨S_, .i32⟩
  | 59 => ⟨S1x16384, .i32⟩
  | 60 => ⟨S1x16384, .i1⟩
  | 61 => ⟨S_, .i32⟩
  | 62 => ⟨S1x16384, .i32⟩
  | 63 => ⟨S1x16384, .i1⟩
  | 64 => ⟨S_, .i32⟩
  | 65 => ⟨S_, .i1⟩
  | 66 => ⟨S1x16384, .i1⟩
  | 67 => ⟨S1x16384, .i1⟩
  | 68 => ⟨S1x16384, .i1⟩
  | 69 => ⟨S1x16384, .i32⟩
  | 70 => ⟨S1x16384, .i32⟩
  | 71 => ⟨S1x16384, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S1024x1, .i32⟩
  | 79 => ⟨S1024x1, .i32⟩
  | 80 => ⟨S_, .i32⟩
  | 81 => ⟨S1024x1, .i32⟩
  | 82 => ⟨S1024x1, .i1⟩
  | 83 => ⟨S_, .i32⟩
  | 84 => ⟨S1024x1, .i32⟩
  | 85 => ⟨S1024x1, .i1⟩
  | 86 => ⟨S_, .i32⟩
  | 87 => ⟨S_, .i1⟩
  | 88 => ⟨S1024x1, .i1⟩
  | 89 => ⟨S1024x1, .i1⟩
  | 90 => ⟨S1024x1, .i1⟩
  | 91 => ⟨S1024x1, .i32⟩
  | 92 => ⟨S1024x1, .i32⟩
  | 93 => ⟨S1024x1, .i32⟩
  | 94 => ⟨S1024x16384, .i32⟩
  | 95 => ⟨S1024x16384, .i32⟩
  | 96 => ⟨S1024x16384, .i1⟩
  | 97 => ⟨S1024x16384, .i1⟩
  | 98 => ⟨S1x8x1024x16384, .f32⟩
  | 99 => ⟨S_, .f32⟩
  | 100 => ⟨S1x8x1024x16384, .f32⟩
  | 101 => ⟨S1x8x1024x16384, .f32⟩
  | 102 => ⟨S1x1x1024x16384, .i1⟩
  | 103 => ⟨S_, .f32⟩
  | 104 => ⟨S_, .f32⟩
  | 105 => ⟨S1x8x1024x16384, .i1⟩
  | 106 => ⟨S1x8x1024x16384, .f32⟩
  | 107 => ⟨S1x8x1024x16384, .f32⟩
  | 108 => ⟨S_, .f32⟩
  | 109 => ⟨S1x8x1024, .f32⟩
  | 110 => ⟨S1x8x1024x1, .f32⟩
  | 111 => ⟨S1x8x1024x16384, .f32⟩
  | 112 => ⟨S1x8x1024x16384, .f32⟩
  | 113 => ⟨S1x8x1024x16384, .f32⟩
  | 114 => ⟨S_, .i1⟩
  | 115 => ⟨S1024, .i1⟩
  | 116 => ⟨S1x1x1024x1, .i1⟩
  | 117 => ⟨S_, .f32⟩
  | 118 => ⟨S1x8x1024, .f32⟩
  | 119 => ⟨S1x8x1024x1, .f32⟩
  | 120 => ⟨S_, .f32⟩
  | 121 => ⟨S_, .f32⟩
  | 122 => ⟨S1x8x1024x1, .i1⟩
  | 123 => ⟨S1x8x1024x1, .f32⟩
  | 124 => ⟨S1x8x1024x1, .f32⟩
  | 125 => ⟨S1x8x1024x16384, .f32⟩
  | 126 => ⟨S1x8x1024x16384, .f32⟩
  | 127 => ⟨S1x1x1024x1, .i1⟩
  | _ => ⟨S1x1024x1024, .f32⟩

abbrev hbmTy0_1 (i : Nat) : BufTy := match i % 128 with
  | 0 => ⟨S_, .f32⟩
  | 1 => ⟨S_, .f32⟩
  | 2 => ⟨S1x8x1024x16384, .i1⟩
  | 3 => ⟨S1x8x1024x16384, .f32⟩
  | 4 => ⟨S1x8x1024x16384, .f32⟩
  | 5 => ⟨S1x8x128x1024, .f32⟩
  | 6 => ⟨S1x1024x8x128, .f32⟩
  | 7 => ⟨S1x1024x1024, .f32⟩
  | 8 => ⟨S1x1024x1024, .f32⟩
  | _ => ⟨S1x1024x1024, .f32⟩

abbrev hbmTy (i : Nat) : BufTy := match i / 128 with
  | 0 => hbmTy0_0 i
  | 1 => hbmTy0_1 i
  | _ => ⟨S1x1024x1024, .f32⟩

abbrev bufTy : (tb : Table) → Fin (tcTables nBuf tb) → BufTy
  | .hbm, ⟨i, _⟩ => hbmTy i
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Vals.lean ====
/- The values the kernel computes, written once per phase and head instead of once per statement: the four phases of
   query blocks, the eight heads of a phase, the blocks sent to the owners, the owner's sum, quotient and projection. -/
module

public import proofs.«01_k».proof.Proof.Gen.KernelIdeal.Skeleton

@[expose] public section

noncomputable section

namespace Cert.KernelIdeal.Talk

open Idealize.ShloMosaic Idealize.SL.Sem Cert.KernelIdeal.Gen

variable {F : FTy → Type} [FloatOps F]

/-! ## Shape facts, at every block and head -/

theorem slRow (e : Fin 16) : S1024x1024.Slices ![64 * e.val, 0] S64x1024 := by revert e; decide
theorem slHead (h : Fin 8) : S256x1024.Slices ![0, 128 * h.val] S256x128 := by revert h; decide
theorem slCtx (a : Fin 4) : S256x1024.Slices ![64 * a.val, 0] S64x1024 := by revert a; decide
theorem slDen (a : Fin 4) : S256x8.Slices ![64 * a.val, 0] S64x8 := by revert a; decide
theorem slOutHead (h : Fin 8) : S64x1024.Slices ![0, 128 * h.val] S64x128 := by revert h; decide
theorem slOutDen (h : Fin 8) : S64x8.Slices ![0, h.val] S64x1 := by revert h; decide

/-- The number of the query block that is the `a`-th of phase `p`: the blocks of a phase are those congruent to it mod 4. -/
def blk (p a : Fin 4) : Fin 16 := ⟨p.val + 4 * a.val, by omega⟩

/-- The four blocks of phase `p` of a matrix of 16 row blocks, one under the other. -/
def phase (p : Fin 4) (X : FVec F S1024x1024 .bf16) : FVec F S256x1024 .bf16 :=
  concatenate S256x1024 0
    [⟨S64x1024, extractStridedSlice S64x1024 ![64 * (blk p 0).val, 0] X (slRow (blk p 0))⟩,
     ⟨S64x1024, extractStridedSlice S64x1024 ![64 * (blk p 1).val, 0] X (slRow (blk p 1))⟩,
     ⟨S64x1024, extractStridedSlice S64x1024 ![64 * (blk p 2).val, 0] X (slRow (blk p 2))⟩,
     ⟨S64x1024, extractStridedSlice S64x1024 ![64 * (blk p 3).val, 0] X (slRow (blk p 3))⟩]
    concatenates_S64x1024_S64x1024_S64x1024_S64x1024_S256x1024_d0

/-- The weights of head `h`: the exponentials of the scaled scores. -/
def headW (h : Fin 8) (q k : FVec F S256x1024 .bf16) : FVec F S256x256 .f32 :=
  exp (mulf
    (matmul dot_S256x128_S256x128_S256x256_1_1_0_0_n_n none
      (extractStridedSlice S256x128 ![0, 128 * h.val] q (slHead h))
      (extractStridedSlice S256x128 ![0, 128 * h.val] k (slHead h))
      (constant S256x256 .f32 0x00000000#32))
    (broadcast S256x256 (Scalar.ofBits .f32 0x3DB504F3#32)))

/-- The sum of head `h`'s weights over the keys of the phase. -/
def headL (h : Fin 8) (q k : FVec F S256x1024 .bf16) : FVec F S256x1 .f32 :=
  shapeCast S256x1 (multiReduction .add [1] S256 (headW h q k) 0x00000000#32 reduces_S256x256_S256 (.inl rfl) rfl)
    shapeCasts_S256_S256x1

/-- The weighted sum of head `h`'s values over the keys of the phase. -/
def headC (h : Fin 8) (q k v : FVec F S256x1024 .bf16) : FVec F S256x128 .f32 :=
  matmul dot_S256x256_S256x128_S256x128_1_0_0_1_n_n none (truncf .bf16 (headW h q k) bitsLt_bf16_f32)
    (extractStridedSlice S256x128 ![0, 128 * h.val] v (slHead h)) (constant S256x128 .f32 0x00000000#32)

/-- All heads' weighted sums side by side. -/
def allC (q k v : FVec F S256x1024 .bf16) : FVec F S256x1024 .f32 :=
  concatenate S256x1024 1
    [⟨S256x128, headC 0 q k v⟩, ⟨S256x128, headC 1 q k v⟩, ⟨S256x128, headC 2 q k v⟩, ⟨S256x128, headC 3 q k v⟩,
     ⟨S256x128, headC 4 q k v⟩, ⟨S256x128, headC 5 q k v⟩, ⟨S256x128, headC 6 q k v⟩, ⟨S256x128, headC 7 q k v⟩]
    concatenates_S256x128_S256x128_S256x128_S256x128_S256x128_S256x128_S256x128_S256x128_S256x1024_d1

/-- All heads' sums of weights side by side. -/
def allL (q k : FVec F S256x1024 .bf16) : FVec F S256x8 .f32 :=
  concatenate S256x8 1
    [⟨S256x1, headL 0 q k⟩, ⟨S256x1, headL 1 q k⟩, ⟨S256x1, headL 2 q k⟩, ⟨S256x1, headL 3 q k⟩,
     ⟨S256x1, headL 4 q k⟩, ⟨S256x1, headL 5 q k⟩, ⟨S256x1, headL 6 q k⟩, ⟨S256x1, headL 7 q k⟩]
    concatenates_S256x1_S256x1_S256x1_S256x1_S256x1_S256x1_S256x1_S256x1_S256x8_d1

/-- The weighted sums of the `a`-th block of a phase, as they are sent. -/
def ctxBlk (a : Fin 4) (q k v : FVec F S256x1024 .bf16) : FVec F S1x64x1024 .fp8e4m3 :=
  shapeCast S1x64x1024
    (truncf .fp8e4m3 (extractStridedSlice S64x1024 ![64 * a.val, 0] (allC q k v) (slCtx a)) bitsLt_fp8e4m3_f32)
    shapeCasts_S64x1024_S1x64x1024

/-- The sums of weights of the `a`-th block of a phase, as they are sent. -/
def denBlk (a : Fin 4) (q k : FVec F S256x1024 .bf16) : FVec F S64x8 .bf16 :=
  shapeCast S64x8
    (truncf .bf16 (extractStridedSlice S64x8 ![64 * a.val, 0] (allL q k) (slDen a)) bitsLt_bf16_f32)
    shapeCasts_S64x8_S64x8

/-- A received block of weighted sums, widened. -/
def ctxIn (x : Vec F S1x64x1024 .fp8e4m3) : FVec F S64x1024 .f32 :=
  extf .f32 (shapeCast S64x1024 x shapeCasts_S1x64x1024_S64x1024 : FVec F S64x1024 .fp8e4m3) bitsLt_fp8e4m3_f32

/-- A received block of sums of weights, widened. -/
def denIn (x : Vec F S1x64x8 .bf16) : FVec F S64x8 .f32 :=
  extf .f32 (shapeCast S64x8 x shapeCasts_S1x64x8_S64x8 : FVec F S64x8 .bf16) bitsLt_bf16_f32

/-- Head `h` of the quotient of the summed weighted sums by the summed weights. -/
def quot (h : Fin 8) (cs : FVec F S64x1024 .f32) (ls : FVec F S64x8 .f32) : FVec F S64x128 .f32 :=
  divf (extractStridedSlice S64x128 ![0, 128 * h.val] cs (slOutHead h))
    (broadcastTo S64x128 (extractStridedSlice S64x1 ![0, h.val] ls (slOutDen h)) broadcasts_S64x1_S64x128)

/-- The attention of the owner's block: the eight heads' quotients side by side. -/
def attn (cs : FVec F S64x1024 .f32) (ls : FVec F S64x8 .f32) : FVec F S64x1024 .bf16 :=
  truncf .bf16
    (concatenate S64x1024 1
      [⟨S64x128, quot 0 cs ls⟩, ⟨S64x128, quot 1 cs ls⟩, ⟨S64x128, quot 2 cs ls⟩, ⟨S64x128, quot 3 cs ls⟩,
       ⟨S64x128, quot 4 cs ls⟩, ⟨S64x128, quot 5 cs ls⟩, ⟨S64x128, quot 6 cs ls⟩, ⟨S64x128, quot 7 cs ls⟩]
      concatenates_S64x128_S64x128_S64x128_S64x128_S64x128_S64x128_S64x128_S64x128_S64x1024_d1)
    bitsLt_bf16_f32

/-- The owner's block of the result as it goes to the result array. -/
abbrev ownOut (cs : FVec F S64x1024 .f32) (ls : FVec F S64x8 .f32) (wo : Vec F S1024x1024 .f32) : FVec F S1x64x1024 .f32 :=
  k0_pay156 (attn cs ls) wo

/-- The owner's block of the result as it goes to the other devices. -/
abbrev ownSend (cs : FVec F S64x1024 .f32) (ls : FVec F S64x8 .f32) (wo : Vec F S1024x1024 .f32) : FVec F S64x1024 .bf16 :=
  k0_pay157 (attn cs ls) wo

end Cert.KernelIdeal.Talk

end
-- ==== Proof.Clean.lean ====
/- The kernel as a program of loops: the same operations in the same order as the printed text, the loops being over
   lists of the fifteen shifts between devices and the sixteen blocks. `body_eq` says that the printed text unfolds to it. -/
module

public import proofs.«01_k».proof.Proof.Vals

@[expose] public section

noncomputable section

namespace Cert.KernelIdeal.Talk

open Idealize.ShloMosaic Idealize.SL.Sem Cert.KernelIdeal.Gen

variable {F : FTy → Type} [FloatOps F]

/-- The kernel's programs. -/
abbrev P (F : FTy → Type) (α : Type) : Type 1 := Prog (TpuEff nD τ sig (Elt F) Λ₀ .tc) α

/-- One step per member of a list, in order. -/
def each {ι : Type} : List ι → (ι → P F PUnit) → P F PUnit
  | [], _ => pure ⟨⟩
  | i :: l, f => f i >>= fun _ => each l f

/-- One step per member of a list, in order, each changing a value. -/
def thread {ι S : Type} : List ι → (ι → S → P F S) → S → P F S
  | [], _, s => pure s
  | i :: l, f, s => f i s >>= fun s' => thread l f s'

/-- The fifteen shifts, in order; shift number `o` leads `o + 1` devices on. -/
def shifts : List (Fin 15) := [0, 1, 2, 3, 4, 5, 6, 7, 8, 9, 10, 11, 12, 13, 14]
/-- The sources after the first, in order. -/
def sources : List (Fin 16) := [1, 2, 3, 4, 5, 6, 7, 8, 9, 10, 11, 12, 13, 14, 15]
/-- The sub-blocks of a phase, in order. -/
def quarters : List (Fin 4) := [0, 1, 2, 3]

/-! ## The devices named at each shift -/

def sigDev (d : Dev nD) : Fin 15 → Dev nD :=
  ![⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩, ⟨k0_dev8 d, k0_dev8_lt d⟩,
    ⟨k0_dev9 d, k0_dev9_lt d⟩, ⟨k0_dev10 d, k0_dev10_lt d⟩, ⟨k0_dev11 d, k0_dev11_lt d⟩, ⟨k0_dev12 d, k0_dev12_lt d⟩,
    ⟨k0_dev13 d, k0_dev13_lt d⟩, ⟨k0_dev14 d, k0_dev14_lt d⟩, ⟨k0_dev15 d, k0_dev15_lt d⟩]

def ctxDev (d : Dev nD) : Fin 15 → Dev nD :=
  ![⟨k0_dev16 d, k0_dev16_lt d⟩, ⟨k0_dev18 d, k0_dev18_lt d⟩, ⟨k0_dev20 d, k0_dev20_lt d⟩, ⟨k0_dev22 d, k0_dev22_lt d⟩,
    ⟨k0_dev24 d, k0_dev24_lt d⟩, ⟨k0_dev26 d, k0_dev26_lt d⟩, ⟨k0_dev28 d, k0_dev28_lt d⟩, ⟨k0_dev30 d, k0_dev30_lt d⟩,
    ⟨k0_dev32 d, k0_dev32_lt d⟩, ⟨k0_dev34 d, k0_dev34_lt d⟩, ⟨k0_dev36 d, k0_dev36_lt d⟩, ⟨k0_dev38 d, k0_dev38_lt d⟩,
    ⟨k0_dev40 d, k0_dev40_lt d⟩, ⟨k0_dev42 d, k0_dev42_lt d⟩, ⟨k0_dev44 d, k0_dev44_lt d⟩]

def denDev (d : Dev nD) : Fin 15 → Dev nD :=
  ![⟨k0_dev17 d, k0_dev17_lt d⟩, ⟨k0_dev19 d, k0_dev19_lt d⟩, ⟨k0_dev21 d, k0_dev21_lt d⟩, ⟨k0_dev23 d, k0_dev23_lt d⟩,
    ⟨k0_dev25 d, k0_dev25_lt d⟩, ⟨k0_dev27 d, k0_dev27_lt d⟩, ⟨k0_dev29 d, k0_dev29_lt d⟩, ⟨k0_dev31 d, k0_dev31_lt d⟩,
    ⟨k0_dev33 d, k0_dev33_lt d⟩, ⟨k0_dev35 d, k0_dev35_lt d⟩, ⟨k0_dev37 d, k0_dev37_lt d⟩, ⟨k0_dev39 d, k0_dev39_lt d⟩,
    ⟨k0_dev41 d, k0_dev41_lt d⟩, ⟨k0_dev43 d, k0_dev43_lt d⟩, ⟨k0_dev45 d, k0_dev45_lt d⟩]

def outDev (d : Dev nD) : Fin 15 → Dev nD :=
  ![⟨k0_dev46 d, k0_dev46_lt d⟩, ⟨k0_dev47 d, k0_dev47_lt d⟩, ⟨k0_dev48 d, k0_dev48_lt d⟩, ⟨k0_dev49 d, k0_dev49_lt d⟩,
    ⟨k0_dev50 d, k0_dev50_lt d⟩, ⟨k0_dev51 d, k0_dev51_lt d⟩, ⟨k0_dev52 d, k0_dev52_lt d⟩, ⟨k0_dev53 d, k0_dev53_lt d⟩,
    ⟨k0_dev54 d, k0_dev54_lt d⟩, ⟨k0_dev55 d, k0_dev55_lt d⟩, ⟨k0_dev56 d, k0_dev56_lt d⟩, ⟨k0_dev57 d, k0_dev57_lt d⟩,
    ⟨k0_dev58 d, k0_dev58_lt d⟩, ⟨k0_dev59 d, k0_dev59_lt d⟩, ⟨k0_dev60 d, k0_dev60_lt d⟩]

/-! ## Buffers, slots and semaphores -/

/-- The arrays' staging buffers and the kernel's scratch buffers. -/
abbrev xM : Memref sig .tc .vmem S1x1024x1024 .f32 := Memref.whole cc0_stg0_0
abbrev wqM : Memref sig .tc .vmem S1024x1024 .f32 := Memref.whole cc0_stg1_0
abbrev kM : Memref sig .tc .vmem S1x1024x8x128 .f32 := Memref.whole cc0_stg2_0
abbrev vM : Memref sig .tc .vmem S1x1024x8x128 .f32 := Memref.whole cc0_stg3_0
abbrev woM : Memref sig .tc .vmem S1024x1024 .f32 := Memref.whole cc0_stg4_0
abbrev outM : Memref sig .tc .vmem S1x1024x1024 .f32 := Memref.whole cc0_stg5_0
/-- Weighted sums to send, one slot per owner; as received, one slot per source. -/
abbrev ctxS : Memref sig .tc .vmem S16x64x1024 .fp8e4m3 := Memref.whole cc0_scratch0
abbrev ctxR : Memref sig .tc .vmem S16x64x1024 .fp8e4m3 := Memref.whole cc0_scratch1
/-- Sums of weights to send, 64 rows per owner; as received, one slot per source. -/
abbrev denS : Memref sig .tc .vmem S1024x8 .bf16 := Memref.whole cc0_scratch2
abbrev denR : Memref sig .tc .vmem S16x64x8 .bf16 := Memref.whole cc0_scratch3
/-- The result as it is exchanged, 64 rows per owner. -/
abbrev outX : Memref sig .tc .vmem S1024x1024 .bf16 := Memref.whole cc0_scratch4

/-- The slot of a buffer of 16 blocks of 64 × 1024 at the given offsets. -/
abbrev slotC (m : Memref sig .tc .vmem S16x64x1024 .fp8e4m3) (off : Fin 3 → ℕ) (h : ∀ a, off a + S1x64x1024.size a ≤ S16x64x1024.size a) :
    Memref sig .tc .vmem S64x1024 .fp8e4m3 :=
  (m.slice (Rect.unit (s := S16x64x1024) off S1x64x1024.size h) (fun _ => rfl)).squeeze S64x1024 squeezes_S1x64x1024_S64x1024

/-- The slot of the received sums of weights at the given offsets. -/
abbrev slotD (off : Fin 3 → ℕ) (h : ∀ a, off a + S1x64x8.size a ≤ S16x64x8.size a) : Memref sig .tc .vmem S64x8 .bf16 :=
  (denR.slice (Rect.unit (s := S16x64x8) off S1x64x8.size h) (fun _ => rfl)).squeeze S64x8 squeezes_S1x64x8_S64x8

/-- The rows of the sums of weights to send at the given offsets. -/
abbrev rowsD (off : Fin 2 → ℕ) (h : ∀ a, off a + S64x8.size a ≤ S1024x8.size a) : Memref sig .tc .vmem S64x8 .bf16 :=
  denS.slice (Rect.unit (s := S1024x8) off S64x8.size h) (fun _ => rfl)

/-- The rows of the exchanged result at the given offsets. -/
abbrev rowsX (off : Fin 2 → ℕ) (h : ∀ a, off a + S64x1024.size a ≤ S1024x1024.size a) : Memref sig .tc .vmem S64x1024 .bf16 :=
  outX.slice (Rect.unit (s := S1024x1024) off S64x1024.size h) (fun _ => rfl)

/-- One semaphore of an array of sixteen. -/
abbrev semAt (a : DmaSems sig S16) (off : Fin 1 → ℕ) (h : ∀ i, off i + S1.size i ≤ S16.size i) : DmaSem sig :=
  ((a.slice (Rect.unit (s := S16) off S1.size h)).squeeze S_ squeezes_S1_S_).sem

theorem inbSem (o : Fin 15) : ∀ i, (![1 + o.val] : Fin 1 → ℕ) i + S1.size i ≤ S16.size i := by revert o; decide
theorem inbC (e : Fin 16) : ∀ a, (![e.val, 0, 0] : Fin 3 → ℕ) a + S1x64x1024.size a ≤ S16x64x1024.size a := by revert e; decide
theorem inbDR (e : Fin 16) : ∀ a, (![e.val, 0, 0] : Fin 3 → ℕ) a + S1x64x8.size a ≤ S16x64x8.size a := by revert e; decide
theorem inbD (e : Fin 16) : ∀ a, (![64 * e.val, 0] : Fin 2 → ℕ) a + S64x8.size a ≤ S1024x8.size a := by revert e; decide
theorem packC (e : Fin 16) : (Rect.unit (s := S16x64x1024) ![e.val, 0, 0] S1x64x1024.size (inbC e)).PackedRows (EltTy.packing .fp8e4m3) := by
  revert e; decide
theorem packD (e : Fin 16) : (Rect.unit (s := S1024x8) ![64 * e.val, 0] S64x8.size (inbD e)).PackedRows (EltTy.packing .bf16) := by
  revert e; decide

/-- The barrier semaphore. -/
abbrev barS : Sem sig := (SemArray.scalar (sig.barrier 0 rfl) : Sems sig S_).sem

/-- The shift as a word of the kernel's arithmetic. -/
abbrev wd (o : Fin 15) : BitVec 32 := BitVec.ofNat 32 (1 + o.val)

/-! ## The steps -/

/-- Tell the device `o + 1` on that this device has entered. -/
def tellStep (d : Dev nD) (o : Fin 15) : P F PUnit := semSignalWord (sigDev d o) barS 1#32

/-- Write one block of weighted sums and of sums of weights. -/
def writeStep (p : Fin 4) (q k v : FVec F S256x1024 .bf16) (a : Fin 4) : P F PUnit := do
  let _ : Vec F S1x64x1024 .fp8e4m3 ← Prog.lift (.load ctxS (Rect.unit (s := S16x64x1024) ![(blk p a).val, 0, 0] S1x64x1024.size (inbC (blk p a))).toLoadRect (View.loadsAt_vmem h_S1x64x1024))
  Prog.lift (.store ctxS (Rect.unit (s := S16x64x1024) ![(blk p a).val, 0, 0] S1x64x1024.size (inbC (blk p a))) (ctxBlk a q k v) Finset.univ (View.stores_vmem h_S1x64x1024 ((Memref.isWhole_whole _).storeExact_slice rfl _ (packC (blk p a))) (fun _ => rfl)) (.inl rfl))
  let _ : Vec F S64x8 .bf16 ← Prog.lift (.load denS (Rect.unit (s := S1024x8) ![64 * (blk p a).val, 0] S64x8.size (inbD (blk p a))).toLoadRect (View.loadsAt_vmem h_S64x8))
  Prog.lift (.store denS (Rect.unit (s := S1024x8) ![64 * (blk p a).val, 0] S64x8.size (inbD (blk p a))) (denBlk a q k) Finset.univ (View.stores_vmem h_S64x8 ((Memref.isWhole_whole _).storeExact_slice rfl _ (packD (blk p a))) (fun _ => rfl)) (.inl rfl))

/-- The device's own block goes to its own receive slot. -/
def ownStep (d : Dev nD) : P F PUnit := do
  let x : Vec F S1x64x1024 .fp8e4m3 ← Prog.lift (.load ctxS (Rect.unit (s := S16x64x1024) (k0_off1 d) S1x64x1024.size (k0_off1_inb d)).toLoadRect (View.loadsAt_vmem h_S1x64x1024))
  let _ : Vec F S1x64x1024 .fp8e4m3 ← Prog.lift (.load ctxR (Rect.unit (s := S16x64x1024) (k0_off1 d) S1x64x1024.size (k0_off1_inb d)).toLoadRect (View.loadsAt_vmem h_S1x64x1024))
  Prog.lift (.store ctxR (Rect.unit (s := S16x64x1024) (k0_off1 d) S1x64x1024.size (k0_off1_inb d)) (k0_pay143 x) Finset.univ (View.stores_vmem h_S1x64x1024 ((Memref.isWhole_whole _).storeExact_slice rfl _ (k0_off1_packedfp8e4m3 d)) (fun _ => rfl)) (.inl rfl))
  let y : Vec F S64x8 .bf16 ← Prog.lift (.load denS (Rect.unit (s := S1024x8) (k0_off2 d) S64x8.size (k0_off2_inb d)).toLoadRect (View.loadsAt_vmem h_S64x8))
  let _ : Vec F S1x64x8 .bf16 ← Prog.lift (.load denR (Rect.unit (s := S16x64x8) (k0_off3 d) S1x64x8.size (k0_off3_inb d)).toLoadRect (View.loadsAt_vmem h_S1x64x8))
  Prog.lift (.store denR (Rect.unit (s := S16x64x8) (k0_off3 d) S1x64x8.size (k0_off3_inb d)) (k0_pay144 y) Finset.univ (View.stores_vmem h_S1x64x8 ((Memref.isWhole_whole _).storeExact_slice rfl _ (k0_off3_packedbf16 d)) (fun _ => rfl)) (.inl rfl))

/-- Send the owner `o + 1` on its block of weighted sums and of sums of weights. -/
def sendStep (d : Dev nD) (o : Fin 15) : P F PUnit := do
  Prog.lift (.enqueueDma (slotC ctxS (k0_off6 d (wd o)) (k0_off6_inb d o))
    (.remote (Dev.tc (ctxDev d o)) (slotC ctxR (k0_off5 d) (k0_off5_inb d)) (.dma (semAt cc0_scratch5 ![1 + o.val] (inbSem o))))
    (.dma (semAt cc0_scratch6 (k0_off4 d) (k0_off4_inb d)))
    (((Memref.isWhole_whole _).wordExact_slice rfl _ (k0_off6_wordsfp8e4m3 d o)).reshape _ _)
    (((Memref.isWhole_whole _).wordExact_slice rfl _ (k0_off5_wordsfp8e4m3 d)).reshape _ _) ⟨⟨rfl, Or.inl rfl⟩, trivial⟩)
  Prog.lift (.enqueueDma (rowsD (k0_off8 d (wd o)) (k0_off8_inb d o))
    (.remote (Dev.tc (denDev d o)) (slotD (k0_off7 d) (k0_off7_inb d)) (.dma (semAt cc0_scratch9 ![1 + o.val] (inbSem o))))
    (.dma (semAt cc0_scratch10 (k0_off4 d) (k0_off4_inb d)))
    ((Memref.isWhole_whole _).wordExact_slice rfl _ (k0_off8_wordsbf16 d o))
    (((Memref.isWhole_whole _).wordExact_slice rfl _ (k0_off7_wordsbf16 d)).reshape _ _) ⟨⟨rfl, Or.inl rfl⟩, trivial⟩)

/-- Wait for the blocks of the device `o + 1` back. -/
def recvStep (d : Dev nD) (o : Fin 15) : P F PUnit := do
  Prog.lift (.waitDma2 (semAt cc0_scratch6 (k0_off9 d (wd o)) (k0_off9_inb d o))
    (slotC ctxS (k0_off10 d (wd o)) (k0_off10_inb d o)) (slotC ctxR (k0_off10 d (wd o)) (k0_off10_inb d o))
    (((Memref.isWhole_whole _).wordExact_slice rfl _ (k0_off10_wordsfp8e4m3 d o)).reshape _ _)
    (((Memref.isWhole_whole _).wordExact_slice rfl _ (k0_off10_wordsfp8e4m3 d o)).reshape _ _))
  Prog.lift (.waitDma2 (semAt cc0_scratch10 (k0_off9 d (wd o)) (k0_off9_inb d o))
    (rowsD (k0_off12 d (wd o)) (k0_off12_inb d o)) (slotD (k0_off11 d (wd o)) (k0_off11_inb d o))
    ((Memref.isWhole_whole _).wordExact_slice rfl _ (k0_off12_wordsbf16 d o))
    (((Memref.isWhole_whole _).wordExact_slice rfl _ (k0_off11_wordsbf16 d o)).reshape _ _))

/-- Read the blocks of source `s`. -/
def loadC (s : Fin 16) : P F (Vec F S1x64x1024 .fp8e4m3) :=
  Prog.lift (.load ctxR (Rect.unit (s := S16x64x1024) ![s.val, 0, 0] S1x64x1024.size (inbC s)).toLoadRect (View.loadsAt_vmem h_S1x64x1024))
def loadD (s : Fin 16) : P F (Vec F S1x64x8 .bf16) :=
  Prog.lift (.load denR (Rect.unit (s := S16x64x8) ![s.val, 0, 0] S1x64x8.size (inbDR s)).toLoadRect (View.loadsAt_vmem h_S1x64x8))

/-- Add the blocks of source `s` to the sums. -/
def addStep (s : Fin 16) (cl : FVec F S64x1024 .f32 × FVec F S64x8 .f32) : P F (FVec F S64x1024 .f32 × FVec F S64x8 .f32) := do
  let x ← loadC s
  let y ← loadD s
  pure (addf cl.1 (ctxIn x), addf cl.2 (denIn y))

/-- Project the owner's block and put it in the result and in the buffer to exchange. -/
def projStep (d : Dev nD) (cl : FVec F S64x1024 .f32 × FVec F S64x8 .f32) : P F PUnit := do
  let wo : Vec F S1024x1024 .f32 ← Prog.lift (.load woM (Rect.unit (s := S1024x1024) ![0, 0] S1024x1024.size inb_S1024x1024_S1024x1024_0_0).toLoadRect (View.loadsAt_vmem h_S1024x1024))
  let _ : Vec F S1x64x1024 .f32 ← Prog.lift (.load outM (Rect.unit (s := S1x1024x1024) (k0_off13 d) S1x64x1024.size (k0_off13_inb d)).toLoadRect (View.loadsAt_vmem h_S1x64x1024))
  Prog.lift (.store outM (Rect.unit (s := S1x1024x1024) (k0_off13 d) S1x64x1024.size (k0_off13_inb d)) (ownOut cl.1 cl.2 wo) Finset.univ (View.stores_vmem_bits_univ h_S1x64x1024 rfl) (.inl rfl))
  let _ : Vec F S64x1024 .bf16 ← Prog.lift (.load outX (Rect.unit (s := S1024x1024) (k0_off14 d) S64x1024.size (k0_off14_inb d)).toLoadRect (View.loadsAt_vmem h_S64x1024))
  Prog.lift (.store outX (Rect.unit (s := S1024x1024) (k0_off14 d) S64x1024.size (k0_off14_inb d)) (ownSend cl.1 cl.2 wo) Finset.univ (View.stores_vmem h_S64x1024 ((Memref.isWhole_whole _).storeExact_slice rfl _ (k0_off14_packedbf16 d)) (fun _ => rfl)) (.inl rfl))

/-- Send the device `o + 1` on this device's block of the result. -/
def castStep (d : Dev nD) (o : Fin 15) : P F PUnit :=
  Prog.lift (.enqueueDma (rowsX (k0_off15 d) (k0_off15_inb d))
    (.remote (Dev.tc (outDev d o)) (rowsX (k0_off15 d) (k0_off15_inb d)) (.dma (semAt cc0_scratch7 ![1 + o.val] (inbSem o))))
    (.dma (semAt cc0_scratch8 (k0_off4 d) (k0_off4_inb d)))
    ((Memref.isWhole_whole _).wordExact_slice rfl _ (k0_off15_wordsbf16 d))
    ((Memref.isWhole_whole _).wordExact_slice rfl _ (k0_off15_wordsbf16 d)) ⟨⟨rfl, Or.inl rfl⟩, trivial⟩)

/-- Wait until the blocks sent `o + 1` on have left. -/
def leftStep (d : Dev nD) (o : Fin 15) : P F PUnit := do
  Prog.lift (.waitDma2 (semAt cc0_scratch5 ![1 + o.val] (inbSem o))
    (slotC ctxR (k0_off5 d) (k0_off5_inb d)) (slotC ctxS (k0_off6 d (wd o)) (k0_off6_inb d o))
    (((Memref.isWhole_whole _).wordExact_slice rfl _ (k0_off5_wordsfp8e4m3 d)).reshape _ _)
    (((Memref.isWhole_whole _).wordExact_slice rfl _ (k0_off6_wordsfp8e4m3 d o)).reshape _ _))
  Prog.lift (.waitDma2 (semAt cc0_scratch9 ![1 + o.val] (inbSem o))
    (slotD (k0_off7 d) (k0_off7_inb d)) (rowsD (k0_off8 d (wd o)) (k0_off8_inb d o))
    (((Memref.isWhole_whole _).wordExact_slice rfl _ (k0_off7_wordsbf16 d)).reshape _ _)
    ((Memref.isWhole_whole _).wordExact_slice rfl _ (k0_off8_wordsbf16 d o)))

/-- Wait for the result block of the device `o + 1` back and put it in the result. -/
def takeStep (d : Dev nD) (o : Fin 15) : P F PUnit := do
  Prog.lift (.waitDma2 (semAt cc0_scratch8 (k0_off9 d (wd o)) (k0_off9_inb d o))
    (rowsX (k0_off16 d (wd o)) (k0_off16_inb d o)) (rowsX (k0_off16 d (wd o)) (k0_off16_inb d o))
    ((Memref.isWhole_whole _).wordExact_slice rfl _ (k0_off16_wordsbf16 d o))
    ((Memref.isWhole_whole _).wordExact_slice rfl _ (k0_off16_wordsbf16 d o)))
  let y : Vec F S64x1024 .bf16 ← Prog.lift (.load outX (Rect.unit (s := S1024x1024) (k0_off17 d (wd o)) S64x1024.size (k0_off17_inb d o)).toLoadRect (View.loadsAt_vmem h_S64x1024))
  let _ : Vec F S1x64x1024 .f32 ← Prog.lift (.load outM (Rect.unit (s := S1x1024x1024) (k0_off18 d (wd o)) S1x64x1024.size (k0_off18_inb d o)).toLoadRect (View.loadsAt_vmem h_S1x64x1024))
  Prog.lift (.store outM (Rect.unit (s := S1x1024x1024) (k0_off18 d (wd o)) S1x64x1024.size (k0_off18_inb d o)) (k0_pay158 y) Finset.univ (View.stores_vmem_bits_univ h_S1x64x1024 rfl) (.inl rfl))

/-- Wait until the result block sent `o + 1` on has left. -/
def doneStep (d : Dev nD) (o : Fin 15) : P F PUnit :=
  Prog.lift (.waitDma2 (semAt cc0_scratch7 ![1 + o.val] (inbSem o))
    (rowsX (k0_off15 d) (k0_off15_inb d)) (rowsX (k0_off15 d) (k0_off15_inb d))
    ((Memref.isWhole_whole _).wordExact_slice rfl _ (k0_off15_wordsbf16 d))
    ((Memref.isWhole_whole _).wordExact_slice rfl _ (k0_off15_wordsbf16 d)))

/-! ## The whole -/

/-- Read the four inputs and write all sixteen blocks, phase by phase. -/
def compute : P F PUnit := do
  let x : Vec F S1x1024x1024 .f32 ← Prog.lift (.load xM (Rect.unit (s := S1x1024x1024) ![0, 0, 0] S1x1024x1024.size inb_S1x1024x1024_S1x1024x1024_0_0_0).toLoadRect (View.loadsAt_vmem h_S1x1024x1024))
  let wq : Vec F S1024x1024 .f32 ← Prog.lift (.load wqM (Rect.unit (s := S1024x1024) ![0, 0] S1024x1024.size inb_S1024x1024_S1024x1024_0_0).toLoadRect (View.loadsAt_vmem h_S1024x1024))
  let k : Vec F S1x1024x8x128 .f32 ← Prog.lift (.load kM (Rect.unit (s := S1x1024x8x128) ![0, 0, 0, 0] S1x1024x8x128.size inb_S1x1024x8x128_S1x1024x8x128_0_0_0_0).toLoadRect (View.loadsAt_vmem h_S1x1024x8x128))
  let v : Vec F S1x1024x8x128 .f32 ← Prog.lift (.load vM (Rect.unit (s := S1x1024x8x128) ![0, 0, 0, 0] S1x1024x8x128.size inb_S1x1024x8x128_S1x1024x8x128_0_0_0_0).toLoadRect (View.loadsAt_vmem h_S1x1024x8x128))
  each quarters fun p => each quarters fun a =>
    writeStep p (phase p (k0_pay1 x wq)) (phase p (k0_pay2 k)) (phase p (k0_pay3 v)) a

/-- The sums over the sources. -/
def total : P F (FVec F S64x1024 .f32 × FVec F S64x8 .f32) := do
  let x ← loadC 0
  let y ← loadD 0
  thread sources addStep (ctxIn x, denIn y)

/-- The kernel, after it has learnt which device it runs on. -/
def rest (d : Dev nD) : P F PUnit := do
  each shifts (tellStep d)
  semWaitWord barS 15#32
  compute
  ownStep d
  each shifts (sendStep d)
  each shifts (recvStep d)
  let cl ← total
  projStep d cl
  each shifts (castStep d)
  each shifts (leftStep d)
  each shifts (takeStep d)
  each shifts (doneStep d)

/-- The kernel as a program of loops. -/
def clean : P F PUnit := do
  let d : Dev nD ← Prog.lift .deviceId
  rest d

end Cert.KernelIdeal.Talk

end
-- ==== Proof.Ring.lean ====
/- The ring of sixteen devices: the shifts, and the places and devices the kernel computes from them. -/
module

public import proofs.«01_k».proof.Proof.Clean

@[expose] public section

noncomputable section

namespace Cert.KernelIdeal.Talk

open Idealize.ShloMosaic Idealize.SL.Sem Cert.KernelIdeal.Gen

set_option backward.proofsInPublic true in
/-- The device `o + 1` on from `c`. -/
def nx (o : Fin 15) (c : Dev nD) : Dev nD := ⟨(c.val + (o.val + 1)) % 16, Nat.mod_lt _ (by decide)⟩
set_option backward.proofsInPublic true in
/-- The device `o + 1` back from `c`. -/
def pv (o : Fin 15) (c : Dev nD) : Dev nD := ⟨(c.val + (15 - o.val)) % 16, Nat.mod_lt _ (by decide)⟩

theorem pv_nx (o : Fin 15) (c : Dev nD) : pv o (nx o c) = c := by revert o c; decide
theorem nx_pv (o : Fin 15) (c : Dev nD) : nx o (pv o c) = c := by revert o c; decide
theorem nx_rev (o : Fin 15) (c : Dev nD) : nx (Fin.rev o) c = pv o c := by revert o c; decide
theorem pv_rev (o : Fin 15) (c : Dev nD) : pv (Fin.rev o) c = nx o c := by revert o c; decide
theorem nx_ne (o : Fin 15) (c : Dev nD) : nx o c ≠ c := by revert o c; decide
theorem pv_ne (o : Fin 15) (c : Dev nD) : pv o c ≠ c := by revert o c; decide
theorem nx_inj (c : Dev nD) (o o' : Fin 15) (h : nx o c = nx o' c) : o = o' := by revert c o o'; decide
theorem eq_or_nx (c d : Dev nD) : d = c ∨ ∃ o, d = nx o c := by revert c d; decide

/-- A shift as a permutation of the devices. -/
def ring (o : Fin 15) : Dev nD ≃ Dev nD := ⟨nx o, pv o, pv_nx o, nx_pv o⟩

/-! ## The devices the kernel names -/

theorem sigDev_eq (d : Dev nD) (o : Fin 15) : sigDev d o = nx o d := by revert d o; decide +kernel
theorem ctxDev_eq (d : Dev nD) (o : Fin 15) : ctxDev d o = nx o d := by revert d o; decide +kernel
theorem denDev_eq (d : Dev nD) (o : Fin 15) : denDev d o = nx o d := by revert d o; decide +kernel
theorem outDev_eq (d : Dev nD) (o : Fin 15) : outDev d o = nx o d := by revert d o; decide +kernel

/-! ## The places the kernel computes -/

theorem off6_eq (d : Dev nD) (o : Fin 15) : k0_off6 d (wd o) = ![(nx o d).val, 0, 0] := by revert d o; decide +kernel
theorem off8_eq (d : Dev nD) (o : Fin 15) : k0_off8 d (wd o) = ![64 * (nx o d).val, 0] := by revert d o; decide +kernel
theorem off9_eq (d : Dev nD) (o : Fin 15) : k0_off9 d (wd o) = ![(pv o d).val] := by revert d o; decide +kernel
theorem off10_eq (d : Dev nD) (o : Fin 15) : k0_off10 d (wd o) = ![(pv o d).val, 0, 0] := by revert d o; decide +kernel
theorem off11_eq (d : Dev nD) (o : Fin 15) : k0_off11 d (wd o) = ![(pv o d).val, 0, 0] := by revert d o; decide +kernel
theorem off12_eq (d : Dev nD) (o : Fin 15) : k0_off12 d (wd o) = ![64 * (pv o d).val, 0] := by revert d o; decide +kernel
theorem off16_eq (d : Dev nD) (o : Fin 15) : k0_off16 d (wd o) = ![64 * (pv o d).val, 0] := by revert d o; decide +kernel
theorem off17_eq (d : Dev nD) (o : Fin 15) : k0_off17 d (wd o) = ![64 * (pv o d).val, 0] := by revert d o; decide +kernel
theorem off18_eq (d : Dev nD) (o : Fin 15) : k0_off18 d (wd o) = ![0, 64 * (pv o d).val, 0] := by revert d o; decide +kernel
theorem off1_eq (d : Dev nD) : k0_off1 d = ![d.val, 0, 0] := by revert d; decide +kernel
theorem off2_eq (d : Dev nD) : k0_off2 d = ![64 * d.val, 0] := by revert d; decide +kernel
theorem off3_eq (d : Dev nD) : k0_off3 d = ![d.val, 0, 0] := by revert d; decide +kernel
theorem off4_eq (d : Dev nD) : k0_off4 d = ![d.val] := by revert d; decide +kernel
theorem off5_eq (d : Dev nD) : k0_off5 d = ![d.val, 0, 0] := by revert d; decide +kernel
theorem off7_eq (d : Dev nD) : k0_off7 d = ![d.val, 0, 0] := by revert d; decide +kernel
theorem off13_eq (d : Dev nD) : k0_off13 d = ![0, 64 * d.val, 0] := by revert d; decide +kernel
theorem off14_eq (d : Dev nD) : k0_off14 d = ![64 * d.val, 0] := by revert d; decide +kernel
theorem off15_eq (d : Dev nD) : k0_off15 d = ![64 * d.val, 0] := by revert d; decide +kernel

/-! ## The semaphores -/

/-- Semaphore `j` of the kernel's array `k`, of six arrays of sixteen; six others come before them. -/
def dsem (k : Fin 6) (j : Fin 16) : DmaSem sig := ⟨6 + 16 * k.val + j.val, by have := k.isLt; have := j.isLt; show _ < 102; omega⟩

theorem inbOne (j : Fin 16) : ∀ i, (![j.val] : Fin 1 → ℕ) i + S1.size i ≤ S16.size i := by revert j; decide

theorem sem5_eq (j : Fin 16) : semAt cc0_scratch5 ![j.val] (inbOne j) = dsem 0 j := by revert j; decide +kernel
theorem sem6_eq (j : Fin 16) : semAt cc0_scratch6 ![j.val] (inbOne j) = dsem 1 j := by revert j; decide +kernel
theorem sem7_eq (j : Fin 16) : semAt cc0_scratch7 ![j.val] (inbOne j) = dsem 2 j := by revert j; decide +kernel
theorem sem8_eq (j : Fin 16) : semAt cc0_scratch8 ![j.val] (inbOne j) = dsem 3 j := by revert j; decide +kernel
theorem sem9_eq (j : Fin 16) : semAt cc0_scratch9 ![j.val] (inbOne j) = dsem 4 j := by revert j; decide +kernel
theorem sem10_eq (j : Fin 16) : semAt cc0_scratch10 ![j.val] (inbOne j) = dsem 5 j := by revert j; decide +kernel

/-- A semaphore named by its computed place. -/
theorem semAt_of {a : DmaSems sig S16} {q : Fin 16 → DmaSem sig} (hq : ∀ j, semAt a ![j.val] (inbOne j) = q j)
    {off : Fin 1 → ℕ} {h : ∀ i, off i + S1.size i ≤ S16.size i} (j : Fin 16) (ho : off = ![j.val]) : semAt a off h = q j := by
  subst ho; exact hq j

/-- The place of a semaphore named by a shift. -/
theorem shift_place (o : Fin 15) : (![1 + o.val] : Fin 1 → ℕ) = ![(o.succ : Fin 16).val] := by
  rw [Fin.val_succ, Nat.add_comm]

end Cert.KernelIdeal.Talk

end
-- ==== Proof.Contents.lean ====
/- What the buffers hold: the blocks every device sends, the blocks an owner receives, the owner's result block, the
   exchanged result and the whole result, as functions of the sixteen devices' inputs; and the cutting of the buffers
   into their sixteen pieces. -/
module

public import proofs.«01_k».proof.Proof.Ring
public import Idealize.ShloMosaic.Lib.ValueIdxCore
public import Idealize.ShloMosaic.Lib.Pipeline.ValueKit.Geometry

@[expose] public section

noncomputable section

namespace Cert.KernelIdeal.Talk

open Idealize.ShloMosaic Idealize.ShloMosaic.ValueIdx Idealize.ShloMosaic.ValueKit Idealize.SL.Sem Cert.KernelIdeal.Gen

variable {F : FTy → Type} [FloatOps F]

/-- One device's inputs: the queries' input, its projection, the device's keys and values, the output projection. -/
structure Ins (F : FTy → Type) [FloatOps F] where
  x : Vec F S1x1024x1024 .f32
  wq : Vec F S1024x1024 .f32
  k : Vec F S1x1024x8x128 .f32
  v : Vec F S1x1024x8x128 .f32
  wo : Vec F S1024x1024 .f32

/-- The phase of a block of query rows and its place in the phase. -/
def ph (e : Fin 16) : Fin 4 := ⟨e.val % 4, Nat.mod_lt _ (by decide)⟩
def pl (e : Fin 16) : Fin 4 := ⟨e.val / 4, by have := e.isLt; omega⟩
theorem ph_blk (p a : Fin 4) : ph (blk p a) = p := by revert p a; decide
theorem pl_blk (p a : Fin 4) : pl (blk p a) = a := by revert p a; decide
theorem blk_ph_pl (e : Fin 16) : blk (ph e) (pl e) = e := by revert e; decide

/-- The weighted sums of query block `e` over a device's keys. -/
def sentC (i : Ins F) (e : Fin 16) : FVec F S1x64x1024 .fp8e4m3 :=
  ctxBlk (pl e) (phase (ph e) (k0_pay1 i.x i.wq)) (phase (ph e) (k0_pay2 i.k)) (phase (ph e) (k0_pay3 i.v))

/-- The sums of weights of query block `e` over a device's keys. -/
def sentD (i : Ins F) (e : Fin 16) : FVec F S64x8 .bf16 :=
  denBlk (pl e) (phase (ph e) (k0_pay1 i.x i.wq)) (phase (ph e) (k0_pay2 i.k))

theorem sentC_blk (i : Ins F) (p a : Fin 4) : sentC i (blk p a)
    = ctxBlk a (phase p (k0_pay1 i.x i.wq)) (phase p (k0_pay2 i.k)) (phase p (k0_pay3 i.v)) := by
  unfold sentC; rw [ph_blk, pl_blk]
theorem sentD_blk (i : Ins F) (p a : Fin 4) : sentD i (blk p a) = denBlk a (phase p (k0_pay1 i.x i.wq)) (phase p (k0_pay2 i.k)) := by
  unfold sentD; rw [ph_blk, pl_blk]

/-- A block of sums of weights in the shape of its receive slot. -/
def slotOf (w : FVec F S64x8 .bf16) : FVec F S1x64x8 .bf16 := fun y => w (ix2 (y 1) (y 2))

/-- The owner's sums over the sources, in order. -/
def tot (I : Dev nD → Ins F) (c : Dev nD) : FVec F S64x1024 .f32 × FVec F S64x8 .f32 :=
  sources.foldl (fun cl s => (addf cl.1 (ctxIn (sentC (I s) c)), addf cl.2 (denIn (slotOf (sentD (I s) c)))))
    (ctxIn (sentC (I 0) c), denIn (slotOf (sentD (I 0) c)))

/-- The owner's block of the result, for itself and for the others. -/
def mine (I : Dev nD → Ins F) (c : Dev nD) : FVec F S1x64x1024 .f32 := ownOut (tot I c).1 (tot I c).2 (I c).wo
def told (I : Dev nD → Ins F) (c : Dev nD) : FVec F S64x1024 .bf16 := ownSend (tot I c).1 (tot I c).2 (I c).wo

/-- The block an index of 1024 rows lies in, and its row there. -/
def hi (r : Fin 1024) : Fin 16 := ⟨r.val / 64, by have := r.isLt; omega⟩
def lo (r : Fin 1024) : Fin 64 := ⟨r.val % 64, Nat.mod_lt _ (by decide)⟩

/-- What a device holds to send. -/
def SB (i : Ins F) : Vec F S16x64x1024 .fp8e4m3 := fun y => sentC i (y 0) (ix3 (0 : Fin 1) (y 1) (y 2))
def LB (i : Ins F) : Vec F S1024x8 .bf16 := fun y => sentD i (hi (y 0)) (ix2 (lo (y 0)) (y 1))
/-- What an owner has received. -/
def RB (I : Dev nD → Ins F) (c : Dev nD) : Vec F S16x64x1024 .fp8e4m3 := fun y => sentC (I (y 0)) c (ix3 (0 : Fin 1) (y 1) (y 2))
def RL (I : Dev nD → Ins F) (c : Dev nD) : Vec F S16x64x8 .bf16 := fun y => sentD (I (y 0)) c (ix2 (y 1) (y 2))
/-- The exchanged result, the same on every device. -/
def OC (I : Dev nD → Ins F) : Vec F S1024x1024 .bf16 := fun y => told I (hi (y 0)) (ix2 (lo (y 0)) (y 1))
/-- Block `e` of device `c`'s result. -/
def outBlk (I : Dev nD → Ins F) (c e : Dev nD) : FVec F S1x64x1024 .f32 := if e = c then mine I c else k0_pay158 (told I e)
/-- Device `c`'s result. -/
def OUT (I : Dev nD → Ins F) (c : Dev nD) : Vec F S1x1024x1024 .f32 := fun y => outBlk I c (hi (y 1)) (ix3 (0 : Fin 1) (lo (y 1)) (y 2))

/-! ## The pieces -/

theorem inbX (e : Fin 16) : ∀ a, (![64 * e.val, 0] : Fin 2 → ℕ) a + S64x1024.size a ≤ S1024x1024.size a := by revert e; decide
theorem inbO (e : Fin 16) : ∀ a, (![0, 64 * e.val, 0] : Fin 3 → ℕ) a + S1x64x1024.size a ≤ S1x1024x1024.size a := by revert e; decide

/-- Piece `e` of each kind of buffer, as a rectangle. -/
abbrev rC (e : Fin 16) : Rect S16x64x1024 := Rect.unit (s := S16x64x1024) ![e.val, 0, 0] S1x64x1024.size (inbC e)
abbrev rR (e : Fin 16) : Rect S16x64x8 := Rect.unit (s := S16x64x8) ![e.val, 0, 0] S1x64x8.size (inbDR e)
abbrev rD (e : Fin 16) : Rect S1024x8 := Rect.unit (s := S1024x8) ![64 * e.val, 0] S64x8.size (inbD e)
abbrev rX (e : Fin 16) : Rect S1024x1024 := Rect.unit (s := S1024x1024) ![64 * e.val, 0] S64x1024.size (inbX e)
abbrev rO (e : Fin 16) : Rect S1x1024x1024 := Rect.unit (s := S1x1024x1024) ![0, 64 * e.val, 0] S1x64x1024.size (inbO e)

theorem cover_of {s : Shape} (f : s.Idx → Fin 16) (r : Fin 16 → Rect s) (h : ∀ y e, y ∈ (r e).set ↔ f y = e) :
    (∀ e e', e ≠ e' → Disjoint (r e).set (r e').set) ∧ Finset.univ.biUnion (fun e => (r e).set) = Finset.univ := by
  constructor
  · intro e e' hne
    rw [Finset.disjoint_left]
    intro y hy hy'
    exact hne (((h y e).1 hy).symm.trans ((h y e').1 hy'))
  · ext y
    simp only [Finset.mem_biUnion, Finset.mem_univ, true_and, iff_true]
    exact ⟨f y, (h y _).2 rfl⟩

theorem mem_rC (y : S16x64x1024.Idx) (e : Fin 16) : y ∈ (rC e).set ↔ (y 0 : Fin 16) = e := by
  rw [Rect.mem_set_unit]
  have h0 : (y 0).val < 16 := (y 0).isLt
  have h1 : (y 1).val < 64 := (y 1).isLt
  have h2 : (y 2).val < 1024 := (y 2).isLt
  constructor
  · intro h
    have := h 0
    change e.val ≤ (y 0).val ∧ (y 0).val < e.val + 1 at this
    exact Fin.ext (by omega)
  · rintro rfl a
    fin_cases a
    · change (y 0).val ≤ (y 0).val ∧ (y 0).val < (y 0).val + 1; omega
    · change 0 ≤ (y 1).val ∧ (y 1).val < 0 + 64; omega
    · change 0 ≤ (y 2).val ∧ (y 2).val < 0 + 1024; omega

theorem mem_rR (y : S16x64x8.Idx) (e : Fin 16) : y ∈ (rR e).set ↔ (y 0 : Fin 16) = e := by
  rw [Rect.mem_set_unit]
  have h0 : (y 0).val < 16 := (y 0).isLt
  have h1 : (y 1).val < 64 := (y 1).isLt
  have h2 : (y 2).val < 8 := (y 2).isLt
  constructor
  · intro h
    have := h 0
    change e.val ≤ (y 0).val ∧ (y 0).val < e.val + 1 at this
    exact Fin.ext (by omega)
  · rintro rfl a
    fin_cases a
    · change (y 0).val ≤ (y 0).val ∧ (y 0).val < (y 0).val + 1; omega
    · change 0 ≤ (y 1).val ∧ (y 1).val < 0 + 64; omega
    · change 0 ≤ (y 2).val ∧ (y 2).val < 0 + 8; omega

theorem mem_rD (y : S1024x8.Idx) (e : Fin 16) : y ∈ (rD e).set ↔ hi (y 0) = e := by
  rw [Rect.mem_set_unit]
  have h0 : (y 0).val < 1024 := (y 0).isLt
  have h1 : (y 1).val < 8 := (y 1).isLt
  constructor
  · intro h
    have := h 0
    change 64 * e.val ≤ (y 0).val ∧ (y 0).val < 64 * e.val + 64 at this
    exact Fin.ext (by change (y 0).val / 64 = e.val; omega)
  · rintro rfl a
    fin_cases a
    · change 64 * ((y 0).val / 64) ≤ (y 0).val ∧ (y 0).val < 64 * ((y 0).val / 64) + 64; omega
    · change 0 ≤ (y 1).val ∧ (y 1).val < 0 + 8; omega

theorem mem_rX (y : S1024x1024.Idx) (e : Fin 16) : y ∈ (rX e).set ↔ hi (y 0) = e := by
  rw [Rect.mem_set_unit]
  have h0 : (y 0).val < 1024 := (y 0).isLt
  have h1 : (y 1).val < 1024 := (y 1).isLt
  constructor
  · intro h
    have := h 0
    change 64 * e.val ≤ (y 0).val ∧ (y 0).val < 64 * e.val + 64 at this
    exact Fin.ext (by change (y 0).val / 64 = e.val; omega)
  · rintro rfl a
    fin_cases a
    · change 64 * ((y 0).val / 64) ≤ (y 0).val ∧ (y 0).val < 64 * ((y 0).val / 64) + 64; omega
    · change 0 ≤ (y 1).val ∧ (y 1).val < 0 + 1024; omega

theorem mem_rO (y : S1x1024x1024.Idx) (e : Fin 16) : y ∈ (rO e).set ↔ hi (y 1) = e := by
  rw [Rect.mem_set_unit]
  have h0 : (y 0).val < 1 := (y 0).isLt
  have h1 : (y 1).val < 1024 := (y 1).isLt
  have h2 : (y 2).val < 1024 := (y 2).isLt
  constructor
  · intro h
    have := h 1
    change 64 * e.val ≤ (y 1).val ∧ (y 1).val < 64 * e.val + 64 at this
    exact Fin.ext (by change (y 1).val / 64 = e.val; omega)
  · rintro rfl a
    fin_cases a
    · change 0 ≤ (y 0).val ∧ (y 0).val < 0 + 1; omega
    · change 64 * ((y 1).val / 64) ≤ (y 1).val ∧ (y 1).val < 64 * ((y 1).val / 64) + 64; omega
    · change 0 ≤ (y 2).val ∧ (y 2).val < 0 + 1024; omega

theorem pieces_C : (∀ e e', e ≠ e' → Disjoint (rC e).set (rC e').set) ∧ Finset.univ.biUnion (fun e => (rC e).set) = Finset.univ :=
  cover_of (s := S16x64x1024) (fun y => y 0) rC mem_rC
theorem pieces_R : (∀ e e', e ≠ e' → Disjoint (rR e).set (rR e').set) ∧ Finset.univ.biUnion (fun e => (rR e).set) = Finset.univ :=
  cover_of (s := S16x64x8) (fun y => y 0) rR mem_rR
theorem pieces_D : (∀ e e', e ≠ e' → Disjoint (rD e).set (rD e').set) ∧ Finset.univ.biUnion (fun e => (rD e).set) = Finset.univ :=
  cover_of (s := S1024x8) (fun y => hi (y 0)) rD mem_rD
theorem pieces_X : (∀ e e', e ≠ e' → Disjoint (rX e).set (rX e').set) ∧ Finset.univ.biUnion (fun e => (rX e).set) = Finset.univ :=
  cover_of (s := S1024x1024) (fun y => hi (y 0)) rX mem_rX
theorem pieces_O : (∀ e e', e ≠ e' → Disjoint (rO e).set (rO e').set) ∧ Finset.univ.biUnion (fun e => (rO e).set) = Finset.univ :=
  cover_of (s := S1x1024x1024) (fun y => hi (y 1)) rO mem_rO

/-! ## The contents on a piece -/

theorem emb_C (e : Fin 16) (y : S1x64x1024.Idx) : ((rC e).emb y 0 : Fin 16) = e ∧ ((rC e).emb y 1 : Fin 64) = y 1 ∧ ((rC e).emb y 2 : Fin 1024) = y 2 := by
  have h0 : (y 0).val < 1 := (y 0).isLt
  refine ⟨Fin.ext ?_, Fin.ext ?_, Fin.ext ?_⟩ <;> refine (rect_emb_unit_val ..).trans ?_
  · change e.val + (y 0).val = e.val; omega
  · change 0 + (y 1).val = (y 1).val; omega
  · change 0 + (y 2).val = (y 2).val; omega

theorem emb_R (e : Fin 16) (y : S1x64x8.Idx) : ((rR e).emb y 0 : Fin 16) = e ∧ ((rR e).emb y 1 : Fin 64) = y 1 ∧ ((rR e).emb y 2 : Fin 8) = y 2 := by
  have h0 : (y 0).val < 1 := (y 0).isLt
  refine ⟨Fin.ext ?_, Fin.ext ?_, Fin.ext ?_⟩ <;> refine (rect_emb_unit_val ..).trans ?_
  · change e.val + (y 0).val = e.val; omega
  · change 0 + (y 1).val = (y 1).val; omega
  · change 0 + (y 2).val = (y 2).val; omega

theorem emb_D (e : Fin 16) (y : S64x8.Idx) : hi ((rD e).emb y 0) = e ∧ lo ((rD e).emb y 0) = y 0 ∧ ((rD e).emb y 1 : Fin 8) = y 1 := by
  have h0 : (y 0).val < 64 := (y 0).isLt
  have hv : ((rD e).emb y 0 : ℕ) = 64 * e.val + (y 0).val := rect_emb_unit_val ..
  refine ⟨Fin.ext ?_, Fin.ext ?_, Fin.ext ?_⟩
  · show ((rD e).emb y 0 : ℕ) / 64 = e.val; omega
  · show ((rD e).emb y 0 : ℕ) % 64 = (y 0).val; omega
  · refine (rect_emb_unit_val ..).trans ?_; change 0 + (y 1).val = (y 1).val; omega

theorem emb_X (e : Fin 16) (y : S64x1024.Idx) : hi ((rX e).emb y 0) = e ∧ lo ((rX e).emb y 0) = y 0 ∧ ((rX e).emb y 1 : Fin 1024) = y 1 := by
  have h0 : (y 0).val < 64 := (y 0).isLt
  have hv : ((rX e).emb y 0 : ℕ) = 64 * e.val + (y 0).val := rect_emb_unit_val ..
  refine ⟨Fin.ext ?_, Fin.ext ?_, Fin.ext ?_⟩
  · show ((rX e).emb y 0 : ℕ) / 64 = e.val; omega
  · show ((rX e).emb y 0 : ℕ) % 64 = (y 0).val; omega
  · refine (rect_emb_unit_val ..).trans ?_; change 0 + (y 1).val = (y 1).val; omega

theorem emb_O (e : Fin 16) (y : S1x64x1024.Idx) : hi ((rO e).emb y 1) = e ∧ lo ((rO e).emb y 1) = y 1 ∧ ((rO e).emb y 2 : Fin 1024) = y 2 := by
  have h0 : (y 1).val < 64 := (y 1).isLt
  have hv : ((rO e).emb y 1 : ℕ) = 64 * e.val + (y 1).val := rect_emb_unit_val ..
  refine ⟨Fin.ext ?_, Fin.ext ?_, Fin.ext ?_⟩
  · show ((rO e).emb y 1 : ℕ) / 64 = e.val; omega
  · show ((rO e).emb y 1 : ℕ) % 64 = (y 1).val; omega
  · refine (rect_emb_unit_val ..).trans ?_; change 0 + (y 2).val = (y 2).val; omega

theorem ix3_self {b d : ℕ} (y : (⟨3, ![1, b, d]⟩ : Shape).Idx) : ix3 (0 : Fin 1) (y 1 : Fin b) (y 2 : Fin d) = y := by
  funext a
  fin_cases a
  · exact Subsingleton.elim (α := Fin 1) _ _
  · rfl
  · rfl

theorem ix2_self {a b : ℕ} (y : (⟨2, ![a, b]⟩ : Shape).Idx) : ix2 (y 0 : Fin a) (y 1 : Fin b) = y := by
  funext i
  fin_cases i <;> rfl

theorem SB_emb (i : Ins F) (e : Fin 16) (y : S1x64x1024.Idx) : SB i ((rC e).emb y) = sentC i e y := by
  obtain ⟨h0, h1, h2⟩ := emb_C e y
  unfold SB; rw [h0, h1, h2]; exact congrArg _ (ix3_self y)
theorem RB_emb (I : Dev nD → Ins F) (c : Dev nD) (e : Fin 16) (y : S1x64x1024.Idx) : RB I c ((rC e).emb y) = sentC (I e) c y := by
  obtain ⟨h0, h1, h2⟩ := emb_C e y
  unfold RB; rw [h0, h1, h2]; exact congrArg _ (ix3_self y)
theorem LB_emb (i : Ins F) (e : Fin 16) (y : S64x8.Idx) : LB i ((rD e).emb y) = sentD i e y := by
  obtain ⟨h0, h1, h2⟩ := emb_D e y
  unfold LB; rw [h0, h1, h2]; exact congrArg _ (ix2_self y)
theorem RL_emb (I : Dev nD → Ins F) (c : Dev nD) (e : Fin 16) (y : S1x64x8.Idx) : RL I c ((rR e).emb y) = slotOf (sentD (I e) c) y := by
  obtain ⟨h0, h1, h2⟩ := emb_R e y
  unfold RL; rw [h0, h1, h2]; rfl
theorem OC_emb (I : Dev nD → Ins F) (e : Fin 16) (y : S64x1024.Idx) : OC I ((rX e).emb y) = told I e y := by
  obtain ⟨h0, h1, h2⟩ := emb_X e y
  unfold OC; rw [h0, h1, h2]; exact congrArg _ (ix2_self y)
theorem OUT_emb (I : Dev nD → Ins F) (c : Dev nD) (e : Fin 16) (y : S1x64x1024.Idx) : OUT I c ((rO e).emb y) = outBlk I c e y := by
  obtain ⟨h0, h1, h2⟩ := emb_O e y
  unfold OUT; rw [h0, h1, h2]; exact congrArg _ (ix3_self y)

end Cert.KernelIdeal.Talk

end
-- ==== Proof.Protocol.lean ====
/- The protocol by which the sixteen devices exchange their blocks: every device's barrier semaphore is raised once by each
   of the other fifteen, with the slots that device may then write; every transfer pays one duty of its target's receive
   semaphore, with the slot written, and one of its own send semaphore, with the source given back. -/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdeal.Talk

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Pieces of buffers, held -/

/-- Piece `e` of device `c`'s blocks to send, and of the blocks it receives. -/
def pS (c : Dev nD) (e : Fin 16) (f : Vec F S16x64x1024 .fp8e4m3) : sProp 𝕄 :=
  (c : Thread nD τ).loc cc0_scratch0 ↦[(rC e).set]{fullShare} f
def pR (c : Dev nD) (e : Fin 16) (f : Vec F S16x64x1024 .fp8e4m3) : sProp 𝕄 :=
  (c : Thread nD τ).loc cc0_scratch1 ↦[(rC e).set]{fullShare} f
/-- The same of the sums of weights. -/
def pDS (c : Dev nD) (e : Fin 16) (f : Vec F S1024x8 .bf16) : sProp 𝕄 :=
  (c : Thread nD τ).loc cc0_scratch2 ↦[(rD e).set]{fullShare} f
def pDR (c : Dev nD) (e : Fin 16) (f : Vec F S16x64x8 .bf16) : sProp 𝕄 :=
  (c : Thread nD τ).loc cc0_scratch3 ↦[(rR e).set]{fullShare} f
/-- Piece `e` of the exchanged result at a share, and of the result. -/
def pXq (q : PosShare TreeShare) (c : Dev nD) (e : Fin 16) (f : Vec F S1024x1024 .bf16) : sProp 𝕄 :=
  (c : Thread nD τ).loc cc0_scratch4 ↦[(rX e).set]{q} f
abbrev pX (c : Dev nD) (e : Fin 16) (f : Vec F S1024x1024 .bf16) : sProp 𝕄 := pXq fullShare c e f
def pO (c : Dev nD) (e : Fin 16) (f : Vec F S1x1024x1024 .f32) : sProp 𝕄 :=
  (c : Thread nD τ).loc cc0_stg5_0 ↦[(rO e).set]{fullShare} f

omit [FloatOps F] in
instance pS_storable (c : Dev nD) (e f) : BI.Storable (upEmb : UEmb _ 𝕄) (pS (F := F) c e f) := by unfold pS; infer_instance
omit [FloatOps F] in
instance pR_storable (c : Dev nD) (e f) : BI.Storable (upEmb : UEmb _ 𝕄) (pR (F := F) c e f) := by unfold pR; infer_instance
omit [FloatOps F] in
instance pDS_storable (c : Dev nD) (e f) : BI.Storable (upEmb : UEmb _ 𝕄) (pDS (F := F) c e f) := by unfold pDS; infer_instance
omit [FloatOps F] in
instance pDR_storable (c : Dev nD) (e f) : BI.Storable (upEmb : UEmb _ 𝕄) (pDR (F := F) c e f) := by unfold pDR; infer_instance
omit [FloatOps F] in
instance pXq_storable (q) (c : Dev nD) (e f) : BI.Storable (upEmb : UEmb _ 𝕄) (pXq (F := F) q c e f) := by unfold pXq; infer_instance

/-! ## Cells -/

/-- A device's cells: the barrier, and six arrays of sixteen. -/
abbrev Cell : Type := Option (Fin 6 × Fin 16)
abbrev osem (kj : Fin 6 × Fin 16) : SemLoc sig := .dma (dsem kj.1 kj.2)
abbrev csem : Cell → SemLoc sig
  | none => .reg barS
  | some kj => osem kj
abbrev kcell (ck : Dev nD × Cell) : GSem nD τ sig := ((ck.1 : Thread nD τ), csem ck.2)
abbrev barCell (c : Dev nD) : GSem nD τ sig := kcell (c, none)
abbrev dcell (c : Dev nD) (k : Fin 6) (j : Fin 16) : GSem nD τ sig := kcell (c, some (k, j))

/-- The array a DMA semaphore lies in, and its place there. -/
def knd (q : DmaSem sig) : Fin 6 := ⟨(q.val - 6) / 16, by have h : q.val < 102 := q.isLt; omega⟩
def slt (q : DmaSem sig) : Fin 16 := ⟨(q.val - 6) % 16, Nat.mod_lt _ (by decide)⟩
theorem knd_dsem (k : Fin 6) (j : Fin 16) : knd (dsem k j) = k :=
  Fin.ext (by show (6 + 16 * k.val + j.val - 6) / 16 = k.val; have := j.isLt; omega)
theorem slt_dsem (k : Fin 6) (j : Fin 16) : slt (dsem k j) = j :=
  Fin.ext (by show (6 + 16 * k.val + j.val - 6) % 16 = j.val; have := j.isLt; omega)

/-- The cells that take part: of a send array all but the first, of device `c`'s receive arrays all but the `c`-th. -/
def live (c : Dev nD) (k : Fin 6) (j : Fin 16) : Prop := if k.val % 2 = 0 then j ≠ 0 else j ≠ c
instance (c : Dev nD) (k : Fin 6) (j : Fin 16) : Decidable (live c k j) := by unfold live; infer_instance

/-- What one transfer of each array credits. -/
def NC : ℕ := RefSig.tileCredit S64x1024 .fp8e4m3
def NX : ℕ := RefSig.tileCredit S64x1024 .bf16
def ND : ℕ := RefSig.tileCredit S64x8 .bf16
def amt (k : Fin 6) : ℕ := match k with
  | 0 => NC | 1 => NC | 2 => NX | 3 => NX | 4 => ND | 5 => ND
theorem amt_pos (k : Fin 6) : 0 < amt k := by revert k; decide

/-- The device `j` on, for a send semaphore's number `j`. -/
def on (c : Dev nD) (j : Fin 16) : Dev nD := ⟨(c.val + j.val) % 16, Nat.mod_lt _ (by decide)⟩
theorem on_succ (c : Dev nD) (o : Fin 15) : on c o.succ = nx o c := by revert c o; decide

/-- The share of the own result block that the transfer to the device `j` on borrows. -/
def shr (o : Fin 15) : PosShare TreeShare := Transfers.dealOf fullShare (Finset.univ : Finset (Fin 15)) o
def shrAt (j : Fin 16) : PosShare TreeShare := shr ⟨j.val - 1, by have := j.isLt; omega⟩
theorem shrAt_succ (o : Fin 15) : shrAt o.succ = shr o := by
  unfold shrAt; congr 1

/-! ## The schedule -/

variable (I : Dev nD → Ins F)

/-- What the device `o + 1` on hands `c` at the barrier: the slots there that `c` writes. -/
def barPay (c : Dev nD) (o : Fin 15) : sProp 𝕄 :=
  iprop((∃ f, pR (nx o c) c f) ∗ (∃ f, pDR (nx o c) c f) ∗ ∃ f, pX (nx o c) c f)

def dmaPay (c : Dev nD) (k : Fin 6) (j : Fin 16) : sProp 𝕄 := match k with
  | 0 => pS c (on c j) (SB (I c))
  | 1 => pR c j (RB I c)
  | 2 => pXq (shrAt j) c c (OC I)
  | 3 => pX c j (OC I)
  | 4 => pDS c (on c j) (LB (I c))
  | 5 => pDR c j (RL I c)

def Rd : Rounds.Schedule (GSem nD τ sig) (Fin 15) 𝕄 where
  duties g r := if r = 0 then (match g.2 with
    | .reg _ => Finset.univ
    | .dma q => if live g.1.1 (knd q) (slt q) then {0} else ∅) else ∅
  unitless _ := False
  amount g _ _ := match g.2 with
    | .reg _ => 1
    | .dma q => amt (knd q)
  payload g _ d := match g.2 with
    | .reg _ => barPay g.1.1 d
    | .dma q => dmaPay I g.1.1 (knd q) (slt q)
  amount_pos g _ _ _ := by
    rcases g with ⟨t, s | q⟩
    · exact Nat.one_pos
    · exact amt_pos _

instance barPay_storable (c : Dev nD) (o) : BI.Storable (upEmb : UEmb _ 𝕄) (barPay (F := F) c o) := by unfold barPay; infer_instance
instance dmaPay_storable (c : Dev nD) (k j) : BI.Storable (upEmb : UEmb _ 𝕄) (dmaPay I c k j) := by
  unfold dmaPay; split <;> infer_instance

instance Rd_storable (g : GSem nD τ sig) (r : ℕ) (d : Fin 15) : BI.Storable (upEmb : UEmb _ 𝕄) ((Rd I).payload g r d) := by
  rcases g with ⟨t, s | q⟩
  · exact barPay_storable t.1 d
  · exact dmaPay_storable I t.1 (knd q) (slt q)

section Sched
variable (c : Dev nD) (k : Fin 6) (j : Fin 16)

theorem duties_bar : (Rd I).duties (barCell c) 0 = Finset.univ := rfl
theorem duties_live (h : live c k j) : (Rd I).duties (dcell c k j) 0 = {0} := by
  show (if live c (knd (dsem k j)) (slt (dsem k j)) then ({0} : Finset (Fin 15)) else ∅) = {0}
  rw [knd_dsem, slt_dsem, if_pos h]
theorem duties_dead (h : ¬ live c k j) : (Rd I).duties (dcell c k j) 0 = ∅ := by
  show (if live c (knd (dsem k j)) (slt (dsem k j)) then ({0} : Finset (Fin 15)) else ∅) = ∅
  rw [knd_dsem, slt_dsem, if_neg h]
theorem duties_later (g : GSem nD τ sig) : ∀ r, 1 ≤ r → (Rd I).duties g r = ∅ :=
  fun r hr => if_neg (by omega)
theorem duties_none (h : ¬ live c k j) : ∀ r, 0 ≤ r → (Rd I).duties (dcell c k j) r = ∅ := fun r _ => by
  rcases Nat.eq_zero_or_pos r with rfl | hr
  · exact duties_dead I c k j h
  · exact duties_later I _ r hr

theorem amount_bar (d : Fin 15) : (Rd I).amount (barCell c) 0 d = 1 := rfl
theorem amount_dma (d : Fin 15) : (Rd I).amount (dcell c k j) 0 d = amt k := by
  show amt (knd (dsem k j)) = amt k
  rw [knd_dsem]
theorem payload_bar (d : Fin 15) : (Rd I).payload (barCell c) 0 d = barPay c d := rfl
theorem payload_dma (d : Fin 15) : (Rd I).payload (dcell c k j) 0 d = dmaPay I c k j := by
  show dmaPay I c (knd (dsem k j)) (slt (dsem k j)) = dmaPay I c k j
  rw [knd_dsem, slt_dsem]

theorem expect_bar : (Rd I).expect (barCell c) 0 = 15 := by
  unfold Schedule.expect Schedule.amountOf
  rw [duties_bar, Finset.sum_congr rfl fun d _ => amount_bar I c d, Finset.sum_const, Finset.card_univ, Fintype.card_fin, smul_eq_mul]
theorem expect_dma (h : live c k j) : (Rd I).expect (dcell c k j) 0 = amt k := by
  unfold Schedule.expect Schedule.amountOf
  rw [duties_live I c k j h, Finset.sum_singleton, amount_dma]

theorem rest_bar : bigSep ((Rd I).duties (barCell c) 0 \ ∅) (fun d => (Rd I).payload (barCell c) 0 d) = bigSepL shifts fun o => barPay (F := F) c o := by
  rw [Finset.sdiff_empty, duties_bar, bigSep_univ_eq_bigSepL shifts (by decide) (by decide)]
  rfl
theorem rest_dma (h : live c k j) : bigSep ((Rd I).duties (dcell c k j) 0 \ ∅) (fun d => (Rd I).payload (dcell c k j) 0 d) = dmaPay I c k j := by
  rw [Finset.sdiff_empty, duties_live I c k j h, bigSep_singleton, payload_dma]

end Sched

theorem live_send (c : Dev nD) (k : Fin 6) (hk : k.val % 2 = 0) (o : Fin 15) : live c k o.succ := by
  unfold live; rw [if_pos hk]; exact Fin.succ_ne_zero o
theorem live_recv (c : Dev nD) (k : Fin 6) (hk : k.val % 2 ≠ 0) (j : Fin 16) (h : j ≠ c) : live c k j := by
  unfold live; rw [if_neg hk]; exact h
theorem dead_send (c : Dev nD) (k : Fin 6) (hk : k.val % 2 = 0) : ¬ live c k 0 := by
  unfold live; rw [if_pos hk]; exact fun h => h rfl
theorem dead_recv (c : Dev nD) (k : Fin 6) (hk : k.val % 2 ≠ 0) : ¬ live c k c := by
  unfold live; rw [if_neg hk]; exact fun h => h rfl

/-! ## What a device owes, and the levels -/

abbrev Tal : Type := CellTallies nD τ sig Unit

/-- Owed at the barrier, in the first exchange and in the second, for the shifts of a list. -/
def OB (c : Dev nD) (l : List (Fin 15)) : Tal := (l.map fun o => tallyAt (barCell (nx o c)) () 1).sum
def OS (c : Dev nD) (l : List (Fin 15)) : Tal :=
  (l.map fun o => tallyAt (dcell (nx o c) 5 c) () ND + tallyAt (dcell (nx o c) 1 c) () NC).sum
def OX (c : Dev nD) (l : List (Fin 15)) : Tal := (l.map fun o => tallyAt (dcell (nx o c) 3 c) () NX).sum

def O₀ (c : Dev nD) : Tal := OX c shifts + OS c shifts + OB c shifts

def lvk (k : Fin 6) : ℕ := match k with
  | 0 => 0 | 1 => 2 | 2 => 0 | 3 => 3 | 4 => 0 | 5 => 2
def L (g : GSem nD τ sig) : Finset Unit := if g.1.2 = .tc then {()} else ∅
def lv (g : GSem nD τ sig) (_ : Unit) : ℕ := match g.2 with
  | .reg _ => 1
  | .dma q => lvk (knd q)

theorem L_of_ne (g : GSem nD τ sig) (h : g.1.2 ≠ .tc) : L g = ∅ := if_neg h
theorem L_tc (c : Dev nD) (sm : SemLoc sig) : L ((c : Thread nD τ), sm) = {()} := if_pos rfl
theorem lv_dcell (c : Dev nD) (k : Fin 6) (j : Fin 16) : lv (dcell c k j) () = lvk k := by
  show lvk (knd (dsem k j)) = lvk k
  rw [knd_dsem]

theorem sum_pos (f : Fin 15 → Tal) (l : List (Fin 15)) {g : GSem nD τ sig} {u : Unit} (h : 0 < (l.map f).sum g u) : ∃ o, 0 < f o g u := by
  induction l with
  | nil => exact absurd h (Nat.lt_irrefl 0)
  | cons o l ih =>
    rw [List.map_cons, List.sum_cons, Pi.add_apply, Finsupp.add_apply] at h
    by_cases h' : 0 < f o g u
    · exact ⟨o, h'⟩
    · exact ih (by omega)

theorem tally_pos {g' g : GSem nD τ sig} {u : Unit} {n : ℕ} (h : 0 < (tallyAt g' () n : Tal) g u) : g = g' := by
  rw [tallyAt_apply] at h
  by_contra hn
  rw [if_neg (fun h' => hn h'.1)] at h
  exact Nat.lt_irrefl 0 h

theorem OB_pos {c : Dev nD} {l : List (Fin 15)} {g : GSem nD τ sig} {u : Unit} (h : 0 < OB c l g u) : ∃ d, g = barCell d := by
  obtain ⟨o, ho⟩ := sum_pos _ l h
  exact ⟨_, tally_pos ho⟩
theorem OS_pos {c : Dev nD} {l : List (Fin 15)} {g : GSem nD τ sig} {u : Unit} (h : 0 < OS c l g u) : ∃ d k j, lvk k = 2 ∧ g = dcell d k j := by
  obtain ⟨o, ho⟩ := sum_pos _ l h
  rw [Pi.add_apply, Finsupp.add_apply] at ho
  rcases Nat.add_pos_iff_pos_or_pos.mp ho with h5 | h1
  · exact ⟨_, 5, _, rfl, tally_pos h5⟩
  · exact ⟨_, 1, _, rfl, tally_pos h1⟩
theorem OX_pos {c : Dev nD} {l : List (Fin 15)} {g : GSem nD τ sig} {u : Unit} (h : 0 < OX c l g u) : ∃ d k j, lvk k = 3 ∧ g = dcell d k j := by
  obtain ⟨o, ho⟩ := sum_pos _ l h
  exact ⟨_, 3, _, rfl, tally_pos ho⟩

/-- A wait is allowed below everything owed. -/
theorem mayWait_below (c : Dev nD) (sm : SemLoc sig) (n : ℕ) (O : Tal) (hw : lv ((c : Thread nD τ), sm) () ≤ n)
    (hO : ∀ g u, 0 < O g u → (∃ (d : Dev nD) (sm' : SemLoc sig), g = ((d : Thread nD τ), sm')) ∧ n < lv g ()) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨⟨d, sm', rfl⟩, -⟩ := hO g u hg; rw [L_tc]; exact Finset.mem_singleton_self _)
    (fun p hp => by rw [Finset.mem_singleton.mp hp]; exact hw)
    (fun g u hg => (hO g u hg).2)

theorem mayWait_bar (c : Dev nD) : (levAts L lv : sProp 𝕄) ⊢ MayWait (c : Thread nD τ) (.reg barS) () (OX c shifts + OS c shifts) := by
  refine mayWait_below c _ 1 _ (le_refl _) fun g u h => ?_
  rw [Pi.add_apply, Finsupp.add_apply] at h
  by_cases hx : 0 < OX c shifts g u
  · obtain ⟨d, k, j, hk, rfl⟩ := OX_pos hx
    exact ⟨⟨d, _, rfl⟩, by rw [lv_dcell, hk]; decide⟩
  · obtain ⟨d, k, j, hk, rfl⟩ := OS_pos (c := c) (l := shifts) (g := g) (u := u) (by omega)
    exact ⟨⟨d, _, rfl⟩, by rw [lv_dcell, hk]; decide⟩

theorem mayWait_recv (c : Dev nD) (k : Fin 6) (j : Fin 16) (hk : lvk k ≤ 2) :
    (levAts L lv : sProp 𝕄) ⊢ MayWait (c : Thread nD τ) (.dma (dsem k j)) () (OX c shifts) := by
  refine mayWait_below c _ 2 _ (by rw [lv_dcell]; exact hk) fun g u h => ?_
  obtain ⟨d, k, j, hk, rfl⟩ := OX_pos h
  exact ⟨⟨d, _, rfl⟩, by rw [lv_dcell, hk]; decide⟩

/-- The staging semaphores come before the kernel's own. -/
theorem mayWait_stage (c : Dev nD) (q : DmaSem sig) (hq : q.val < 6) (O : Tal) (hO : O = O₀ c ∨ O = 0) :
    (levAts L lv : sProp 𝕄) ⊢ MayWait (c : Thread nD τ) (.dma q) () O := by
  rcases hO with rfl | rfl
  · have hk : knd q = 0 := Fin.ext (by show (q.val - 6) / 16 = 0; omega)
    refine mayWait_below c _ 0 _ (by show lvk (knd q) ≤ 0; rw [hk]; exact le_refl _) fun g u h => ?_
    unfold O₀ at h
    rw [Pi.add_apply, Finsupp.add_apply, Pi.add_apply, Finsupp.add_apply] at h
    by_cases hx : 0 < OX c shifts g u
    · obtain ⟨d, k, j, hk, rfl⟩ := OX_pos hx
      exact ⟨⟨d, _, rfl⟩, by rw [lv_dcell, hk]; decide⟩
    by_cases hs : 0 < OS c shifts g u
    · obtain ⟨d, k, j, hk, rfl⟩ := OS_pos hs
      exact ⟨⟨d, _, rfl⟩, by rw [lv_dcell, hk]; decide⟩
    · obtain ⟨d, rfl⟩ := OB_pos (c := c) (l := shifts) (g := g) (u := u) (by omega)
      exact ⟨⟨d, _, rfl⟩, Nat.one_pos⟩
  · rw [MayWait_zero]; iintro -; iempintro

end Cert.KernelIdeal.Talk

end
-- ==== Proof.Loops.lean ====
/- Rules for the loops of the kernel, for loads and stores of one piece of a buffer, and for taking a family over the
   devices, or over the slots, apart along the ring. -/
module

public import proofs.«01_k».proof.Proof.Protocol

@[expose] public section

noncomputable section

namespace Cert.KernelIdeal.Talk

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev 𝒱₀ : Variants := Variants.none

/-- A program of the kernel's, run by device `c`. -/
abbrev WP (c : Dev nD) {α : Type} (p : P F α) (Q : α → sProp 𝕄) : sProp 𝕄 :=
  wp frame (wpE (defs₀ (F := F)) 𝒱₀ (c : Thread nD τ) none) Set.univ p Q

theorem ret_WP (c : Dev nD) {α : Type} {a : α} {Q : α → sProp 𝕄} : Q a ⊢ WP c (.ret a) Q := by
  unfold WP
  rw [wp_ret]
  iintro H
  imodintro
  iexact H

/-! ## Loops -/

theorem wp_each (c : Dev nD) {ι : Type} (f : ι → P F PUnit) (R : sProp 𝕄) [Persistent R] (A B : ι → sProp 𝕄) (Inv : List ι → sProp 𝕄)
    (h : ∀ i l, iprop(R ∗ Inv (i :: l) ∗ A i) ⊢ WP c (f i) (fun _ => iprop(Inv l ∗ B i))) (l : List ι) :
    iprop(R ∗ Inv l ∗ bigSepL l A) ⊢ WP c (each l f) (fun _ => iprop(Inv [] ∗ bigSepL l B)) := by
  induction l with
  | nil =>
    unfold each
    rw [show (pure PUnit.unit : P F PUnit) = .ret ⟨⟩ from rfl]
    unfold WP
    rw [wp_ret]
    iintro ⟨-, HI, HA⟩
    imodintro
    isplitl [HI]
    · iexact HI
    · iexact HA
  | cons i l ih =>
    unfold each
    unfold WP
    rw [wp_bind, bigSepL_cons']
    iintro ⟨#HR, HI, HA, HL⟩
    iapply (wp_wand_r frame (wpE (defs₀ (F := F)) 𝒱₀ (c : Thread nD τ) none) Set.univ)
    isplitl [HI HA]
    · iapply (h i l)
      isplitr; · iexact HR
      isplitl [HI] <;> iassumption
    iintro %u ⟨HI, HB⟩
    iapply (wp_wand_r frame (wpE (defs₀ (F := F)) 𝒱₀ (c : Thread nD τ) none) Set.univ)
    isplitl [HI HL]
    · iapply ih
      isplitr; · iexact HR
      isplitl [HI] <;> iassumption
    iintro %u' ⟨HI, HBs⟩
    rw [bigSepL_cons']
    isplitl [HI]; · iexact HI
    isplitl [HB] <;> iassumption

theorem wp_thread (c : Dev nD) {ι S : Type} (f : ι → S → P F S) (g : S → ι → S) (R : sProp 𝕄)
    (h : ∀ i s, R ⊢ WP c (f i s) (fun s' => iprop(⌜s' = g s i⌝ ∗ R))) (l : List ι) (s : S) :
    R ⊢ WP c (thread l f s) (fun s' => iprop(⌜s' = l.foldl g s⌝ ∗ R)) := by
  induction l generalizing s with
  | nil =>
    unfold thread
    rw [show (pure s : P F S) = .ret s from rfl]
    unfold WP
    rw [wp_ret]
    iintro HR
    imodintro
    isplitr
    · ipureintro; rfl
    · iexact HR
  | cons i l ih =>
    unfold thread
    unfold WP
    rw [wp_bind]
    iintro HR
    iapply (wp_wand_r frame (wpE (defs₀ (F := F)) 𝒱₀ (c : Thread nD τ) none) Set.univ)
    isplitl [HR]
    · iapply (h i s); iexact HR
    iintro %s' ⟨%hs, HR⟩
    subst hs
    iapply (ih _); iexact HR

/-! ## One piece of a buffer -/

section Pieces
variable (c : Dev nD) {α : Type}

/-- A load of a piece reads its contents. -/
theorem load_piece {cs : CoreSpace} {i : Fin (sig.nNear Kind.tc cs)} {hκ : sig.names Kind.tc cs i = true}
    {r : Rect (sig.tyNear Kind.tc cs i).shape} {w : r.shape.Idx → Elt F (sig.tyNear Kind.tc cs i).elt}
    {hl : (Memref.whole ⟨cs, i, hκ⟩ : Memref sig Kind.tc cs (sig.tyNear Kind.tc cs i).shape (sig.tyNear Kind.tc cs i).elt).view.LoadsAt r.toLoadRect}
    {k : (r.shape.Idx → Elt F (sig.tyNear Kind.tc cs i).elt) → P F α} {Q : α → sProp 𝕄}
    {S : Finset (sig.tyNear Kind.tc cs i).shape.Idx} {q : PosShare TreeShare} {f : (sig.tyNear Kind.tc cs i).Contents (Elt F)}
    (hS : r.set ⊆ S) (hf : ∀ y, f (r.emb y) = w y) :
    ((c : Thread nD τ).loc ⟨cs, i, hκ⟩ ↦[S]{q} f)
      ⊢ iprop((((c : Thread nD τ).loc ⟨cs, i, hκ⟩ ↦[S]{q} f) -∗ WP c (k w) Q) -∗ WP c (.op (.load (Memref.whole ⟨cs, i, hκ⟩) r.toLoadRect hl) k) Q) := by
  have hw : (View.slice (View.whole ⟨cs, i, hκ⟩) r).read (Elt F) f = w := funext fun y => hf y
  rw [← hw]
  exact wp_load_rect 𝒱₀ (c : Thread nD τ) none Set.univ (m := Memref.whole ⟨cs, i, hκ⟩) (r := r) (f := f) (S := S)
    ((subset_of_eq (View.set_slice_whole (sig := sig) (κ := Kind.tc) ⟨cs, i, hκ⟩ r)).trans hS)

/-- A store to a piece leaves it holding what is stored. -/
theorem store_piece {cs : CoreSpace} {i : Fin (sig.nNear Kind.tc cs)} {hκ : sig.names Kind.tc cs i = true}
    {r : Rect (sig.tyNear Kind.tc cs i).shape} {w : r.shape.Idx → Elt F (sig.tyNear Kind.tc cs i).elt}
    {hx : ((Memref.whole ⟨cs, i, hκ⟩ : Memref sig Kind.tc cs (sig.tyNear Kind.tc cs i).shape (sig.tyNear Kind.tc cs i).elt).access r).Stores Finset.univ}
    {hm : (Finset.univ : Finset r.shape.Idx) = Finset.univ ∨ ∀ a, r.stride a = 1}
    {k : PUnit → P F α} {Q : α → sProp 𝕄} {f : (sig.tyNear Kind.tc cs i).Contents (Elt F)} {S : Finset (sig.tyNear Kind.tc cs i).shape.Idx}
    (g : (sig.tyNear Kind.tc cs i).Contents (Elt F)) (hS : r.set = S) (hg : ∀ y, g (r.emb y) = w y) :
    ((c : Thread nD τ).loc ⟨cs, i, hκ⟩ ↦[S]{fullShare} f)
      ⊢ iprop((((c : Thread nD τ).loc ⟨cs, i, hκ⟩ ↦[S]{fullShare} g) -∗ WP c (k ⟨⟩) Q)
          -∗ WP c (.op (.store (Memref.whole ⟨cs, i, hκ⟩) r w Finset.univ hx hm) k) Q) := by
  subst hS
  have he : ((c : Thread nD τ).loc ⟨cs, i, hκ⟩ ↦[r.set]{fullShare} g : sProp 𝕄)
      = ((c : Thread nD τ).loc ⟨cs, i, hκ⟩ ↦[r.set]{fullShare} ((View.slice (View.whole ⟨cs, i, hκ⟩) r).write (Elt F) f w Finset.univ)) := by
    refine pointsTo_congr fun y hy => ?_
    rw [← Rect.map_emb_univ] at hy
    obtain ⟨z, -, rfl⟩ := Finset.mem_map.mp hy
    rw [hg]
    exact (View.write_emb_of_mem (v := View.slice (View.whole ⟨cs, i, hκ⟩) r) f w (Finset.mem_univ z)).symm
  rw [he]
  exact wp_store 𝒱₀ (c : Thread nD τ) none Set.univ (m := Memref.whole ⟨cs, i, hκ⟩) (r := r) (f := f) (S := r.set) (hx := hx) (hm := hm) (k := k) (Q := Q)
    (subset_of_eq (View.set_slice_whole (sig := sig) (κ := Kind.tc) ⟨cs, i, hκ⟩ r))

end Pieces

/-! ## Families along the ring -/

theorem bigSep_nx (c : Dev nD) (Φ : Fin 16 → sProp 𝕄) : bigSep Finset.univ Φ = iprop(Φ c ∗ bigSepL shifts fun o => Φ (nx o c)) := by
  rw [bigSep_univ_eq_bigSepL (c :: shifts.map fun o => nx o c) (by revert c; decide) (by revert c; decide), bigSepL_cons', bigSepL_map]
theorem bigSep_pv (c : Dev nD) (Φ : Fin 16 → sProp 𝕄) : bigSep Finset.univ Φ = iprop(Φ c ∗ bigSepL shifts fun o => Φ (pv o c)) := by
  rw [bigSep_univ_eq_bigSepL (c :: shifts.map fun o => pv o c) (by revert c; decide) (by revert c; decide), bigSepL_cons', bigSepL_map]
theorem bigSep_succ (Φ : Fin 16 → sProp 𝕄) : bigSep Finset.univ Φ = iprop(Φ 0 ∗ bigSepL shifts fun o => Φ o.succ) := by
  rw [bigSep_univ_eq_bigSepL ((0 : Fin 16) :: shifts.map Fin.succ) (by decide) (by decide), bigSepL_cons', bigSepL_map]
/-- Shifts in the opposite order. -/
theorem bigSepL_rev (Φ : Fin 15 → sProp 𝕄) : bigSepL shifts Φ = bigSepL shifts fun o => Φ o.rev := by
  rw [← bigSep_univ_eq_bigSepL shifts (by decide) (by decide), bigSep_univ_eq_bigSepL (shifts.map Fin.rev) (by decide) (by decide), bigSepL_map]
/-- Sixteen blocks, as four phases of four. -/
theorem bigSep_blk (Φ : Fin 16 → sProp 𝕄) : bigSep Finset.univ Φ = bigSepL quarters fun p => bigSepL quarters fun a => Φ (blk p a) := by
  rw [bigSep_univ_eq_bigSepL ((quarters.map fun p => quarters.map fun a => blk p a).flatten) (by decide) (by decide)]
  simp only [quarters, List.map_cons, List.map_nil, List.flatten_cons, List.flatten_nil, bigSepL_append, bigSepL_cons', bigSepL_nil]

end Cert.KernelIdeal.Talk

end
-- ==== Proof.Moves.lean ====
/- The moves of the protocol, each as one rule: the three kinds of transfer and the waits. -/
module

public import proofs.«01_k».proof.Proof.Loops
public import Idealize.ShloMosaic.Lib.ValueLayout

@[expose] public section

noncomputable section

namespace Cert.KernelIdeal.Talk

open Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × Cell → ℕ)

/-! ## What every device knows -/

/-- Every cell's invariant and that its first round is reached, and the levels. -/
def ctx : sProp 𝕄 :=
  iprop((bigSep Finset.univ fun ck : Dev nD × Cell => iprop(cellInv ER (Rd I) (K ck) (kcell ck) ∗ reached ER (kcell ck) 0)) ∗ (levAts L lv : sProp 𝕄))

instance ctx_persistent : Persistent (ctx I K) := by unfold ctx; infer_instance

theorem ctx_inv (ck : Dev nD × Cell) : ctx I K ⊢ cellInv ER (Rd I) (K ck) (kcell ck) := by
  unfold ctx
  iintro ⟨H, -⟩
  ihave Hc := (show (bigSep Finset.univ fun ck : Dev nD × Cell => (iprop(cellInv ER (Rd I) (K ck) (kcell ck) ∗ reached ER (kcell ck) 0) : sProp 𝕄))
    ⊢ iprop(cellInv ER (Rd I) (K ck) (kcell ck) ∗ reached ER (kcell ck) 0) from bigSep_elim (Finset.mem_univ ck)) $$ H
  icases Hc with ⟨Hi, -⟩
  iexact Hi
theorem ctx_reached (ck : Dev nD × Cell) : ctx I K ⊢ reached ER (kcell ck) 0 := by
  unfold ctx
  iintro ⟨H, -⟩
  ihave Hc := (show (bigSep Finset.univ fun ck : Dev nD × Cell => (iprop(cellInv ER (Rd I) (K ck) (kcell ck) ∗ reached ER (kcell ck) 0) : sProp 𝕄))
    ⊢ iprop(cellInv ER (Rd I) (K ck) (kcell ck) ∗ reached ER (kcell ck) 0) from bigSep_elim (Finset.mem_univ ck)) $$ H
  icases Hc with ⟨-, Hr⟩
  iexact Hr
theorem ctx_lev : ctx I K ⊢ (levAts L lv : sProp 𝕄) := by
  unfold ctx
  iintro ⟨-, H⟩
  iexact H

/-! ## Waits for transfers -/

variable (c : Dev nD) {α : Type}

theorem wait_dma (k : Fin 6) (j : Fin 16) (hl : live c k j) {q : DmaSem sig} (hq : q = dsem k j) {sp sp' : Space} {s : Shape} {e : EltTy}
    {src : Memref sig Kind.tc sp s e} {dst : Memref sig Kind.tc sp' s e} {h₁ : src.view.WordExact} {h₂ : dst.view.WordExact}
    (ha : dst.view.dmaCredit = amt k) {p : PUnit → P F α} {Q : α → sProp 𝕄} {O : Tal} {W : Waits sig Unit} :
    iprop(ctx I K ∗ cred (tallyAt (dcell c k j) () (amt k)) ∗ owes (c : Thread nD τ) O W ∗ MayWait (c : Thread nD τ) (osem (k, j)) () O
        ∗ atPos ER (dcell c k j) 0 ∅ 0)
      ⊢ iprop((((∃ W', owes (c : Thread nD τ) O W') ∗ atPos ER (dcell c k j) 1 ∅ 0 ∗ dmaPay I c k j) -∗ WP c (p ⟨⟩) Q)
          -∗ WP c (.op (.waitDma2 q src dst h₁ h₂) p) Q) := by
  subst hq
  iintro ⟨#HC, Hcr, HO, HM, Hat⟩ Hk
  iapply (Rounds.wp_wait_rest_token 𝒱₀ ER (Rd I) (c : Thread nD τ) none (κ := K (c, some (k, j)))
      (wpE_waitDma2_eq 𝒱₀ (c : Thread nD τ) none Set.univ) (Set.mem_univ _) () (O := O) (W := W) (R := 0) (m := 0) (T := ∅)
      (by rw [Nat.zero_add, ha]; exact (expect_dma I c k j hl).symm)) $$ [Hcr HO HM Hat]
  · isplitr; · iapply (ctx_inv I K (c, some (k, j))); iexact HC
    isplitl [Hcr]; · rw [ha]; iexact Hcr
    isplitl [HO]; · iexact HO
    isplitl [HM]; · iexact HM
    iexact Hat
  iintro ⟨HO, Hat, -, Hp⟩
  ihave Hp := (Entails.of_eq (rest_dma I c k j hl)) $$ Hp
  iapply Hk
  isplitl [HO]; · iexists _; iexact HO
  isplitl [Hat]; · iexact Hat
  iexact Hp

/-! ## The slots as pieces -/

theorem setS {off : Fin 3 → ℕ} {h} {e : Fin 16} (ho : off = ![e.val, 0, 0]) : (slotC ctxS off h).view.set = (rC e).set := by
  subst ho; exact (View.set_reshape _ _).trans (View.set_slice_whole (sig := sig) (κ := Kind.tc) cc0_scratch0 (rC e))
theorem setR {off : Fin 3 → ℕ} {h} {e : Fin 16} (ho : off = ![e.val, 0, 0]) : (slotC ctxR off h).view.set = (rC e).set := by
  subst ho; exact (View.set_reshape _ _).trans (View.set_slice_whole (sig := sig) (κ := Kind.tc) cc0_scratch1 (rC e))
theorem setDR {off : Fin 3 → ℕ} {h} {e : Fin 16} (ho : off = ![e.val, 0, 0]) : (slotD off h).view.set = (rR e).set := by
  subst ho; exact (View.set_reshape _ _).trans (View.set_slice_whole (sig := sig) (κ := Kind.tc) cc0_scratch3 (rR e))
theorem setDS {off : Fin 2 → ℕ} {h} {e : Fin 16} (ho : off = ![64 * e.val, 0]) : (rowsD off h).view.set = (rD e).set := by
  subst ho; exact View.set_slice_whole (sig := sig) (κ := Kind.tc) cc0_scratch2 (rD e)
theorem setX {off : Fin 2 → ℕ} {h} {e : Fin 16} (ho : off = ![64 * e.val, 0]) : (rowsX off h).view.set = (rX e).set := by
  subst ho; exact View.set_slice_whole (sig := sig) (κ := Kind.tc) cc0_scratch4 (rX e)

/-- What a transfer of weighted sums leaves in the slot. -/
theorem landC {n : Dev nD} {offs offd : Fin 3 → ℕ} {hs hd} (hos : offs = ![n.val, 0, 0]) (hod : offd = ![c.val, 0, 0])
    (f : Vec F S16x64x1024 .fp8e4m3) :
    ∀ y ∈ (rC c).set, (slotC ctxR offd hd).view.write (Elt F) f ((slotC ctxS offs hs).view.read (Elt F) (SB (I c))) Finset.univ y = RB I n y := by
  subst hos hod
  intro y hy
  rw [← setR (h := hd) rfl] at hy
  obtain ⟨z, -, rfl⟩ := Finset.mem_map.mp hy
  refine (View.write_emb_of_mem (v := (slotC ctxR ![c.val, 0, 0] hd).view) f _ (Finset.mem_univ z)).trans ?_
  exact (SB_emb (I c) n _).trans (RB_emb I n c _).symm

/-- What a transfer of sums of weights leaves in the slot. -/
theorem landD {n : Dev nD} {offs : Fin 2 → ℕ} {offd : Fin 3 → ℕ} {hs hd} (hos : offs = ![64 * n.val, 0]) (hod : offd = ![c.val, 0, 0])
    (f : Vec F S16x64x8 .bf16) :
    ∀ y ∈ (rR c).set, (slotD offd hd).view.write (Elt F) f ((rowsD offs hs).view.read (Elt F) (LB (I c))) Finset.univ y = RL I n y := by
  subst hos hod
  intro y hy
  rw [← setDR (h := hd) rfl] at hy
  obtain ⟨z, -, rfl⟩ := Finset.mem_map.mp hy
  refine (View.write_emb_of_mem (v := (slotD ![c.val, 0, 0] hd).view) f _ (Finset.mem_univ z)).trans ?_
  refine (LB_emb (I c) n z).trans (Eq.trans ?_ (RL_emb I n c (Shape.reshapeEquiv _ z)).symm)
  have hz : z = ix2 (z 0 : Fin 64) (z 1 : Fin 8) := (ix2_self z).symm
  have he : ∀ h : S64x8.numel = S1x64x8.numel, Shape.reshapeEquiv h z = ix3 (0 : Fin 1) (z 0 : Fin 64) (z 1 : Fin 8) := fun h => by
    conv_lhs => rw [hz]
    exact reshapeEquiv_ix2_1ab _ _ _
  unfold slotOf
  rw [he]
  exact congrArg _ hz

/-- What a transfer of results leaves in the rows. -/
theorem landX {offs offd : Fin 2 → ℕ} {hs hd} (hos : offs = ![64 * c.val, 0]) (hod : offd = ![64 * c.val, 0]) (f : Vec F S1024x1024 .bf16) :
    ∀ y ∈ (rX c).set, (rowsX offd hd).view.write (Elt F) f ((rowsX offs hs).view.read (Elt F) (OC I)) Finset.univ y = OC I y := by
  subst hos hod
  intro y hy
  rw [← setX (h := hd) rfl] at hy
  obtain ⟨z, -, rfl⟩ := Finset.mem_map.mp hy
  exact View.write_emb_of_mem (v := (rowsX ![64 * c.val, 0] hd).view) f _ (Finset.mem_univ z)

/-! ## The transfers -/

theorem send_ctx (o : Fin 15) {n : Dev nD} (hn : n = nx o c) {offs offd : Fin 3 → ℕ} {hs hd} (hos : offs = ![(nx o c).val, 0, 0]) (hod : offd = ![c.val, 0, 0])
    {js jr : DmaSem sig} (hjs : js = dsem 0 o.succ) (hjr : jr = dsem 1 c) {hsc h₁ h₂ h₃} {p : PUnit → P F α} {Q : α → sProp 𝕄} {O : Tal} {W : Waits sig Unit} :
    iprop(ctx I K ∗ pS c (nx o c) (SB (I c)) ∗ (∃ f, pR (nx o c) c f) ∗ owes (c : Thread nD τ) (O + tallyAt (dcell (nx o c) 1 c) () NC) W
        ∗ dutyTok ER (dcell c 0 o.succ) 0 0 ∗ dutyTok ER (dcell (nx o c) 1 c) 0 0)
      ⊢ iprop(((cred (tallyAt (dcell c 0 o.succ) () NC) ∗ owes (c : Thread nD τ) O W) -∗ WP c (p ⟨⟩) Q)
          -∗ WP c (.op (.enqueueDma (slotC ctxS offs hs) (.remote (Dev.tc n) (slotC ctxR offd hd) (.dma js) hsc) (.dma jr) h₁ h₂ h₃) p) Q) := by
  subst hn hjs hjr
  iintro ⟨#HC, Hs, ⟨%f, Hd⟩, HO, Ht, Ht'⟩ Hk
  iapply (Rounds.wp_send_pointsTo 𝒱₀ ER (Rd I) (c : Thread nD τ) none (κ₁ := K (c, some (0, o.succ))) (κ₂ := K (nx o c, some (1, c)))
      (r₁ := 0) (r₂ := 0) (d₁ := 0) (d₂ := 0) (q := fullShare) (fs := SB (I c)) (fd := f)
      (by rw [duties_live I c 0 o.succ (live_send c 0 rfl o)]; exact Finset.mem_singleton_self _)
      (by rw [duties_live I (nx o c) 1 c (live_recv (nx o c) 1 (by decide) c (nx_ne o c).symm)]; exact Finset.mem_singleton_self _)
      () () NC rfl (amount_dma I c 0 o.succ 0) (amount_dma I (nx o c) 1 c 0) O rfl (W := W)
      (by rw [payload_dma, setS hos]; show _ ⊢ pS c (on c o.succ) (SB (I c)); rw [on_succ]; exact .rfl)
      (by rw [payload_dma, setR hod]; exact Entails.of_eq (pointsTo_congr (landC I c hos hod f)))) $$ [Hs Hd HO Ht Ht']
  · isplitr; · iapply (ctx_inv I K (c, some (0, o.succ))); iexact HC
    isplitr; · iapply (ctx_inv I K (nx o c, some (1, c))); iexact HC
    isplitl [Hs]; · rw [setS hos]; unfold pS; iexact Hs
    isplitl [Hd]; · rw [setR hod]; unfold pR; iexact Hd
    isplitl [HO]; · iexact HO
    isplitl [Ht]; · iexact Ht
    isplitr; · iapply (ctx_reached I K (c, some (0, o.succ))); iexact HC
    isplitl [Ht']; · iexact Ht'
    iapply (ctx_reached I K (nx o c, some (1, c))); iexact HC
  iexact Hk

theorem send_den (o : Fin 15) {n : Dev nD} (hn : n = nx o c) {offs : Fin 2 → ℕ} {offd : Fin 3 → ℕ} {hs hd} (hos : offs = ![64 * (nx o c).val, 0]) (hod : offd = ![c.val, 0, 0])
    {js jr : DmaSem sig} (hjs : js = dsem 4 o.succ) (hjr : jr = dsem 5 c) {hsc h₁ h₂ h₃} {p : PUnit → P F α} {Q : α → sProp 𝕄} {O : Tal} {W : Waits sig Unit} :
    iprop(ctx I K ∗ pDS c (nx o c) (LB (I c)) ∗ (∃ f, pDR (nx o c) c f) ∗ owes (c : Thread nD τ) (O + tallyAt (dcell (nx o c) 5 c) () ND) W
        ∗ dutyTok ER (dcell c 4 o.succ) 0 0 ∗ dutyTok ER (dcell (nx o c) 5 c) 0 0)
      ⊢ iprop(((cred (tallyAt (dcell c 4 o.succ) () ND) ∗ owes (c : Thread nD τ) O W) -∗ WP c (p ⟨⟩) Q)
          -∗ WP c (.op (.enqueueDma (rowsD offs hs) (.remote (Dev.tc n) (slotD offd hd) (.dma js) hsc) (.dma jr) h₁ h₂ h₃) p) Q) := by
  subst hn hjs hjr
  iintro ⟨#HC, Hs, ⟨%f, Hd⟩, HO, Ht, Ht'⟩ Hk
  iapply (Rounds.wp_send_pointsTo 𝒱₀ ER (Rd I) (c : Thread nD τ) none (κ₁ := K (c, some (4, o.succ))) (κ₂ := K (nx o c, some (5, c)))
      (r₁ := 0) (r₂ := 0) (d₁ := 0) (d₂ := 0) (q := fullShare) (fs := LB (I c)) (fd := f)
      (by rw [duties_live I c 4 o.succ (live_send c 4 rfl o)]; exact Finset.mem_singleton_self _)
      (by rw [duties_live I (nx o c) 5 c (live_recv (nx o c) 5 (by decide) c (nx_ne o c).symm)]; exact Finset.mem_singleton_self _)
      () () ND rfl (amount_dma I c 4 o.succ 0) (amount_dma I (nx o c) 5 c 0) O rfl (W := W)
      (by rw [payload_dma, setDS hos]; show _ ⊢ pDS c (on c o.succ) (LB (I c)); rw [on_succ]; exact .rfl)
      (by rw [payload_dma, setDR hod]; exact Entails.of_eq (pointsTo_congr (landD I c hos hod f)))) $$ [Hs Hd HO Ht Ht']
  · isplitr; · iapply (ctx_inv I K (c, some (4, o.succ))); iexact HC
    isplitr; · iapply (ctx_inv I K (nx o c, some (5, c))); iexact HC
    isplitl [Hs]; · rw [setDS hos]; unfold pDS; iexact Hs
    isplitl [Hd]; · rw [setDR hod]; unfold pDR; iexact Hd
    isplitl [HO]; · iexact HO
    isplitl [Ht]; · iexact Ht
    isplitr; · iapply (ctx_reached I K (c, some (4, o.succ))); iexact HC
    isplitl [Ht']; · iexact Ht'
    iapply (ctx_reached I K (nx o c, some (5, c))); iexact HC
  iexact Hk

theorem send_out (o : Fin 15) {n : Dev nD} (hn : n = nx o c) {offs offd : Fin 2 → ℕ} {hs hd} (hos : offs = ![64 * c.val, 0]) (hod : offd = ![64 * c.val, 0])
    {js jr : DmaSem sig} (hjs : js = dsem 2 o.succ) (hjr : jr = dsem 3 c) {hsc h₁ h₂ h₃} {p : PUnit → P F α} {Q : α → sProp 𝕄} {O : Tal} {W : Waits sig Unit} :
    iprop(ctx I K ∗ pXq (shr o) c c (OC I) ∗ (∃ f, pX (nx o c) c f) ∗ owes (c : Thread nD τ) (O + tallyAt (dcell (nx o c) 3 c) () NX) W
        ∗ dutyTok ER (dcell c 2 o.succ) 0 0 ∗ dutyTok ER (dcell (nx o c) 3 c) 0 0)
      ⊢ iprop(((cred (tallyAt (dcell c 2 o.succ) () NX) ∗ owes (c : Thread nD τ) O W) -∗ WP c (p ⟨⟩) Q)
          -∗ WP c (.op (.enqueueDma (rowsX offs hs) (.remote (Dev.tc n) (rowsX offd hd) (.dma js) hsc) (.dma jr) h₁ h₂ h₃) p) Q) := by
  subst hn hjs hjr
  iintro ⟨#HC, Hs, ⟨%f, Hd⟩, HO, Ht, Ht'⟩ Hk
  iapply (Rounds.wp_send_pointsTo 𝒱₀ ER (Rd I) (c : Thread nD τ) none (κ₁ := K (c, some (2, o.succ))) (κ₂ := K (nx o c, some (3, c)))
      (r₁ := 0) (r₂ := 0) (d₁ := 0) (d₂ := 0) (q := shr o) (fs := OC I) (fd := f)
      (by rw [duties_live I c 2 o.succ (live_send c 2 rfl o)]; exact Finset.mem_singleton_self _)
      (by rw [duties_live I (nx o c) 3 c (live_recv (nx o c) 3 (by decide) c (nx_ne o c).symm)]; exact Finset.mem_singleton_self _)
      () () NX rfl (amount_dma I c 2 o.succ 0) (amount_dma I (nx o c) 3 c 0) O rfl (W := W)
      (by rw [payload_dma, setX hos]; show _ ⊢ pXq (shrAt o.succ) c c (OC I); rw [shrAt_succ]; exact .rfl)
      (by rw [payload_dma, setX hod]; exact Entails.of_eq (pointsTo_congr (landX I c hos hod f)))) $$ [Hs Hd HO Ht Ht']
  · isplitr; · iapply (ctx_inv I K (c, some (2, o.succ))); iexact HC
    isplitr; · iapply (ctx_inv I K (nx o c, some (3, c))); iexact HC
    isplitl [Hs]; · rw [setX hos]; unfold pXq; iexact Hs
    isplitl [Hd]; · rw [setX hod]; unfold pX pXq; iexact Hd
    isplitl [HO]; · iexact HO
    isplitl [Ht]; · iexact Ht
    isplitr; · iapply (ctx_reached I K (c, some (2, o.succ))); iexact HC
    isplitl [Ht']; · iexact Ht'
    iapply (ctx_reached I K (nx o c, some (3, c))); iexact HC
  iexact Hk

end Cert.KernelIdeal.Talk

end
-- ==== Proof.Steps.lean ====
/- The steps of the kernel's loops, each taken by the moves of the protocol, and the loops of them. -/
module

public import proofs.«01_k».proof.Proof.Moves

@[expose] public section

set_option maxRecDepth 8000

noncomputable section

namespace Cert.KernelIdeal.Talk

open Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × Cell → ℕ) (c : Dev nD)

/-- Device `c` owes `O`. -/
abbrev Owes (O : Tal) : sProp 𝕄 := iprop(∃ W, owes (c : Thread nD τ) O W)

theorem OB_cons (o : Fin 15) (l : List (Fin 15)) : OB c (o :: l) = OB c l + tallyAt (barCell (nx o c)) () 1 := by
  unfold OB; rw [List.map_cons, List.sum_cons, add_comm]
theorem OS_cons (o : Fin 15) (l : List (Fin 15)) :
    OS c (o :: l) = (OS c l + tallyAt (dcell (nx o c) 5 c) () ND) + tallyAt (dcell (nx o c) 1 c) () NC := by
  unfold OS; rw [List.map_cons, List.sum_cons, add_comm, ← add_assoc]
theorem OX_cons (o : Fin 15) (l : List (Fin 15)) : OX c (o :: l) = OX c l + tallyAt (dcell (nx o c) 3 c) () NX := by
  unfold OX; rw [List.map_cons, List.sum_cons, add_comm]

/-! ## Telling the others -/

/-- The slots of device `c` that the device `o + 1` on writes. -/
def give (o : Fin 15) : sProp 𝕄 := iprop((∃ f, pR c (nx o c) f) ∗ (∃ f, pDR c (nx o c) f) ∗ ∃ f, pX c (nx o c) f)

theorem tell_step (o : Fin 15) (l : List (Fin 15)) :
    iprop(ctx I K ∗ Owes c (OX c shifts + OS c shifts + OB c (o :: l)) ∗ (dutyTok ER (barCell (nx o c)) 0 o.rev ∗ give c o))
      ⊢ WP c (tellStep c o) (fun _ => iprop(Owes c (OX c shifts + OS c shifts + OB c l) ∗ emp)) := by
  unfold tellStep
  rw [sigDev_eq, OB_cons, ← add_assoc]
  simp only [semSignalWord]
  iintro ⟨#HC, ⟨%W, HO⟩, Ht, Hg⟩
  iapply (Rounds.wp_signal 𝒱₀ ER (Rd I) (c : Thread nD τ) none (dst := (nx o c : Thread nD τ)) (κ := K (nx o c, none)) (r := 0)
      (d := o.rev) (by rw [duties_bar]; exact Finset.mem_univ _) ((amount_bar I (nx o c) o.rev).trans (by decide)) ()
      (OX c shifts + OS c shifts + OB c l) rfl (W := W)) $$ [HO Ht Hg]
  · isplitr; · iapply (ctx_inv I K (nx o c, none)); iexact HC
    isplitl [HO]; · iexact HO
    isplitl [Ht]; · iexact Ht
    isplitl [Hg]
    · rw [payload_bar]
      unfold barPay give
      rw [nx_rev, pv_nx]
      iexact Hg
    · iapply (ctx_reached I K (nx o c, none)); iexact HC
  iintro HO
  iapply (ret_WP c)
  isplitl [HO]
  · iexists _; iexact HO
  · iempintro

theorem tell_all :
    iprop(ctx I K ∗ Owes c (O₀ c) ∗ bigSepL shifts fun o => iprop(dutyTok ER (barCell (nx o c)) 0 o.rev ∗ give (F := F) c o))
      ⊢ WP c (each shifts (tellStep c)) (fun _ => iprop(Owes c (OX c shifts + OS c shifts) ∗ bigSepL shifts fun _ => iprop(emp))) := by
  have h := wp_each c (tellStep c) (ctx I K) (fun o => iprop(dutyTok ER (barCell (nx o c)) 0 o.rev ∗ give (F := F) c o)) (fun _ => (iprop(emp) : sProp 𝕄))
    (fun l => Owes c (OX c shifts + OS c shifts + OB c l)) (tell_step I K c) shifts
  rw [show OB c [] = 0 from rfl, add_zero] at h
  exact h

theorem bar_wait {α : Type} (p : PUnit → P F α) (Q : α → sProp 𝕄) :
    iprop(ctx I K ∗ Owes c (OX c shifts + OS c shifts) ∗ cred (tallyAt (barCell c) () 15) ∗ atPos ER (barCell c) 0 ∅ 0)
      ⊢ iprop(((Owes c (OX c shifts + OS c shifts) ∗ atPos ER (barCell c) 1 ∅ 0 ∗ bigSepL shifts fun o => barPay c o) -∗ WP c (p ⟨⟩) Q)
          -∗ WP c (semWaitWord barS 15#32 >>= p) Q) := by
  have hn : (15#32 : BitVec 32).toInt = 15 := by decide
  simp only [semWaitWord, hn, Prog.bind_op, Prog.bind_ret]
  iintro ⟨#HC, ⟨%W, HO⟩, Hc, Hat⟩ Hk
  iapply (Rounds.wp_wait_rest_token 𝒱₀ ER (Rd I) (c : Thread nD τ) none (κ := K (c, none))
      (wpE_semWait_eq 𝒱₀ (c : Thread nD τ) none Set.univ) (Set.mem_univ _) () (O := OX c shifts + OS c shifts) (W := W) (R := 0) (m := 0) (T := ∅)
      (by rw [expect_bar])) $$ [Hc HO Hat]
  · isplitr; · iapply (ctx_inv I K (c, none)); iexact HC
    isplitl [Hc]; · iexact Hc
    isplitl [HO]; · iexact HO
    isplitr
    · have hm := (ctx_lev I K).trans (mayWait_bar (F := F) c)
      iapply hm
      iexact HC
    iexact Hat
  iintro ⟨HO, Hat, -, Hp⟩
  ihave Hp := (Entails.of_eq (rest_bar I c)) $$ Hp
  iapply Hk
  isplitl [HO]; · iexists _; iexact HO
  isplitl [Hat] <;> iassumption

/-! ## The computation -/

/-- A load or store at offsets that come to a piece's goes through that piece. -/
theorem unit_emb {s : Shape} {off off' size : Fin s.rank → ℕ} {h h'} (ho : off = off') (y : (Rect.unit off size h).shape.Idx) :
    (Rect.unit off size h).emb y = (Rect.unit off' size h').emb y := by subst ho; rfl
theorem at_off {s : Shape} {β : Type} {off off' size : Fin s.rank → ℕ} {h h'} (ho : off = off') {f : s.Idx → β} {w : (⟨s.rank, size⟩ : Shape).Idx → β}
    (hf : ∀ y, f ((Rect.unit off' size h').emb y) = w y) : ∀ y, f ((Rect.unit off size h).emb y) = w y := by subst ho; exact hf
theorem unit_set {s : Shape} {off off' size : Fin s.rank → ℕ} {h h'} (ho : off = off') :
    (Rect.unit off size h).set = (Rect.unit off' size h').set := by subst ho; rfl
theorem unit_all {s : Shape} {off : Fin s.rank → ℕ} {h : ∀ a, off a + s.size a ≤ s.size a} (ho : off = fun _ => 0) (y : s.Idx) : (Rect.unit off s.size h).emb y = y := by
  subst ho
  funext a
  exact Fin.ext ((ValueKit.rect_emb_unit_val ..).trans (Nat.zero_add _))

/-- The pieces to fill with block `e`, and as they are filled. -/
def fillA (e : Fin 16) : sProp 𝕄 := iprop((∃ f, pS c e f) ∗ ∃ f, pDS c e f)
def fillB (e : Fin 16) : sProp 𝕄 := iprop(pS c e (SB (I c)) ∗ pDS c e (LB (I c)))

theorem write_step (p a : Fin 4) :
    fillA c (blk p a) ⊢ WP c (writeStep p (phase p (k0_pay1 (I c).x (I c).wq)) (phase p (k0_pay2 (I c).k)) (phase p (k0_pay3 (I c).v)) a)
      (fun _ => fillB I c (blk p a)) := by
  unfold writeStep fillA fillB pS pDS
  simp only [Prog.lift, Prog.bind_op, Prog.bind_ret]
  iintro ⟨⟨%f, Hs⟩, ⟨%g, Hd⟩⟩
  iapply (load_piece c (w := fun y => f ((rC (blk p a)).emb y)) (Finset.Subset.refl _) (fun _ => rfl)) $$ Hs
  iintro Hs
  iapply (store_piece c (SB (I c)) rfl (fun y => by rw [SB_emb, sentC_blk])) $$ Hs
  iintro Hs
  iapply (load_piece c (w := fun y => g ((rD (blk p a)).emb y)) (Finset.Subset.refl _) (fun _ => rfl)) $$ Hd
  iintro Hd
  iapply (store_piece c (LB (I c)) rfl (fun y => by rw [LB_emb, sentD_blk])) $$ Hd
  iintro Hd
  iapply (ret_WP c)
  isplitl [Hs] <;> iassumption

end Cert.KernelIdeal.Talk

end
-- ==== Proof.Steps2.lean ====
/- The remaining steps: the computation as a whole, the own block, the two exchanges and the result. -/
module

public import proofs.«01_k».proof.Proof.Steps

@[expose] public section

set_option maxRecDepth 8000

noncomputable section

namespace Cert.KernelIdeal.Talk

open Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × Cell → ℕ) (c : Dev nD)

/-- The five inputs, staged. -/
def ins : sProp 𝕄 :=
  iprop(((c : Thread nD τ).loc cc0_stg0_0 ↦{fullShare} (I c).x) ∗ ((c : Thread nD τ).loc cc0_stg1_0 ↦{fullShare} (I c).wq)
    ∗ ((c : Thread nD τ).loc cc0_stg2_0 ↦{fullShare} (I c).k) ∗ ((c : Thread nD τ).loc cc0_stg3_0 ↦{fullShare} (I c).v)
    ∗ ((c : Thread nD τ).loc cc0_stg4_0 ↦{fullShare} (I c).wo))

/-! ## The computation -/

theorem zero2 : (![0, 0] : Fin 2 → ℕ) = fun _ => 0 := by decide
theorem zero3 : (![0, 0, 0] : Fin 3 → ℕ) = fun _ => 0 := by decide
theorem zero4 : (![0, 0, 0, 0] : Fin 4 → ℕ) = fun _ => 0 := by decide

theorem write_all :
    (bigSep Finset.univ fun e => fillA (F := F) c e)
      ⊢ WP c (each quarters fun p => each quarters fun a =>
          writeStep p (phase p (k0_pay1 (I c).x (I c).wq)) (phase p (k0_pay2 (I c).k)) (phase p (k0_pay3 (I c).v)) a)
        (fun _ => bigSep Finset.univ fun e => fillB I c e) := by
  rw [bigSep_blk, bigSep_blk]
  have h := wp_each c (fun p => each quarters fun a =>
      writeStep p (phase p (k0_pay1 (I c).x (I c).wq)) (phase p (k0_pay2 (I c).k)) (phase p (k0_pay3 (I c).v)) a)
    (iprop(emp) : sProp 𝕄) (fun p => bigSepL quarters fun a => fillA (F := F) c (blk p a)) (fun p => bigSepL quarters fun a => fillB I c (blk p a))
    (fun _ => (iprop(emp) : sProp 𝕄)) (fun p l => by
      have h' := wp_each c (writeStep p (phase p (k0_pay1 (I c).x (I c).wq)) (phase p (k0_pay2 (I c).k)) (phase p (k0_pay3 (I c).v)))
        (iprop(emp) : sProp 𝕄) (fun a => fillA (F := F) c (blk p a)) (fun a => fillB I c (blk p a)) (fun _ => (iprop(emp) : sProp 𝕄))
        (fun a l' => by
          iintro ⟨-, -, H⟩
          iapply (wp_wand_r frame (wpE (defs₀ (F := F)) 𝒱₀ (c : Thread nD τ) none) Set.univ)
          isplitl [H]
          · iapply (write_step I c p a); iexact H
          iintro %u H
          isplitr; · iempintro
          iexact H) quarters
      exact h') quarters
  iintro H
  iapply (wp_wand_r frame (wpE (defs₀ (F := F)) 𝒱₀ (c : Thread nD τ) none) Set.univ)
  isplitl [H]
  · iapply h
    isplitr; · iempintro
    isplitr; · iempintro
    iexact H
  iintro %u ⟨-, H⟩
  iexact H

theorem compute_all :
    iprop(ins I c ∗ bigSep Finset.univ fun e => fillA (F := F) c e)
      ⊢ WP c compute (fun _ => iprop(ins I c ∗ bigSep Finset.univ fun e => fillB I c e)) := by
  unfold compute ins
  simp only [Prog.lift, Prog.bind_op, Prog.bind_ret]
  iintro ⟨⟨Hx, Hwq, Hk, Hv, Hwo⟩, HA⟩
  iapply (load_piece c (w := (I c).x) (Finset.subset_univ _) (fun y => congrArg (I c).x (unit_all zero3 y))) $$ Hx
  iintro Hx
  iapply (load_piece c (w := (I c).wq) (Finset.subset_univ _) (fun y => congrArg (I c).wq (unit_all zero2 y))) $$ Hwq
  iintro Hwq
  iapply (load_piece c (w := (I c).k) (Finset.subset_univ _) (fun y => congrArg (I c).k (unit_all zero4 y))) $$ Hk
  iintro Hk
  iapply (load_piece c (w := (I c).v) (Finset.subset_univ _) (fun y => congrArg (I c).v (unit_all zero4 y))) $$ Hv
  iintro Hv
  iapply (wp_wand_r frame (wpE (defs₀ (F := F)) 𝒱₀ (c : Thread nD τ) none) Set.univ)
  isplitl [HA]
  · iapply (write_all I c); iexact HA
  iintro %u HB
  isplitr [HB]
  · isplitl [Hx]; · iexact Hx
    isplitl [Hwq]; · iexact Hwq
    isplitl [Hk]; · iexact Hk
    isplitl [Hv]; · iexact Hv
    iexact Hwo
  iexact HB

/-! ## The own block -/

theorem pay143_eq (x : Vec F S1x64x1024 .fp8e4m3) : k0_pay143 x = x := shapeCast_self x _
theorem pay144_eq (w : Vec F S64x8 .bf16) (y : S1x64x8.Idx) : k0_pay144 w y = slotOf w y := by
  unfold k0_pay144
  rw [shapeCast_self]
  have h1 : S64x8.numel = S1x64x8.numel := by decide
  have h := reshapeEquiv_ix2_1ab h1 (y 1 : Fin 64) (y 2 : Fin 8)
  have hy : Shape.reshapeEquiv h1 (ix2 (y 1 : Fin 64) (y 2 : Fin 8)) = y := h.trans (ix3_self y)
  show w (Shape.reshapeEquiv _ y) = w (ix2 (y 1) (y 2))
  refine congrArg w ?_
  rw [← hy, Shape.reshapeEquiv_reshapeEquiv, Shape.reshapeEquiv_self, hy]

theorem own_step :
    iprop(pS c c (SB (I c)) ∗ (∃ f, pR c c f) ∗ pDS c c (LB (I c)) ∗ ∃ f, pDR (F := F) c c f)
      ⊢ WP c (ownStep c) (fun _ => iprop(pS c c (SB (I c)) ∗ pR c c (RB I c) ∗ pDS c c (LB (I c)) ∗ pDR c c (RL I c))) := by
  have e1 : (Rect.unit (s := S16x64x1024) (k0_off1 c) S1x64x1024.size (k0_off1_inb c)).set = (rC c).set := unit_set (off1_eq c)
  have e2 : (Rect.unit (s := S1024x8) (k0_off2 c) S64x8.size (k0_off2_inb c)).set = (rD c).set := unit_set (off2_eq c)
  have e3 : (Rect.unit (s := S16x64x8) (k0_off3 c) S1x64x8.size (k0_off3_inb c)).set = (rR c).set := unit_set (off3_eq c)
  have h1 : ∀ y, SB (I c) ((Rect.unit (s := S16x64x1024) (k0_off1 c) S1x64x1024.size (k0_off1_inb c)).emb y) = sentC (I c) c y :=
    at_off (h' := inbC c) (off1_eq c) (SB_emb (I c) c)
  have h2 : ∀ y, RB I c ((Rect.unit (s := S16x64x1024) (k0_off1 c) S1x64x1024.size (k0_off1_inb c)).emb y) = k0_pay143 (sentC (I c) c) y :=
    at_off (h' := inbC c) (off1_eq c) fun y => (RB_emb I c c y).trans (congrFun (pay143_eq _).symm y)
  have h3 : ∀ y, LB (I c) ((Rect.unit (s := S1024x8) (k0_off2 c) S64x8.size (k0_off2_inb c)).emb y) = sentD (I c) c y :=
    at_off (h' := inbD c) (off2_eq c) (LB_emb (I c) c)
  have h4 : ∀ y, RL I c ((Rect.unit (s := S16x64x8) (k0_off3 c) S1x64x8.size (k0_off3_inb c)).emb y) = k0_pay144 (sentD (I c) c) y :=
    at_off (h' := inbDR c) (off3_eq c) fun y => (RL_emb I c c y).trans (pay144_eq _ y).symm
  unfold ownStep pS pR pDS pDR
  simp only [Prog.lift, Prog.bind_op, Prog.bind_ret]
  iintro ⟨Hs, ⟨%f, Hr⟩, Hd, ⟨%g, He⟩⟩
  iapply (load_piece c (subset_of_eq e1) h1) $$ Hs
  iintro Hs
  iapply (load_piece c (subset_of_eq e1) (fun _ => rfl)) $$ Hr
  iintro Hr
  iapply (store_piece c (RB I c) e1 h2) $$ Hr
  iintro Hr
  iapply (load_piece c (subset_of_eq e2) h3) $$ Hd
  iintro Hd
  iapply (load_piece c (subset_of_eq e3) (fun _ => rfl)) $$ He
  iintro He
  iapply (store_piece c (RL I c) e3 h4) $$ He
  iintro He
  iapply (ret_WP c)
  isplitl [Hs]; · iexact Hs
  isplitl [Hr]; · iexact Hr
  isplitl [Hd] <;> iassumption

/-! ## The first exchange -/

/-- What the transfers to the device `o + 1` on take: the blocks, their slots there, and the four duties. -/
def sendA (o : Fin 15) : sProp 𝕄 :=
  iprop(fillB I c (nx o c) ∗ (∃ f, pR (nx o c) c f) ∗ (∃ f, pDR (nx o c) c f)
    ∗ dutyTok ER (dcell c 0 o.succ) 0 0 ∗ dutyTok ER (dcell (nx o c) 1 c) 0 0
    ∗ dutyTok ER (dcell c 4 o.succ) 0 0 ∗ dutyTok ER (dcell (nx o c) 5 c) 0 0)
def sendB (o : Fin 15) : sProp 𝕄 :=
  iprop(cred (tallyAt (dcell c 0 o.succ) () NC) ∗ cred (tallyAt (dcell c 4 o.succ) () ND))

theorem send_step (o : Fin 15) (l : List (Fin 15)) :
    iprop(ctx I K ∗ Owes c (OX c shifts + OS c (o :: l)) ∗ sendA I c o)
      ⊢ WP c (sendStep c o) (fun _ => iprop(Owes c (OX c shifts + OS c l) ∗ sendB (F := F) c o)) := by
  unfold sendStep sendA sendB fillB
  rw [OS_cons, ← add_assoc, ← add_assoc]
  simp only [Prog.lift, Prog.bind_op, Prog.bind_ret]
  iintro ⟨#HC, ⟨%W, HO⟩, ⟨Hs, Hd⟩, Hr, He, Ht0, Ht1, Ht4, Ht5⟩
  iapply (send_ctx I K c o (ctxDev_eq c o) (off6_eq c o) (off5_eq c)
    ((semAt_of sem5_eq o.succ (shift_place o)).trans rfl) ((semAt_of sem6_eq c (off4_eq c)).trans rfl)
    (O := OX c shifts + OS c l + tallyAt (dcell (nx o c) 5 c) () ND) (W := W)) $$ [Hs Hr HO Ht0 Ht1]
  · isplitr; · iexact HC
    isplitl [Hs]; · iexact Hs
    isplitl [Hr]; · iexact Hr
    isplitl [HO]; · iexact HO
    isplitl [Ht0] <;> iassumption
  iintro ⟨Hc0, HO⟩
  iapply (send_den I K c o (denDev_eq c o) (off8_eq c o) (off7_eq c)
    ((semAt_of sem9_eq o.succ (shift_place o)).trans rfl) ((semAt_of sem10_eq c (off4_eq c)).trans rfl)
    (O := OX c shifts + OS c l) (W := W)) $$ [Hd He HO Ht4 Ht5]
  · isplitr; · iexact HC
    isplitl [Hd]; · iexact Hd
    isplitl [He]; · iexact He
    isplitl [HO]; · iexact HO
    isplitl [Ht4] <;> iassumption
  iintro ⟨Hc4, HO⟩
  iapply (ret_WP c)
  isplitl [HO]; · iexists _; iexact HO
  isplitl [Hc0] <;> iassumption

end Cert.KernelIdeal.Talk

end
-- ==== Proof.Steps3.lean ====
/- The steps after the first exchange: the waits, the sums over the sources, the result block and the second exchange. -/
module

public import proofs.«01_k».proof.Proof.Steps2
public import Idealize.ShloMosaic.Lib.Ring

@[expose] public section

set_option maxRecDepth 8000

noncomputable section

namespace Cert.KernelIdeal.Talk

open Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × Cell → ℕ) (c : Dev nD)

/-! ## Buffers and their pieces -/

theorem whole_S (f : Vec F S16x64x1024 .fp8e4m3) :
    ((c : Thread nD τ).loc cc0_scratch0 ↦{fullShare} f : sProp 𝕄) = bigSep Finset.univ fun e => pS c e f :=
  Ring.pointsTo_blocks (ℓ := (c : Thread nD τ).loc cc0_scratch0) (fun e => (rC e).set) pieces_C.1 pieces_C.2 f
theorem whole_R (f : Vec F S16x64x1024 .fp8e4m3) :
    ((c : Thread nD τ).loc cc0_scratch1 ↦{fullShare} f : sProp 𝕄) = bigSep Finset.univ fun e => pR c e f :=
  Ring.pointsTo_blocks (ℓ := (c : Thread nD τ).loc cc0_scratch1) (fun e => (rC e).set) pieces_C.1 pieces_C.2 f
theorem whole_DS (f : Vec F S1024x8 .bf16) :
    ((c : Thread nD τ).loc cc0_scratch2 ↦{fullShare} f : sProp 𝕄) = bigSep Finset.univ fun e => pDS c e f :=
  Ring.pointsTo_blocks (ℓ := (c : Thread nD τ).loc cc0_scratch2) (fun e => (rD e).set) pieces_D.1 pieces_D.2 f
theorem whole_DR (f : Vec F S16x64x8 .bf16) :
    ((c : Thread nD τ).loc cc0_scratch3 ↦{fullShare} f : sProp 𝕄) = bigSep Finset.univ fun e => pDR c e f :=
  Ring.pointsTo_blocks (ℓ := (c : Thread nD τ).loc cc0_scratch3) (fun e => (rR e).set) pieces_R.1 pieces_R.2 f
theorem whole_X (f : Vec F S1024x1024 .bf16) :
    ((c : Thread nD τ).loc cc0_scratch4 ↦{fullShare} f : sProp 𝕄) = bigSep Finset.univ fun e => pX c e f :=
  Ring.pointsTo_blocks (ℓ := (c : Thread nD τ).loc cc0_scratch4) (fun e => (rX e).set) pieces_X.1 pieces_X.2 f
theorem whole_O (f : Vec F S1x1024x1024 .f32) :
    ((c : Thread nD τ).loc cc0_stg5_0 ↦{fullShare} f : sProp 𝕄) = bigSep Finset.univ fun e => pO c e f :=
  Ring.pointsTo_blocks (ℓ := (c : Thread nD τ).loc cc0_stg5_0) (fun e => (rO e).set) pieces_O.1 pieces_O.2 f

/-- The own result block, dealt to the fifteen transfers. -/
theorem deal_X : (pX c c (OC I) : sProp 𝕄) = bigSepL shifts fun o => pXq (shr o) c c (OC I) := by
  rw [← bigSep_univ_eq_bigSepL shifts (by decide) (by decide)]
  exact Transfers.pointsTo_deal (Finset.univ : Finset (Fin 15)) ⟨0, Finset.mem_univ _⟩ fullShare

/-! ## Waiting for the blocks -/

def recvA (o : Fin 15) : sProp 𝕄 :=
  iprop((cred (tallyAt (dcell c 1 (pv o c)) () NC) ∗ atPos ER (dcell c 1 (pv o c)) 0 ∅ 0)
    ∗ cred (tallyAt (dcell c 5 (pv o c)) () ND) ∗ atPos ER (dcell c 5 (pv o c)) 0 ∅ 0)
def recvB (o : Fin 15) : sProp 𝕄 :=
  iprop((atPos ER (dcell c 1 (pv o c)) 1 ∅ 0 ∗ pR c (pv o c) (RB I c))
    ∗ atPos ER (dcell c 5 (pv o c)) 1 ∅ 0 ∗ pDR c (pv o c) (RL I c))

theorem recv_step (o : Fin 15) (l : List (Fin 15)) :
    iprop(ctx I K ∗ Owes c (OX c shifts) ∗ recvA (F := F) c o)
      ⊢ WP c (recvStep c o) (fun _ => iprop(Owes c (OX c shifts) ∗ recvB I c o)) := by
  unfold recvStep recvA recvB
  simp only [Prog.lift, Prog.bind_op, Prog.bind_ret]
  iintro ⟨#HC, ⟨%W, HO⟩, ⟨Hc1, Ha1⟩, Hc5, Ha5⟩
  iapply (wait_dma I K c 1 (pv o c) (live_recv c 1 (by decide) _ (pv_ne o c)) (semAt_of sem6_eq (pv o c) (off9_eq c o)) rfl
    (O := OX c shifts) (W := W)) $$ [HO Hc1 Ha1]
  · isplitr; · iexact HC
    isplitl [Hc1]; · iexact Hc1
    isplitl [HO]; · iexact HO
    isplitr; · iapply ((ctx_lev I K).trans (mayWait_recv c 1 (pv o c) (le_refl _))); iexact HC
    iexact Ha1
  iintro ⟨⟨%W', HO⟩, Ha1, Hp1⟩
  iapply (wait_dma I K c 5 (pv o c) (live_recv c 5 (by decide) _ (pv_ne o c)) (semAt_of sem10_eq (pv o c) (off9_eq c o)) rfl
    (O := OX c shifts) (W := W')) $$ [HO Hc5 Ha5]
  · isplitr; · iexact HC
    isplitl [Hc5]; · iexact Hc5
    isplitl [HO]; · iexact HO
    isplitr; · iapply ((ctx_lev I K).trans (mayWait_recv c 5 (pv o c) (le_refl _))); iexact HC
    iexact Ha5
  iintro ⟨HO, Ha5, Hp5⟩
  iapply (ret_WP c)
  isplitl [HO]; · iexact HO
  isplitl [Ha1 Hp1]
  · isplitl [Ha1]; · iexact Ha1
    unfold dmaPay; iexact Hp1
  · isplitl [Ha5]; · iexact Ha5
    unfold dmaPay; iexact Hp5

/-! ## The sums over the sources -/

/-- What the owner has received, held whole. -/
def got : sProp 𝕄 :=
  iprop(((c : Thread nD τ).loc cc0_scratch1 ↦{fullShare} RB I c) ∗ ((c : Thread nD τ).loc cc0_scratch3 ↦{fullShare} RL I c))

theorem load_C (s : Fin 16) : got I c ⊢ WP c (loadC s) (fun x => iprop(⌜x = sentC (I s) c⌝ ∗ got I c)) := by
  have e1 : (Rect.unit (s := S16x64x1024) ![s.val, 0, 0] S1x64x1024.size (inbC s)).set ⊆ Finset.univ := Finset.subset_univ _
  have h1 : ∀ y, RB I c ((Rect.unit (s := S16x64x1024) ![s.val, 0, 0] S1x64x1024.size (inbC s)).emb y) = sentC (I s) c y := RB_emb I c s
  unfold loadC got
  simp only [Prog.lift]
  iintro ⟨Hr, Hd⟩
  iapply (load_piece c e1 h1) $$ Hr
  iintro Hr
  iapply (ret_WP c)
  isplitr; · ipureintro; rfl
  isplitl [Hr] <;> iassumption
theorem load_D (s : Fin 16) : got I c ⊢ WP c (loadD s) (fun x => iprop(⌜x = slotOf (sentD (I s) c)⌝ ∗ got I c)) := by
  have e1 : (Rect.unit (s := S16x64x8) ![s.val, 0, 0] S1x64x8.size (inbDR s)).set ⊆ Finset.univ := Finset.subset_univ _
  have h1 : ∀ y, RL I c ((Rect.unit (s := S16x64x8) ![s.val, 0, 0] S1x64x8.size (inbDR s)).emb y) = slotOf (sentD (I s) c) y := RL_emb I c s
  unfold loadD got
  simp only [Prog.lift]
  iintro ⟨Hr, Hd⟩
  iapply (load_piece c e1 h1) $$ Hd
  iintro Hd
  iapply (ret_WP c)
  isplitr; · ipureintro; rfl
  isplitl [Hr] <;> iassumption

theorem total_eq : got I c ⊢ WP c total (fun cl => iprop(⌜cl = tot I c⌝ ∗ got I c)) := by
  unfold total WP
  simp only [wp_bind]
  iintro H
  iapply (wp_wand_r frame (wpE (defs₀ (F := F)) 𝒱₀ (c : Thread nD τ) none) Set.univ)
  isplitl [H]
  · iapply (load_C I c 0); iexact H
  iintro %x ⟨%hx, H⟩
  iapply (wp_wand_r frame (wpE (defs₀ (F := F)) 𝒱₀ (c : Thread nD τ) none) Set.univ)
  isplitl [H]
  · iapply (load_D I c 0); iexact H
  iintro %y ⟨%hy, H⟩
  subst hx hy
  iapply (wp_thread c addStep (fun cl s => (addf cl.1 (ctxIn (sentC (I s) c)), addf cl.2 (denIn (slotOf (sentD (I s) c))))) (got I c)
    (fun s cl => by
      unfold addStep WP
      simp only [wp_bind]
      iintro H
      iapply (wp_wand_r frame (wpE (defs₀ (F := F)) 𝒱₀ (c : Thread nD τ) none) Set.univ)
      isplitl [H]
      · iapply (load_C I c s); iexact H
      iintro %x ⟨%hx, H⟩
      iapply (wp_wand_r frame (wpE (defs₀ (F := F)) 𝒱₀ (c : Thread nD τ) none) Set.univ)
      isplitl [H]
      · iapply (load_D I c s); iexact H
      iintro %y ⟨%hy, H⟩
      subst hx hy
      iapply (ret_WP c)
      isplitr; · ipureintro; rfl
      iexact H) sources)
  iexact H

/-! ## The result block -/

theorem proj_step (cl : FVec F S64x1024 .f32 × FVec F S64x8 .f32) (hcl : cl = tot I c) :
    iprop(((c : Thread nD τ).loc cc0_stg4_0 ↦{fullShare} (I c).wo) ∗ (∃ f, pO c c f) ∗ ∃ f, pX (F := F) c c f)
      ⊢ WP c (projStep c cl) (fun _ => iprop(((c : Thread nD τ).loc cc0_stg4_0 ↦{fullShare} (I c).wo) ∗ pO c c (OUT I c) ∗ pX c c (OC I))) := by
  subst hcl
  have e1 : (Rect.unit (s := S1x1024x1024) (k0_off13 c) S1x64x1024.size (k0_off13_inb c)).set = (rO c).set := unit_set (off13_eq c)
  have e2 : (Rect.unit (s := S1024x1024) (k0_off14 c) S64x1024.size (k0_off14_inb c)).set = (rX c).set := unit_set (off14_eq c)
  have h1 : ∀ y, OUT I c ((Rect.unit (s := S1x1024x1024) (k0_off13 c) S1x64x1024.size (k0_off13_inb c)).emb y)
      = ownOut (tot I c).1 (tot I c).2 (I c).wo y :=
    at_off (h' := inbO c) (off13_eq c) fun y => (OUT_emb I c c y).trans (congrFun (if_pos rfl) y)
  have h2 : ∀ y, OC I ((Rect.unit (s := S1024x1024) (k0_off14 c) S64x1024.size (k0_off14_inb c)).emb y)
      = ownSend (tot I c).1 (tot I c).2 (I c).wo y :=
    at_off (h' := inbX c) (off14_eq c) (OC_emb I c)
  unfold projStep pO pX pXq
  simp only [Prog.lift, Prog.bind_op, Prog.bind_ret]
  iintro ⟨Hw, ⟨%f, Ho⟩, ⟨%g, Hx⟩⟩
  iapply (load_piece c (w := (I c).wo) (Finset.subset_univ _) (fun y => congrArg (I c).wo (unit_all zero2 y))) $$ Hw
  iintro Hw
  iapply (load_piece c (subset_of_eq e1) (fun _ => rfl)) $$ Ho
  iintro Ho
  iapply (store_piece c (OUT I c) e1 h1) $$ Ho
  iintro Ho
  iapply (load_piece c (subset_of_eq e2) (fun _ => rfl)) $$ Hx
  iintro Hx
  iapply (store_piece c (OC I) e2 h2) $$ Hx
  iintro Hx
  iapply (ret_WP c)
  isplitl [Hw]; · iexact Hw
  isplitl [Ho] <;> iassumption

/-! ## The second exchange -/

def castA (o : Fin 15) : sProp 𝕄 :=
  iprop(pXq (shr o) c c (OC I) ∗ (∃ f, pX (nx o c) c f) ∗ dutyTok ER (dcell c 2 o.succ) 0 0 ∗ dutyTok ER (dcell (nx o c) 3 c) 0 0)
def castB (o : Fin 15) : sProp 𝕄 := cred (tallyAt (dcell c 2 o.succ) () NX)

theorem cast_step (o : Fin 15) (l : List (Fin 15)) :
    iprop(ctx I K ∗ Owes c (OX c (o :: l)) ∗ castA I c o) ⊢ WP c (castStep c o) (fun _ => iprop(Owes c (OX c l) ∗ castB (F := F) c o)) := by
  unfold castStep castA castB
  rw [OX_cons]
  simp only [Prog.lift]
  iintro ⟨#HC, ⟨%W, HO⟩, Hs, Hr, Ht2, Ht3⟩
  iapply (send_out I K c o (outDev_eq c o) (off15_eq c) (off15_eq c)
    (semAt_of sem7_eq o.succ (shift_place o)) (semAt_of sem8_eq c (off4_eq c)) (O := OX c l) (W := W)) $$ [Hs Hr HO Ht2 Ht3]
  · isplitr; · iexact HC
    isplitl [Hs]; · iexact Hs
    isplitl [Hr]; · iexact Hr
    isplitl [HO]; · iexact HO
    isplitl [Ht2] <;> iassumption
  iintro ⟨Hc, HO⟩
  iapply (ret_WP c)
  isplitl [HO]; · iexists _; iexact HO
  iexact Hc

def leftA (o : Fin 15) : sProp 𝕄 :=
  iprop((cred (tallyAt (dcell c 0 o.succ) () NC) ∗ atPos ER (dcell c 0 o.succ) 0 ∅ 0)
    ∗ cred (tallyAt (dcell c 4 o.succ) () ND) ∗ atPos ER (dcell c 4 o.succ) 0 ∅ 0)
def leftB (o : Fin 15) : sProp 𝕄 :=
  iprop((atPos ER (dcell c 0 o.succ) 1 ∅ 0 ∗ pS c (nx o c) (SB (I c)))
    ∗ atPos ER (dcell c 4 o.succ) 1 ∅ 0 ∗ pDS c (nx o c) (LB (I c)))

theorem left_step (o : Fin 15) (l : List (Fin 15)) :
    iprop(ctx I K ∗ Owes c 0 ∗ leftA (F := F) c o) ⊢ WP c (leftStep c o) (fun _ => iprop(Owes c 0 ∗ leftB I c o)) := by
  unfold leftStep leftA leftB
  simp only [Prog.lift, Prog.bind_op, Prog.bind_ret]
  iintro ⟨#HC, ⟨%W, HO⟩, ⟨Hc1, Ha1⟩, Hc5, Ha5⟩
  iapply (wait_dma I K c 0 o.succ (live_send c 0 rfl o) (semAt_of sem5_eq o.succ (shift_place o)) rfl (O := 0) (W := W)) $$ [HO Hc1 Ha1]
  · isplitr; · iexact HC
    isplitl [Hc1]; · iexact Hc1
    isplitl [HO]; · iexact HO
    isplitr; · rw [MayWait_zero]; iempintro
    iexact Ha1
  iintro ⟨⟨%W', HO⟩, Ha1, Hp1⟩
  iapply (wait_dma I K c 4 o.succ (live_send c 4 rfl o) (semAt_of sem9_eq o.succ (shift_place o)) rfl (O := 0) (W := W')) $$ [HO Hc5 Ha5]
  · isplitr; · iexact HC
    isplitl [Hc5]; · iexact Hc5
    isplitl [HO]; · iexact HO
    isplitr; · rw [MayWait_zero]; iempintro
    iexact Ha5
  iintro ⟨HO, Ha5, Hp5⟩
  iapply (ret_WP c)
  isplitl [HO]; · iexact HO
  isplitl [Ha1 Hp1]
  · isplitl [Ha1]; · iexact Ha1
    unfold dmaPay; rw [on_succ]; iexact Hp1
  · isplitl [Ha5]; · iexact Ha5
    unfold dmaPay; rw [on_succ]; iexact Hp5

def takeA (o : Fin 15) : sProp 𝕄 :=
  iprop((cred (tallyAt (dcell c 3 (pv o c)) () NX) ∗ atPos ER (dcell c 3 (pv o c)) 0 ∅ 0) ∗ ∃ f, pO c (pv o c) f)
def takeB (o : Fin 15) : sProp 𝕄 :=
  iprop(atPos ER (dcell c 3 (pv o c)) 1 ∅ 0 ∗ pX c (pv o c) (OC I) ∗ pO c (pv o c) (OUT I c))

theorem take_step (o : Fin 15) (l : List (Fin 15)) :
    iprop(ctx I K ∗ Owes c 0 ∗ takeA (F := F) c o) ⊢ WP c (takeStep c o) (fun _ => iprop(Owes c 0 ∗ takeB I c o)) := by
  have e1 : (Rect.unit (s := S1024x1024) (k0_off17 c (wd o)) S64x1024.size (k0_off17_inb c o)).set = (rX (pv o c)).set := unit_set (off17_eq c o)
  have e2 : (Rect.unit (s := S1x1024x1024) (k0_off18 c (wd o)) S1x64x1024.size (k0_off18_inb c o)).set = (rO (pv o c)).set := unit_set (off18_eq c o)
  have h1 : ∀ y, OC I ((Rect.unit (s := S1024x1024) (k0_off17 c (wd o)) S64x1024.size (k0_off17_inb c o)).emb y) = told I (pv o c) y :=
    at_off (h' := inbX (pv o c)) (off17_eq c o) (OC_emb I (pv o c))
  have h2 : ∀ y, OUT I c ((Rect.unit (s := S1x1024x1024) (k0_off18 c (wd o)) S1x64x1024.size (k0_off18_inb c o)).emb y)
      = k0_pay158 (told I (pv o c)) y :=
    at_off (h' := inbO (pv o c)) (off18_eq c o) fun y => (OUT_emb I c (pv o c) y).trans (congrFun (if_neg (pv_ne o c)) y)
  unfold takeStep takeA takeB
  simp only [Prog.lift, Prog.bind_op, Prog.bind_ret]
  iintro ⟨#HC, ⟨%W, HO⟩, ⟨Hc, Ha⟩, ⟨%f, Ho⟩⟩
  iapply (wait_dma I K c 3 (pv o c) (live_recv c 3 (by decide) _ (pv_ne o c)) (semAt_of sem8_eq (pv o c) (off9_eq c o)) rfl
    (O := 0) (W := W)) $$ [HO Hc Ha]
  · isplitr; · iexact HC
    isplitl [Hc]; · iexact Hc
    isplitl [HO]; · iexact HO
    isplitr; · rw [MayWait_zero]; iempintro
    iexact Ha
  unfold dmaPay pX pXq pO
  iintro ⟨HO, Ha, Hx⟩
  iapply (load_piece c (subset_of_eq e1) h1) $$ Hx
  iintro Hx
  iapply (load_piece c (subset_of_eq e2) (fun _ => rfl)) $$ Ho
  iintro Ho
  iapply (store_piece c (OUT I c) e2 h2) $$ Ho
  iintro Ho
  iapply (ret_WP c)
  isplitl [HO]; · iexact HO
  isplitl [Ha]; · iexact Ha
  isplitl [Hx] <;> iassumption

def doneA (o : Fin 15) : sProp 𝕄 := iprop(cred (tallyAt (dcell c 2 o.succ) () NX) ∗ atPos ER (dcell c 2 o.succ) 0 ∅ 0)
def doneB (o : Fin 15) : sProp 𝕄 := iprop(atPos ER (dcell c 2 o.succ) 1 ∅ 0 ∗ pXq (shr o) c c (OC I))

theorem done_step (o : Fin 15) (l : List (Fin 15)) :
    iprop(ctx I K ∗ Owes c 0 ∗ doneA (F := F) c o) ⊢ WP c (doneStep c o) (fun _ => iprop(Owes c 0 ∗ doneB I c o)) := by
  unfold doneStep doneA doneB
  simp only [Prog.lift]
  iintro ⟨#HC, ⟨%W, HO⟩, Hc, Ha⟩
  iapply (wait_dma I K c 2 o.succ (live_send c 2 rfl o) (semAt_of sem7_eq o.succ (shift_place o)) rfl (O := 0) (W := W)) $$ [HO Hc Ha]
  · isplitr; · iexact HC
    isplitl [Hc]; · iexact Hc
    isplitl [HO]; · iexact HO
    isplitr; · rw [MayWait_zero]; iempintro
    iexact Ha
  iintro ⟨HO, Ha, Hp⟩
  iapply (ret_WP c)
  isplitl [HO]; · iexact HO
  isplitl [Ha]; · iexact Ha
  unfold dmaPay; rw [shrAt_succ]; iexact Hp

end Cert.KernelIdeal.Talk

end
-- ==== Proof.Body.lean ====
/- The kernel on one device: its steps put together. -/
module

public import proofs.«01_k».proof.Proof.Steps3

@[expose] public section

set_option maxRecDepth 8000

noncomputable section

namespace Cert.KernelIdeal.Talk

open Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × Cell → ℕ) (c : Dev nD)

omit [FloatOps F] in
/-- Two families over the shifts, held together or apart. -/
theorem shifts_sep (Φ Ψ : Fin 15 → sProp 𝕄) : bigSepL shifts (fun o => iprop(Φ o ∗ Ψ o)) = iprop(bigSepL shifts Φ ∗ bigSepL shifts Ψ) := by
  rw [← bigSep_univ_eq_bigSepL shifts (by decide) (by decide), ← bigSep_univ_eq_bigSepL shifts (by decide) (by decide),
    ← bigSep_univ_eq_bigSepL shifts (by decide) (by decide), bigSep_sep']

/-- A program and what follows it. -/
theorem seq {α β : Type} {p : P F α} {q : α → P F β} {A : sProp 𝕄} {B : α → sProp 𝕄} {Q : β → sProp 𝕄} (h : A ⊢ WP c p B) :
    A ⊢ iprop((∀ x, B x -∗ WP c (q x) Q) -∗ WP c (p >>= q) Q) := by
  unfold WP at h ⊢
  rw [wp_bind]
  iintro HA Hk
  iapply (wp_wand_r frame (wpE (defs₀ (F := F)) 𝒱₀ (c : Thread nD τ) none) Set.univ)
  isplitl [HA]
  · iapply h; iexact HA
  iintro %x HB
  iapply Hk $$ %x
  iexact HB

/-! ## The loops over the shifts -/

theorem send_all :
    iprop(ctx I K ∗ Owes c (OX c shifts + OS c shifts) ∗ bigSepL shifts (sendA I c))
      ⊢ WP c (each shifts (sendStep c)) (fun _ => iprop(Owes c (OX c shifts) ∗ bigSepL shifts (sendB (F := F) c))) := by
  have h := wp_each c (sendStep c) (ctx I K) (sendA I c) (sendB (F := F) c) (fun l => Owes c (OX c shifts + OS c l)) (send_step I K c) shifts
  rw [show OS c [] = 0 from rfl, add_zero] at h
  exact h
theorem recv_all :
    iprop(ctx I K ∗ Owes c (OX c shifts) ∗ bigSepL shifts (recvA (F := F) c))
      ⊢ WP c (each shifts (recvStep c)) (fun _ => iprop(Owes c (OX c shifts) ∗ bigSepL shifts (recvB I c))) :=
  wp_each c (recvStep c) (ctx I K) (recvA (F := F) c) (recvB I c) (fun _ => Owes c (OX c shifts)) (recv_step I K c) shifts
theorem cast_all :
    iprop(ctx I K ∗ Owes c (OX c shifts) ∗ bigSepL shifts (castA I c))
      ⊢ WP c (each shifts (castStep c)) (fun _ => iprop(Owes c 0 ∗ bigSepL shifts (castB (F := F) c))) :=
  wp_each c (castStep c) (ctx I K) (castA I c) (castB (F := F) c) (fun l => Owes c (OX c l)) (cast_step I K c) shifts
theorem left_all :
    iprop(ctx I K ∗ Owes c 0 ∗ bigSepL shifts (leftA (F := F) c))
      ⊢ WP c (each shifts (leftStep c)) (fun _ => iprop(Owes c 0 ∗ bigSepL shifts (leftB I c))) :=
  wp_each c (leftStep c) (ctx I K) (leftA (F := F) c) (leftB I c) (fun _ => Owes c 0) (left_step I K c) shifts
theorem take_all :
    iprop(ctx I K ∗ Owes c 0 ∗ bigSepL shifts (takeA (F := F) c))
      ⊢ WP c (each shifts (takeStep c)) (fun _ => iprop(Owes c 0 ∗ bigSepL shifts (takeB I c))) :=
  wp_each c (takeStep c) (ctx I K) (takeA (F := F) c) (takeB I c) (fun _ => Owes c 0) (take_step I K c) shifts
theorem done_all :
    iprop(ctx I K ∗ Owes c 0 ∗ bigSepL shifts (doneA (F := F) c))
      ⊢ WP c (each shifts (doneStep c)) (fun _ => iprop(Owes c 0 ∗ bigSepL shifts (doneB I c))) :=
  wp_each c (doneStep c) (ctx I K) (doneA (F := F) c) (doneB I c) (fun _ => Owes c 0) (done_step I K c) shifts

/-! ## What a device starts and ends with -/

/-- A family over the cells of device `c`: the barrier, and the six kinds, each as its one unused cell and fifteen used ones. -/
theorem bigSep_cells (Φ : Cell → sProp 𝕄) : bigSep Finset.univ Φ = iprop(Φ none
    ∗ (Φ (some (0, 0)) ∗ bigSepL shifts fun o => Φ (some (0, o.succ))) ∗ (Φ (some (1, c)) ∗ bigSepL shifts fun o => Φ (some (1, pv o c)))
    ∗ (Φ (some (2, 0)) ∗ bigSepL shifts fun o => Φ (some (2, o.succ))) ∗ (Φ (some (3, c)) ∗ bigSepL shifts fun o => Φ (some (3, pv o c)))
    ∗ (Φ (some (4, 0)) ∗ bigSepL shifts fun o => Φ (some (4, o.succ))) ∗ (Φ (some (5, c)) ∗ bigSepL shifts fun o => Φ (some (5, pv o c)))) := by
  have h1 : (Finset.univ : Finset Cell) = insert none (Finset.univ.map Function.Embedding.some) := by
    ext x; cases x <;> simp
  rw [h1, bigSep_insert (by simp), bigSep_map, bigSep_univ_prod, bigSep_univ_eq_bigSepL [0, 1, 2, 3, 4, 5] (by decide) (by decide)]
  rw [← bigSep_succ (fun j => Φ (some (0, j))), ← bigSep_pv c (fun j => Φ (some (1, j))), ← bigSep_succ (fun j => Φ (some (2, j))),
    ← bigSep_pv c (fun j => Φ (some (3, j))), ← bigSep_succ (fun j => Φ (some (4, j))), ← bigSep_pv c (fun j => Φ (some (5, j)))]
  rfl

/-- The round at which a cell ends. -/
def last : Cell → ℕ
  | none => 1
  | some (k, j) => if live c k j then 1 else 0

def at0 : sProp 𝕄 := bigSep Finset.univ fun a : Cell => atPos ER (kcell (c, a)) 0 ∅ 0
def at1 : sProp 𝕄 := bigSep Finset.univ fun a : Cell => atPos ER (kcell (c, a)) (last c a) ∅ 0

/-- The tokens of the payments device `c` makes. -/
def payToks : sProp 𝕄 :=
  iprop((bigSepL shifts fun o => dutyTok ER (barCell (nx o c)) 0 o.rev)
    ∗ (bigSepL shifts fun o => dutyTok ER (dcell c 0 o.succ) 0 0) ∗ (bigSepL shifts fun o => dutyTok ER (dcell (nx o c) 1 c) 0 0)
    ∗ (bigSepL shifts fun o => dutyTok ER (dcell c 2 o.succ) 0 0) ∗ (bigSepL shifts fun o => dutyTok ER (dcell (nx o c) 3 c) 0 0)
    ∗ (bigSepL shifts fun o => dutyTok ER (dcell c 4 o.succ) 0 0) ∗ (bigSepL shifts fun o => dutyTok ER (dcell (nx o c) 5 c) 0 0))

/-- The credits for what the other devices owe device `c`. -/
def owed : sProp 𝕄 :=
  iprop(cred (tallyAt (barCell c) () 15) ∗ (bigSepL shifts fun o => cred (tallyAt (dcell c 1 (pv o c)) () NC))
    ∗ (bigSepL shifts fun o => cred (tallyAt (dcell c 5 (pv o c)) () ND)) ∗ (bigSepL shifts fun o => cred (tallyAt (dcell c 3 (pv o c)) () NX)))

/-- The scratch buffers, at some contents. -/
def scr : sProp 𝕄 :=
  iprop((∃ f : Vec F S16x64x1024 .fp8e4m3, (c : Thread nD τ).loc cc0_scratch0 ↦{fullShare} f)
    ∗ (∃ f : Vec F S16x64x1024 .fp8e4m3, (c : Thread nD τ).loc cc0_scratch1 ↦{fullShare} f)
    ∗ (∃ f : Vec F S1024x8 .bf16, (c : Thread nD τ).loc cc0_scratch2 ↦{fullShare} f)
    ∗ (∃ f : Vec F S16x64x8 .bf16, (c : Thread nD τ).loc cc0_scratch3 ↦{fullShare} f)
    ∗ (∃ f : Vec F S1024x1024 .bf16, (c : Thread nD τ).loc cc0_scratch4 ↦{fullShare} f))

theorem bigSepL_mono' {ι : Type} (l : List ι) {Φ Ψ : ι → sProp 𝕄} (h : ∀ i, Φ i ⊢ Ψ i) : bigSepL l Φ ⊢ bigSepL l Ψ := bigSepL_mono fun i _ => h i

/-- The first half: from the start to the blocks of all sources, received. -/
def mid : sProp 𝕄 :=
  iprop(Owes c (OX c shifts) ∗ ins I c ∗ got I c ∗ fillB I c c ∗ (bigSepL shifts (sendB (F := F) c))
    ∗ (bigSepL shifts fun o => iprop(∃ f, pX (F := F) (nx o c) c f)) ∗ (∃ f, pX (F := F) c c f)
    ∗ atPos ER (barCell c) 1 ∅ 0 ∗ (bigSepL shifts fun o => atPos ER (dcell c 1 (pv o c)) 1 ∅ 0)
    ∗ (bigSepL shifts fun o => atPos ER (dcell c 5 (pv o c)) 1 ∅ 0))

theorem exists_all {β : Type} (Φ : Fin 15 → β → sProp 𝕄) (f : β) : (bigSepL shifts fun o => Φ o f) ⊢ bigSepL shifts fun o => iprop(∃ f, Φ o f) :=
  bigSepL_mono' shifts fun o => by iintro H; iexists f; iexact H
theorem exists_univ {β : Type} (Φ : Fin 16 → β → sProp 𝕄) (f : β) : (bigSep Finset.univ fun e => Φ e f) ⊢ bigSep Finset.univ fun e => iprop(∃ f, Φ e f) :=
  bigSep_mono fun e _ => show Φ e f ⊢ iprop(∃ f, Φ e f) from by iintro H; iexists f; iexact H

/-- The buffers of a device, dealt into the pieces that stay and the pieces lent to the others. -/
theorem scr_split :
    (scr (F := F) c) ⊢ iprop((bigSep Finset.univ fun e => fillA (F := F) c e) ∗ (∃ f, pR (F := F) c c f) ∗ (∃ f, pDR (F := F) c c f) ∗ (∃ f, pX (F := F) c c f)
      ∗ bigSepL shifts fun o => give (F := F) c o) := by
  have hg : (bigSepL shifts fun o => give (F := F) c o) = iprop((bigSepL shifts fun o => iprop(∃ f, pR (F := F) c (nx o c) f))
      ∗ (bigSepL shifts fun o => iprop(∃ f, pDR (F := F) c (nx o c) f)) ∗ (bigSepL shifts fun o => iprop(∃ f, pX (F := F) c (nx o c) f))) := by
    unfold give
    rw [shifts_sep, shifts_sep]
  have hf : (bigSep Finset.univ fun e => fillA (F := F) c e) = iprop((bigSep Finset.univ fun e => iprop(∃ f, pS (F := F) c e f))
      ∗ (bigSep Finset.univ fun e => iprop(∃ f, pDS (F := F) c e f))) := by
    unfold fillA
    rw [bigSep_sep']
  rw [hg, hf]
  unfold scr
  simp only [whole_S, whole_R, whole_DS, whole_DR, whole_X]
  iintro ⟨⟨%f0, H0⟩, ⟨%f1, H1⟩, ⟨%f2, H2⟩, ⟨%f3, H3⟩, ⟨%f4, H4⟩⟩
  ihave H1' := (Entails.of_eq (bigSep_nx c (fun e => pR c e f1))) $$ H1
  ihave H3' := (Entails.of_eq (bigSep_nx c (fun e => pDR c e f3))) $$ H3
  ihave H4' := (Entails.of_eq (bigSep_nx c (fun e => pX c e f4))) $$ H4
  icases H1' with ⟨H1a, H1b⟩
  icases H3' with ⟨H3a, H3b⟩
  icases H4' with ⟨H4a, H4b⟩
  isplitl [H0 H2]
  · isplitl [H0]
    · iapply (exists_univ (fun e f => pS (F := F) c e f) f0); iexact H0
    · iapply (exists_univ (fun e f => pDS (F := F) c e f) f2); iexact H2
  isplitl [H1a]; · iexists f1; iexact H1a
  isplitl [H3a]; · iexists f3; iexact H3a
  isplitl [H4a]; · iexists f4; iexact H4a
  isplitl [H1b]; · iapply (exists_all (fun o f => pR (F := F) c (nx o c) f) f1); iexact H1b
  isplitl [H3b]; · iapply (exists_all (fun o f => pDR (F := F) c (nx o c) f) f3); iexact H3b
  iapply (exists_all (fun o f => pX (F := F) c (nx o c) f) f4); iexact H4b

/-- What the barrier hands over, sorted by buffer. -/
theorem barPay_split : (bigSepL shifts fun o => barPay (F := F) c o)
    = iprop((bigSepL shifts fun o => iprop(∃ f, pR (F := F) (nx o c) c f)) ∗ (bigSepL shifts fun o => iprop(∃ f, pDR (F := F) (nx o c) c f))
      ∗ (bigSepL shifts fun o => iprop(∃ f, pX (F := F) (nx o c) c f))) := by
  unfold barPay
  rw [shifts_sep, shifts_sep]

theorem sendA_split : (bigSepL shifts fun o => sendA I c o)
    = iprop((bigSepL shifts fun o => fillB I c (nx o c)) ∗ (bigSepL shifts fun o => iprop(∃ f, pR (F := F) (nx o c) c f))
      ∗ (bigSepL shifts fun o => iprop(∃ f, pDR (F := F) (nx o c) c f))
      ∗ (bigSepL shifts fun o => dutyTok ER (dcell c 0 o.succ) 0 0) ∗ (bigSepL shifts fun o => dutyTok ER (dcell (nx o c) 1 c) 0 0)
      ∗ (bigSepL shifts fun o => dutyTok ER (dcell c 4 o.succ) 0 0) ∗ (bigSepL shifts fun o => dutyTok ER (dcell (nx o c) 5 c) 0 0)) := by
  unfold sendA
  rw [shifts_sep, shifts_sep, shifts_sep, shifts_sep, shifts_sep, shifts_sep]

theorem recvA_split : (bigSepL shifts fun o => recvA (F := F) c o)
    = iprop(((bigSepL shifts fun o => cred (tallyAt (dcell c 1 (pv o c)) () NC)) ∗ (bigSepL shifts fun o => atPos ER (dcell c 1 (pv o c)) 0 ∅ 0))
      ∗ (bigSepL shifts fun o => cred (tallyAt (dcell c 5 (pv o c)) () ND)) ∗ (bigSepL shifts fun o => atPos ER (dcell c 5 (pv o c)) 0 ∅ 0)) := by
  unfold recvA
  rw [shifts_sep, shifts_sep, shifts_sep]

theorem recvB_split : (bigSepL shifts fun o => recvB I c o)
    = iprop(((bigSepL shifts fun o => atPos ER (dcell c 1 (pv o c)) 1 ∅ 0) ∗ (bigSepL shifts fun o => pR c (pv o c) (RB I c)))
      ∗ (bigSepL shifts fun o => atPos ER (dcell c 5 (pv o c)) 1 ∅ 0) ∗ (bigSepL shifts fun o => pDR c (pv o c) (RL I c))) := by
  unfold recvB
  rw [shifts_sep, shifts_sep, shifts_sep]

/-- The end of the kernel, from the sums on. -/
def tail (d : Dev nD) : P F PUnit := do
  let cl ← total
  projStep d cl
  each shifts (castStep d)
  each shifts (leftStep d)
  each shifts (takeStep d)
  each shifts (doneStep d)

/-- The first half: from the start to the blocks of all sources, received. -/
theorem first_half (Q : PUnit → sProp 𝕄) :
    iprop(ctx I K ∗ Owes c (O₀ c) ∗ ins I c ∗ scr (F := F) c ∗ cred (tallyAt (barCell c) () 15) ∗ atPos ER (barCell c) 0 ∅ 0
        ∗ (bigSepL shifts fun o => dutyTok ER (barCell (nx o c)) 0 o.rev)
        ∗ (bigSepL shifts fun o => dutyTok ER (dcell c 0 o.succ) 0 0) ∗ (bigSepL shifts fun o => dutyTok ER (dcell (nx o c) 1 c) 0 0)
        ∗ (bigSepL shifts fun o => dutyTok ER (dcell c 4 o.succ) 0 0) ∗ (bigSepL shifts fun o => dutyTok ER (dcell (nx o c) 5 c) 0 0)
        ∗ (bigSepL shifts fun o => cred (tallyAt (dcell c 1 (pv o c)) () NC)) ∗ (bigSepL shifts fun o => atPos ER (dcell c 1 (pv o c)) 0 ∅ 0)
        ∗ (bigSepL shifts fun o => cred (tallyAt (dcell c 5 (pv o c)) () ND)) ∗ (bigSepL shifts fun o => atPos ER (dcell c 5 (pv o c)) 0 ∅ 0))
      ⊢ iprop((mid I c -∗ WP c (tail c) Q) -∗ WP c (rest c) Q) := by
  unfold rest mid
  iintro ⟨#HC, HO, Hins, Hscr, Hcb, Hab, Htb, Ht0, Ht1, Ht4, Ht5, Hc1, Ha1, Hc5, Ha5⟩ Hk
  ihave Hs := (scr_split (F := F) c) $$ Hscr
  icases Hs with ⟨Hfill, Hr, Hd, Hx, Hgive⟩
  iapply (seq c (tell_all I K c)) $$ [HO Htb Hgive]
  · isplitr; · iexact HC
    isplitl [HO]; · iexact HO
    rw [shifts_sep]
    isplitl [Htb] <;> iassumption
  iintro %_ ⟨HO, -⟩
  iapply (bar_wait I K c) $$ [HO Hcb Hab]
  · isplitr; · iexact HC
    isplitl [HO]; · iexact HO
    isplitl [Hcb] <;> iassumption
  iintro ⟨HO, Hab, Hpay⟩
  ihave Hp := (Entails.of_eq (barPay_split (F := F) c)) $$ Hpay
  icases Hp with ⟨HpR, HpD, HpX⟩
  iapply (seq c (compute_all I c)) $$ [Hins Hfill]
  · isplitl [Hins] <;> iassumption
  iintro %_ ⟨Hins, Hfill⟩
  ihave Hf := (Entails.of_eq (bigSep_nx c (fun e => fillB I c e))) $$ Hfill
  icases Hf with ⟨Hfc, Hfs⟩
  unfold fillB
  icases Hfc with ⟨HfS, HfD⟩
  iapply (seq c (own_step I c)) $$ [HfS HfD Hr Hd]
  · isplitl [HfS]; · iexact HfS
    isplitl [Hr]; · iexact Hr
    isplitl [HfD] <;> iassumption
  iintro %_ ⟨HfS, Hr, HfD, Hd⟩
  iapply (seq c (send_all I K c)) $$ [HO Hfs HpR HpD Ht0 Ht1 Ht4 Ht5]
  · isplitr; · iexact HC
    isplitl [HO]; · iexact HO
    iapply (Entails.of_eq (sendA_split I c).symm)
    unfold fillB
    isplitl [Hfs]; · iexact Hfs
    isplitl [HpR]; · iexact HpR
    isplitl [HpD]; · iexact HpD
    isplitl [Ht0]; · iexact Ht0
    isplitl [Ht1]; · iexact Ht1
    isplitl [Ht4] <;> iassumption
  iintro %_ ⟨HO, HsB⟩
  iapply (seq c (recv_all I K c)) $$ [HO Hc1 Ha1 Hc5 Ha5]
  · isplitr; · iexact HC
    isplitl [HO]; · iexact HO
    iapply (Entails.of_eq (recvA_split (F := F) c).symm)
    isplitl [Hc1 Ha1]
    · isplitl [Hc1] <;> iassumption
    · isplitl [Hc5] <;> iassumption
  iintro %_ ⟨HO, HrB⟩
  ihave Hq := (Entails.of_eq (recvB_split I c)) $$ HrB
  icases Hq with ⟨⟨Ha1, HR⟩, Ha5, HD⟩
  iapply Hk
  isplitl [HO]; · iexact HO
  isplitl [Hins]; · iexact Hins
  isplitl [Hr HR Hd HD]
  · unfold got
    rw [whole_R, whole_DR, bigSep_pv c, bigSep_pv c]
    isplitl [Hr HR]
    · isplitl [Hr] <;> iassumption
    · isplitl [Hd] <;> iassumption
  isplitl [HfS HfD]
  · isplitl [HfS] <;> iassumption
  isplitl [HsB]; · iexact HsB
  isplitl [HpX]; · iexact HpX
  isplitl [Hx]; · iexact Hx
  isplitl [Hab]; · iexact Hab
  isplitl [Ha1] <;> iassumption

end Cert.KernelIdeal.Talk

end
-- ==== Proof.Whole.lean ====
/- The second half of the kernel on one device, and the whole. -/
module

public import proofs.«01_k».proof.Proof.Body

@[expose] public section

set_option maxRecDepth 8000

noncomputable section

namespace Cert.KernelIdeal.Talk

open Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × Cell → ℕ) (c : Dev nD)

theorem castA_split : (bigSepL shifts fun o => castA I c o)
    = iprop((bigSepL shifts fun o => pXq (shr o) c c (OC I)) ∗ (bigSepL shifts fun o => iprop(∃ f, pX (F := F) (nx o c) c f))
      ∗ (bigSepL shifts fun o => dutyTok ER (dcell c 2 o.succ) 0 0) ∗ (bigSepL shifts fun o => dutyTok ER (dcell (nx o c) 3 c) 0 0)) := by
  unfold castA
  rw [shifts_sep, shifts_sep, shifts_sep]

theorem sendB_split : (bigSepL shifts fun o => sendB (F := F) c o)
    = iprop((bigSepL shifts fun o => cred (tallyAt (dcell c 0 o.succ) () NC)) ∗ (bigSepL shifts fun o => cred (tallyAt (dcell c 4 o.succ) () ND))) := by
  unfold sendB
  rw [shifts_sep]

theorem leftA_split : (bigSepL shifts fun o => leftA (F := F) c o)
    = iprop(((bigSepL shifts fun o => cred (tallyAt (dcell c 0 o.succ) () NC)) ∗ (bigSepL shifts fun o => atPos ER (dcell c 0 o.succ) 0 ∅ 0))
      ∗ (bigSepL shifts fun o => cred (tallyAt (dcell c 4 o.succ) () ND)) ∗ (bigSepL shifts fun o => atPos ER (dcell c 4 o.succ) 0 ∅ 0)) := by
  unfold leftA
  rw [shifts_sep, shifts_sep, shifts_sep]

theorem leftB_split : (bigSepL shifts fun o => leftB I c o)
    = iprop(((bigSepL shifts fun o => atPos ER (dcell c 0 o.succ) 1 ∅ 0) ∗ (bigSepL shifts fun o => pS c (nx o c) (SB (I c))))
      ∗ (bigSepL shifts fun o => atPos ER (dcell c 4 o.succ) 1 ∅ 0) ∗ (bigSepL shifts fun o => pDS c (nx o c) (LB (I c)))) := by
  unfold leftB
  rw [shifts_sep, shifts_sep, shifts_sep]

theorem takeA_split : (bigSepL shifts fun o => takeA (F := F) c o)
    = iprop(((bigSepL shifts fun o => cred (tallyAt (dcell c 3 (pv o c)) () NX)) ∗ (bigSepL shifts fun o => atPos ER (dcell c 3 (pv o c)) 0 ∅ 0))
      ∗ (bigSepL shifts fun o => iprop(∃ f, pO (F := F) c (pv o c) f))) := by
  unfold takeA
  rw [shifts_sep, shifts_sep]

theorem takeB_split : (bigSepL shifts fun o => takeB I c o)
    = iprop((bigSepL shifts fun o => atPos ER (dcell c 3 (pv o c)) 1 ∅ 0) ∗ (bigSepL shifts fun o => pX c (pv o c) (OC I))
      ∗ (bigSepL shifts fun o => pO c (pv o c) (OUT I c))) := by
  unfold takeB
  rw [shifts_sep, shifts_sep]

theorem doneA_split : (bigSepL shifts fun o => doneA (F := F) c o)
    = iprop((bigSepL shifts fun o => cred (tallyAt (dcell c 2 o.succ) () NX)) ∗ (bigSepL shifts fun o => atPos ER (dcell c 2 o.succ) 0 ∅ 0)) := by
  unfold doneA
  rw [shifts_sep]

theorem doneB_split : (bigSepL shifts fun o => doneB I c o)
    = iprop((bigSepL shifts fun o => atPos ER (dcell c 2 o.succ) 1 ∅ 0) ∗ (bigSepL shifts fun o => pXq (shr o) c c (OC I))) := by
  unfold doneB
  rw [shifts_sep]

/-- What the second half leaves: the result, the buffers and the positions of the used cells. -/
def fin : sProp 𝕄 :=
  iprop(Owes c 0 ∗ ins I c ∗ ((c : Thread nD τ).loc cc0_stg5_0 ↦{fullShare} OUT I c) ∗ scr (F := F) c
    ∗ atPos ER (barCell c) 1 ∅ 0
    ∗ (bigSepL shifts fun o => atPos ER (dcell c 0 o.succ) 1 ∅ 0) ∗ (bigSepL shifts fun o => atPos ER (dcell c 1 (pv o c)) 1 ∅ 0)
    ∗ (bigSepL shifts fun o => atPos ER (dcell c 2 o.succ) 1 ∅ 0) ∗ (bigSepL shifts fun o => atPos ER (dcell c 3 (pv o c)) 1 ∅ 0)
    ∗ (bigSepL shifts fun o => atPos ER (dcell c 4 o.succ) 1 ∅ 0) ∗ (bigSepL shifts fun o => atPos ER (dcell c 5 (pv o c)) 1 ∅ 0))

theorem second_half :
    iprop(ctx I K ∗ mid I c ∗ (∃ f : Vec F S1x1024x1024 .f32, (c : Thread nD τ).loc cc0_stg5_0 ↦{fullShare} f)
        ∗ (bigSepL shifts fun o => dutyTok ER (dcell c 2 o.succ) 0 0) ∗ (bigSepL shifts fun o => dutyTok ER (dcell (nx o c) 3 c) 0 0)
        ∗ (bigSepL shifts fun o => atPos ER (dcell c 0 o.succ) 0 ∅ 0) ∗ (bigSepL shifts fun o => atPos ER (dcell c 4 o.succ) 0 ∅ 0)
        ∗ (bigSepL shifts fun o => cred (tallyAt (dcell c 3 (pv o c)) () NX)) ∗ (bigSepL shifts fun o => atPos ER (dcell c 3 (pv o c)) 0 ∅ 0)
        ∗ (bigSepL shifts fun o => atPos ER (dcell c 2 o.succ) 0 ∅ 0))
      ⊢ WP c (tail c) (fun _ => fin I c) := by
  unfold tail mid ins
  iintro ⟨#HC, ⟨HO, ⟨Hx0, Hx1, Hx2, Hx3, Hx4⟩, Hgot, Hfc, HsB, HX, Hxc, Hab, Ha1, Ha5⟩, ⟨%fo, Hout⟩, Ht2, Ht3, Ha0, Ha4, Hc3, Ha3, Ha2⟩
  ihave Ho := (Entails.of_eq (whole_O c fo)) $$ Hout
  ihave Ho' := (Entails.of_eq (bigSep_pv c (fun e => pO c e fo))) $$ Ho
  icases Ho' with ⟨Hoc, Hos⟩
  iapply (seq c (total_eq I c)) $$ [Hgot]
  · iexact Hgot
  iintro %cl ⟨%hcl, Hgot⟩
  iapply (seq c (proj_step I c cl hcl)) $$ [Hx4 Hoc Hxc]
  · isplitl [Hx4]; · iexact Hx4
    isplitl [Hoc]; · iexists fo; iexact Hoc
    iexact Hxc
  iintro %_ ⟨Hx4, Hoc, Hxc⟩
  ihave Hxs := (Entails.of_eq (deal_X I c)) $$ Hxc
  iapply (seq c (cast_all I K c)) $$ [HO Hxs HX Ht2 Ht3]
  · isplitr; · iexact HC
    isplitl [HO]; · iexact HO
    iapply (Entails.of_eq (castA_split I c).symm)
    isplitl [Hxs]; · iexact Hxs
    isplitl [HX]; · iexact HX
    isplitl [Ht2] <;> iassumption
  iintro %_ ⟨HO, HcB⟩
  ihave Hsb := (Entails.of_eq (sendB_split (F := F) c)) $$ HsB
  icases Hsb with ⟨Hc0, Hc4⟩
  iapply (seq c (left_all I K c)) $$ [HO Hc0 Hc4 Ha0 Ha4]
  · isplitr; · iexact HC
    isplitl [HO]; · iexact HO
    iapply (Entails.of_eq (leftA_split (F := F) c).symm)
    isplitl [Hc0 Ha0]
    · isplitl [Hc0] <;> iassumption
    · isplitl [Hc4] <;> iassumption
  iintro %_ ⟨HO, HlB⟩
  ihave Hl := (Entails.of_eq (leftB_split I c)) $$ HlB
  icases Hl with ⟨⟨Ha0, HS⟩, Ha4, HDS⟩
  iapply (seq c (take_all I K c)) $$ [HO Hc3 Ha3 Hos]
  · isplitr; · iexact HC
    isplitl [HO]; · iexact HO
    iapply (Entails.of_eq (takeA_split (F := F) c).symm)
    isplitl [Hc3 Ha3]
    · isplitl [Hc3] <;> iassumption
    iapply (exists_all (fun o f => pO (F := F) c (pv o c) f) fo); iexact Hos
  iintro %_ ⟨HO, HtB⟩
  ihave Ht := (Entails.of_eq (takeB_split I c)) $$ HtB
  icases Ht with ⟨Ha3, HXr, Hos⟩
  iapply (wp_wand_r frame (wpE (defs₀ (F := F)) 𝒱₀ (c : Thread nD τ) none) Set.univ)
  isplitl [HO HcB Ha2]
  · iapply (done_all I K c)
    isplitr; · iexact HC
    isplitl [HO]; · iexact HO
    iapply (Entails.of_eq (doneA_split (F := F) c).symm)
    unfold castB
    isplitl [HcB] <;> iassumption
  iintro %_ ⟨HO, HdB⟩
  ihave Hd := (Entails.of_eq (doneB_split I c)) $$ HdB
  icases Hd with ⟨Ha2, Hxs⟩
  ihave Hxc := (Entails.of_eq (deal_X I c).symm) $$ Hxs
  unfold fillB got fin ins scr
  icases Hfc with ⟨HfS, HfD⟩
  icases Hgot with ⟨HR, HD⟩
  isplitl [HO]; · iexact HO
  isplitl [Hx0 Hx1 Hx2 Hx3 Hx4]
  · isplitl [Hx0]; · iexact Hx0
    isplitl [Hx1]; · iexact Hx1
    isplitl [Hx2]; · iexact Hx2
    isplitl [Hx3] <;> iassumption
  isplitl [Hoc Hos]
  · rw [whole_O, bigSep_pv c]
    isplitl [Hoc] <;> iassumption
  isplitl [HfS HS HR HfD HDS HD Hxc HXr]
  · isplitl [HfS HS]
    · iexists (SB (I c)); rw [whole_S, bigSep_nx c]; isplitl [HfS] <;> iassumption
    isplitl [HR]
    · iexists (RB I c); iexact HR
    isplitl [HfD HDS]
    · iexists (LB (I c)); rw [whole_DS, bigSep_nx c]; isplitl [HfD] <;> iassumption
    isplitl [HD]
    · iexists (RL I c); iexact HD
    iexists (OC I); rw [whole_X, bigSep_pv c]; isplitl [Hxc] <;> iassumption
  isplitl [Hab]; · iexact Hab
  isplitl [Ha0]; · iexact Ha0
  isplitl [Ha1]; · iexact Ha1
  isplitl [Ha2]; · iexact Ha2
  isplitl [Ha3]; · iexact Ha3
  isplitl [Ha4] <;> iassumption

theorem last_send (k : Fin 6) (hk : k.val % 2 = 0) (o : Fin 15) : last c (some (k, o.succ)) = 1 := if_pos (live_send c k hk o)
theorem last_recv (k : Fin 6) (hk : k.val % 2 ≠ 0) (o : Fin 15) : last c (some (k, pv o c)) = 1 := if_pos (live_recv c k hk _ (pv_ne o c))
theorem last_send0 (k : Fin 6) (hk : k.val % 2 = 0) : last c (some (k, 0)) = 0 := if_neg (dead_send c k hk)
theorem last_recv0 (k : Fin 6) (hk : k.val % 2 ≠ 0) : last c (some (k, c)) = 0 := if_neg (dead_recv c k hk)

theorem at0_eq : (at0 c : sProp 𝕄) = iprop(atPos ER (barCell c) 0 ∅ 0
    ∗ (atPos ER (dcell c 0 0) 0 ∅ 0 ∗ bigSepL shifts fun o => atPos ER (dcell c 0 o.succ) 0 ∅ 0) ∗ (atPos ER (dcell c 1 c) 0 ∅ 0 ∗ bigSepL shifts fun o => atPos ER (dcell c 1 (pv o c)) 0 ∅ 0)
    ∗ (atPos ER (dcell c 2 0) 0 ∅ 0 ∗ bigSepL shifts fun o => atPos ER (dcell c 2 o.succ) 0 ∅ 0) ∗ (atPos ER (dcell c 3 c) 0 ∅ 0 ∗ bigSepL shifts fun o => atPos ER (dcell c 3 (pv o c)) 0 ∅ 0)
    ∗ (atPos ER (dcell c 4 0) 0 ∅ 0 ∗ bigSepL shifts fun o => atPos ER (dcell c 4 o.succ) 0 ∅ 0) ∗ (atPos ER (dcell c 5 c) 0 ∅ 0 ∗ bigSepL shifts fun o => atPos ER (dcell c 5 (pv o c)) 0 ∅ 0)) := by
  unfold at0
  rw [bigSep_cells c]
theorem at1_eq : (at1 c : sProp 𝕄) = iprop(atPos ER (barCell c) 1 ∅ 0
    ∗ (atPos ER (dcell c 0 0) 0 ∅ 0 ∗ bigSepL shifts fun o => atPos ER (dcell c 0 o.succ) 1 ∅ 0) ∗ (atPos ER (dcell c 1 c) 0 ∅ 0 ∗ bigSepL shifts fun o => atPos ER (dcell c 1 (pv o c)) 1 ∅ 0)
    ∗ (atPos ER (dcell c 2 0) 0 ∅ 0 ∗ bigSepL shifts fun o => atPos ER (dcell c 2 o.succ) 1 ∅ 0) ∗ (atPos ER (dcell c 3 c) 0 ∅ 0 ∗ bigSepL shifts fun o => atPos ER (dcell c 3 (pv o c)) 1 ∅ 0)
    ∗ (atPos ER (dcell c 4 0) 0 ∅ 0 ∗ bigSepL shifts fun o => atPos ER (dcell c 4 o.succ) 1 ∅ 0) ∗ (atPos ER (dcell c 5 c) 0 ∅ 0 ∗ bigSepL shifts fun o => atPos ER (dcell c 5 (pv o c)) 1 ∅ 0)) := by
  unfold at1
  rw [bigSep_cells c]
  simp only [last_send c 0 rfl, last_send c 2 rfl, last_send c 4 rfl, last_recv c 1 (by decide), last_recv c 3 (by decide), last_recv c 5 (by decide),
    last_send0 c 0 rfl, last_send0 c 2 rfl, last_send0 c 4 rfl, last_recv0 c 1 (by decide), last_recv0 c 3 (by decide), last_recv0 c 5 (by decide)]
  rfl

/-- What a device holds when its kernel is done. -/
def done : sProp 𝕄 :=
  iprop(Owes c 0 ∗ ins I c ∗ ((c : Thread nD τ).loc cc0_stg5_0 ↦{fullShare} OUT I c) ∗ scr (F := F) c ∗ at1 c)

/-- The whole kernel on device `c`. -/
theorem whole_kernel :
    iprop(ctx I K ∗ Owes c (O₀ c) ∗ ins I c ∗ (∃ f : Vec F S1x1024x1024 .f32, (c : Thread nD τ).loc cc0_stg5_0 ↦{fullShare} f) ∗ scr (F := F) c
        ∗ at0 c ∗ payToks c ∗ owed c)
      ⊢ WP c (clean (F := F)) (fun _ => done I c) := by
  have hd : clean (F := F) = .op .deviceId (fun d => rest d) := rfl
  have hw : WP c (clean (F := F)) (fun _ => done I c) = WP c (rest c) (fun _ => done I c) := by
    rw [hd]; unfold WP; rw [wp_deviceId]
  rw [hw, at0_eq]
  unfold payToks owed
  iintro ⟨#HC, HO, Hins, Hout, Hscr, ⟨Hab, ⟨Hz0, Ha0⟩, ⟨Hz1, Ha1⟩, ⟨Hz2, Ha2⟩, ⟨Hz3, Ha3⟩, ⟨Hz4, Ha4⟩, Hz5, Ha5⟩,
    ⟨Htb, Ht0, Ht1, Ht2, Ht3, Ht4, Ht5⟩, Hcb, Hc1, Hc5, Hc3⟩
  iapply (first_half I K c (fun _ => done I c)) $$ [HO Hins Hscr Hab Ha1 Ha5 Htb Ht0 Ht1 Ht4 Ht5 Hcb Hc1 Hc5]
  · isplitr; · iexact HC
    isplitl [HO]; · iexact HO
    isplitl [Hins]; · iexact Hins
    isplitl [Hscr]; · iexact Hscr
    isplitl [Hcb]; · iexact Hcb
    isplitl [Hab]; · iexact Hab
    isplitl [Htb]; · iexact Htb
    isplitl [Ht0]; · iexact Ht0
    isplitl [Ht1]; · iexact Ht1
    isplitl [Ht4]; · iexact Ht4
    isplitl [Ht5]; · iexact Ht5
    isplitl [Hc1]; · iexact Hc1
    isplitl [Ha1]; · iexact Ha1
    isplitl [Hc5] <;> iassumption
  iintro Hmid
  unfold WP
  iapply (wp_wand_r frame (wpE (defs₀ (F := F)) 𝒱₀ (c : Thread nD τ) none) Set.univ)
  isplitl [Hmid Hout Ht2 Ht3 Ha0 Ha4 Hc3 Ha3 Ha2]
  · iapply (second_half I K c)
    isplitr; · iexact HC
    isplitl [Hmid]; · iexact Hmid
    isplitl [Hout]; · iexact Hout
    isplitl [Ht2]; · iexact Ht2
    isplitl [Ht3]; · iexact Ht3
    isplitl [Ha0]; · iexact Ha0
    isplitl [Ha4]; · iexact Ha4
    isplitl [Hc3]; · iexact Hc3
    isplitl [Ha3] <;> iassumption
  unfold fin done
  rw [at1_eq]
  iintro %_ ⟨HO, Hins, Hout, Hscr, Hab, Ha0, Ha1, Ha2, Ha3, Ha4, Ha5⟩
  isplitl [HO]; · iexact HO
  isplitl [Hins]; · iexact Hins
  isplitl [Hout]; · iexact Hout
  isplitl [Hscr]; · iexact Hscr
  isplitl [Hab]; · iexact Hab
  isplitl [Hz0 Ha0]; · isplitl [Hz0] <;> iassumption
  isplitl [Hz1 Ha1]; · isplitl [Hz1] <;> iassumption
  isplitl [Hz2 Ha2]; · isplitl [Hz2] <;> iassumption
  isplitl [Hz3 Ha3]; · isplitl [Hz3] <;> iassumption
  isplitl [Hz4 Ha4]; · isplitl [Hz4] <;> iassumption
  isplitl [Hz5] <;> iassumption

/-- Closing a cell: its counter stands at zero again. -/
theorem cell_done (a : Cell) :
    iprop(cellInv ER (Rd I) (K (c, a)) (kcell (c, a)) ∗ atPos ER (kcell (c, a)) (last c a) ∅ 0) ⊢ (|={Set.univ}=> semVal (kcell (c, a)) 0 : sProp 𝕄) := by
  match a with
  | none => exact Rounds.cell_close ER (Rd I) (Set.mem_univ _) (fun h => h) (R := 1) (duties_later I (barCell c))
  | some (k, j) =>
    by_cases h : live c k j
    · rw [show last c (some (k, j)) = 1 from if_pos h]
      exact Rounds.cell_close ER (Rd I) (Set.mem_univ _) (fun h => h) (R := 1) (duties_later I (dcell c k j))
    · rw [show last c (some (k, j)) = 0 from if_neg h]
      exact Rounds.cell_close ER (Rd I) (Set.mem_univ _) (fun h => h) (R := 0) (duties_none I c k j h)

theorem cells_done :
    iprop(ctx I K ∗ at1 c) ⊢ (|={Set.univ}=> bigSep Finset.univ fun a : Cell => semVal (kcell (c, a)) 0 : sProp 𝕄) := by
  unfold at1
  have h : iprop(ctx I K ∗ bigSep Finset.univ fun a : Cell => atPos ER (kcell (c, a)) (last c a) ∅ 0)
      ⊢ (bigSep Finset.univ fun a : Cell => iprop(|={Set.univ}=> semVal (kcell (c, a)) 0) : sProp 𝕄) := by
    refine (sep_mono_left (BI.bigSep_of_persistent (Finset.univ : Finset Cell) (ctx I K))).trans ?_
    rw [← bigSep_sep']
    exact bigSep_mono fun a _ => (sep_mono_left (ctx_inv I K (c, a))).trans (cell_done I K c a)
  exact h.trans (bigSep_fupd _ _)

end Cert.KernelIdeal.Talk

end
-- ==== Proof.Deal.lean ====
/- What the launch deals: the tokens of the payments, and the credits for what the devices owe each other. -/
module

public import proofs.«01_k».proof.Proof.Whole

public import Idealize.ShloMosaic.Lib.Pipeline.Launch

@[expose] public section

set_option maxRecDepth 8000

noncomputable section

namespace Cert.KernelIdeal.Talk

open Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
open Idealize.ShloMosaic.Pipeline (launchCred)

variable (c : Dev nD)

/-! ## Moving a family around the ring -/

/-- A family over shifts and devices, each shift's members taken by the devices that shift leads to. -/
theorem around (Φ : Fin 15 → Dev nD → sProp 𝕄) :
    (bigSep Finset.univ fun c : Dev nD => bigSepL shifts fun o => Φ o c) = bigSep Finset.univ fun c : Dev nD => bigSepL shifts fun o => Φ o (nx o c) := by
  have h : ∀ Ψ : Fin 15 → Dev nD → sProp 𝕄, (bigSep Finset.univ fun c : Dev nD => bigSepL shifts fun o => Ψ o c)
      = bigSep Finset.univ fun o => bigSep Finset.univ fun c : Dev nD => Ψ o c := fun Ψ => by
    rw [← bigSep_univ_comm]
    exact bigSep_congr fun c _ => (bigSep_univ_eq_bigSepL shifts (by decide) (by decide) _).symm
  rw [h, h]
  exact bigSep_congr fun o _ => bigSep_univ_equiv (ring o) (Φ o)

/-! ## The tokens -/

/-- All tokens of the first round of device `c`'s cells. -/
def toks : sProp 𝕄 := bigSep Finset.univ fun a : Cell => bigSep Finset.univ fun d : Fin 15 => dutyTok ER (kcell (c, a)) 0 d

/-- The ones that are used, by the cell they belong to. -/
def ownToks : sProp 𝕄 :=
  iprop((bigSepL shifts fun o => dutyTok ER (barCell c) 0 o)
    ∗ (bigSepL shifts fun o => dutyTok ER (dcell c 0 o.succ) 0 0) ∗ (bigSepL shifts fun o => dutyTok ER (dcell c 1 (pv o c)) 0 0)
    ∗ (bigSepL shifts fun o => dutyTok ER (dcell c 2 o.succ) 0 0) ∗ (bigSepL shifts fun o => dutyTok ER (dcell c 3 (pv o c)) 0 0)
    ∗ (bigSepL shifts fun o => dutyTok ER (dcell c 4 o.succ) 0 0) ∗ (bigSepL shifts fun o => dutyTok ER (dcell c 5 (pv o c)) 0 0))

theorem first_tok (k : Fin 6) (j : Fin 15 → Fin 16) :
    (bigSepL shifts fun o => bigSep Finset.univ fun d : Fin 15 => (dutyTok ER (dcell c k (j o)) 0 d : sProp 𝕄))
      ⊢ bigSepL shifts fun o => (dutyTok ER (dcell c k (j o)) 0 0 : sProp 𝕄) :=
  bigSepL_mono fun o _ => bigSep_elim (Finset.mem_univ (0 : Fin 15))

theorem toks_own : (toks c : sProp 𝕄) ⊢ ownToks c := by
  unfold toks ownToks
  rw [bigSep_cells c]
  iintro ⟨Hb, ⟨-, H0⟩, ⟨-, H1⟩, ⟨-, H2⟩, ⟨-, H3⟩, ⟨-, H4⟩, -, H5⟩
  isplitl [Hb]
  · iapply (Entails.of_eq (bigSep_univ_eq_bigSepL shifts (by decide) (by decide) (fun d : Fin 15 => (dutyTok ER (barCell c) 0 d : sProp 𝕄)))); iexact Hb
  isplitl [H0]; · iapply (first_tok c 0 Fin.succ); iexact H0
  isplitl [H1]; · iapply (first_tok c 1 (fun o => pv o c)); iexact H1
  isplitl [H2]; · iapply (first_tok c 2 Fin.succ); iexact H2
  isplitl [H3]; · iapply (first_tok c 3 (fun o => pv o c)); iexact H3
  isplitl [H4]; · iapply (first_tok c 4 Fin.succ); iexact H4
  iapply (first_tok c 5 (fun o => pv o c)); iexact H5

theorem recv_around (k : Fin 6) : (bigSep Finset.univ fun c : Dev nD => bigSepL shifts fun o => (dutyTok ER (dcell c k (pv o c)) 0 0 : sProp 𝕄))
    = bigSep Finset.univ fun c : Dev nD => bigSepL shifts fun o => (dutyTok ER (dcell (nx o c) k c) 0 0 : sProp 𝕄) := by
  rw [around (fun o c => (dutyTok ER (dcell c k (pv o c)) 0 0 : sProp 𝕄))]
  simp only [pv_nx]

theorem bar_around : (bigSep Finset.univ fun c : Dev nD => bigSepL shifts fun o => (dutyTok ER (barCell c) 0 o : sProp 𝕄))
    = bigSep Finset.univ fun c : Dev nD => bigSepL shifts fun o => (dutyTok ER (barCell (nx o c)) 0 o.rev : sProp 𝕄) := by
  rw [← around (fun o c => (dutyTok ER (barCell c) 0 o.rev : sProp 𝕄))]
  exact bigSep_congr fun c _ => bigSepL_rev _

/-- Each device gets the tokens of the payments it makes. -/
theorem toks_around : (bigSep Finset.univ fun c : Dev nD => (toks c : sProp 𝕄)) ⊢ bigSep Finset.univ fun c : Dev nD => payToks (F := F) c := by
  refine (bigSep_mono fun c _ => toks_own c).trans ?_
  unfold ownToks payToks
  simp only [bigSep_sep']
  rw [recv_around, recv_around, recv_around, bar_around]
  exact BI.Entails.refl _

/-! ## The credits -/

/-- What is owed to one cell by one device, and by no other. -/
theorem launchCred_one (g : Dev nD → GSem nD τ sig) (n : ℕ) (sm : SemLoc sig) (d₀ : Dev nD) (h₀ : g d₀ = ((c : Thread nD τ), sm))
    (hu : ∀ d, g d = ((c : Thread nD τ), sm) → d = d₀) :
    (launchCred (fun d => tallyAt (g d) () n) c : sProp 𝕄) ⊢ cred (tallyAt ((c : Thread nD τ), sm) () n) := by
  refine (Pipeline.launchCred_elim _ c sm).trans (Entails.of_eq (congrArg cred ?_))
  rw [Pipeline.tallyOn_launchCredit_owing, Finset.sum_apply, Finset.sum_eq_single d₀
    (fun d _ hd => tallyAt_ne_cell (fun h => hd (hu d h.symm)) () n) (fun h => absurd (Finset.mem_univ _) h)]
  unfold tallyAt
  rw [h₀, tallyOn_self]

theorem launchCred_list (D : Fin 15 → Dev nD → Tal) (l : List (Fin 15)) :
    (launchCred (fun d => (l.map fun o => D o d).sum) c : sProp 𝕄) = bigSepL l fun o => launchCred (D o) c := by
  induction l with
  | nil => exact Pipeline.launchCred_zero c
  | cons o l ih =>
    rw [bigSepL_cons', ← ih, ← Pipeline.launchCred_add]
    rfl

theorem nx_src {o : Fin 15} {d : Dev nD} {sm sm' : SemLoc sig} (h : ((((nx o d : Dev nD) : Thread nD τ), sm) : GSem nD τ sig) = ((c : Thread nD τ), sm')) : d = pv o c := by
  have h' : nx o d = c := congrArg (fun g : GSem nD τ sig => g.1.1) h
  rw [← h', pv_nx]

theorem creds_recv (k : Fin 6) (n : ℕ) :
    (launchCred (fun d => (shifts.map fun o => tallyAt (dcell (nx o d) k d) () n).sum) c : sProp 𝕄)
      ⊢ bigSepL shifts fun o => cred (tallyAt (dcell c k (pv o c)) () n) := by
  rw [launchCred_list]
  exact bigSepL_mono fun o _ => launchCred_one c (fun d => dcell (nx o d) k d) n _ (pv o c) (by rw [nx_pv])
    (fun d h => nx_src c h)

theorem creds_bar :
    (launchCred (fun d => OB d shifts) c : sProp 𝕄) ⊢ cred (tallyAt (barCell c) () 15) := by
  have h1 : (launchCred (fun d => OB d shifts) c : sProp 𝕄) ⊢ bigSepL shifts fun _ => cred (tallyAt (barCell c) () 1) := by
    unfold OB
    rw [launchCred_list]
    exact bigSepL_mono fun o _ => launchCred_one c (fun d => barCell (nx o d)) 1 _ (pv o c) (by rw [nx_pv])
      (fun d h => nx_src c h)
  have h2 : ∀ l : List (Fin 15), (bigSepL l fun _ => (cred (tallyAt (barCell c) () 1) : sProp 𝕄)) ⊢ cred (tallyAt (barCell c) () l.length) := fun l => by
    induction l with
    | nil =>
      rw [show (tallyAt (barCell c) () ([] : List (Fin 15)).length : Tal) = 0 by unfold tallyAt; rw [List.length_nil, Finsupp.single_zero, tallyOn_zero], cred_zero]
      exact BI.Entails.refl _
    | cons o l ih =>
      rw [bigSepL_cons', List.length_cons, Nat.add_comm, ← tallyAt_add]
      exact (sep_mono_right ih).trans (cred_add _ _).2
  exact h1.trans (h2 shifts)

theorem creds : (launchCred O₀ c : sProp 𝕄) ⊢ owed (F := F) c := by
  have h1 : (launchCred O₀ c : sProp 𝕄) = iprop((launchCred (fun d => OX d shifts) c ∗ launchCred (fun d => OS d shifts) c) ∗ launchCred (fun d => OB d shifts) c) := by
    rw [← Pipeline.launchCred_add, ← Pipeline.launchCred_add]; rfl
  have h2 : (launchCred (fun d => OS d shifts) c : sProp 𝕄) ⊢ iprop((bigSepL shifts fun o => cred (tallyAt (dcell c 5 (pv o c)) () ND)) ∗ (bigSepL shifts fun o => cred (tallyAt (dcell c 1 (pv o c)) () NC))) := by
    unfold OS
    rw [launchCred_list, ← shifts_sep]
    refine bigSepL_mono fun o _ => ?_
    rw [Pipeline.launchCred_add]
    exact BI.sep_mono (launchCred_one c (fun d => dcell (nx o d) 5 d) ND _ (pv o c) (by rw [nx_pv])
        (fun d h => nx_src c h))
      (launchCred_one c (fun d => dcell (nx o d) 1 d) NC _ (pv o c) (by rw [nx_pv])
        (fun d h => nx_src c h))
  rw [h1]
  unfold owed
  iintro ⟨⟨HX, HS⟩, HB⟩
  ihave HS' := h2 $$ HS
  icases HS' with ⟨H5, H1⟩
  isplitl [HB]; · iapply (creds_bar c); iexact HB
  isplitl [H1]; · iexact H1
  isplitl [H5]; · iexact H5
  iapply (creds_recv c 3 NX); unfold OX; iexact HX

end Cert.KernelIdeal.Talk

end
-- ==== Proof.CleanEq.lean ====
/- The printed kernel unfolds to the program of loops, one operation after the other. -/
module

public import proofs.«01_k».proof.Proof.Clean
public import proofs.«01_k».proof.Proof.Gen.KernelIdeal.Launch
public import proofs.«01_k».proof.Proof.Gen.KernelIdeal.Points

@[expose] public section

noncomputable section

namespace Cert.KernelIdeal.Talk

open Idealize.ShloMosaic Idealize.SL.Sem Cert.KernelIdeal.Gen

variable {F : FTy → Type} [FloatOps F]

/-- Two programs agree when they start with the same operation and agree after it. -/
theorem op_congr {α β : Type} {e e' : TpuEff nD τ sig (Elt F) Λ₀ .tc β} {k k' : β → P F α} (he : e = e') (h : ∀ x, k x = k' x) :
    (Prog.op e k : P F α) = Prog.op e' k' := by subst he; exact congrArg _ (funext h)

set_option maxHeartbeats 4000000 in
set_option maxRecDepth 65536 in
/-- The printed kernel, on its buffers, is the program of loops. -/
theorem body_skel_eq : cc0_body_skel (F := F) xM (Memref.isWhole_whole _) wqM (Memref.isWhole_whole _) kM (Memref.isWhole_whole _)
    vM (Memref.isWhole_whole _) woM (Memref.isWhole_whole _) outM (Memref.isWhole_whole _) ctxS (Memref.isWhole_whole _)
    ctxR (Memref.isWhole_whole _) denS (Memref.isWhole_whole _) denR (Memref.isWhole_whole _) outX (Memref.isWhole_whole _)
    cc0_scratch5 cc0_scratch6 cc0_scratch7 cc0_scratch8 cc0_scratch9 cc0_scratch10 = clean (F := F) := by
  repeat (refine op_congr ?_ fun _ => ?_; focus rfl)
  rfl
/-- The kernel as the launch calls it is the program of loops. -/
theorem body_eq (t : Fin cfg0.N) : bodyAt0 (F := F) t = clean (F := F) := by
  have h : t = t0_0 := fin_N0 t
  subst h
  show cc0_body (F := F) xM (Memref.isWhole_whole _) wqM (Memref.isWhole_whole _) kM (Memref.isWhole_whole _)
    vM (Memref.isWhole_whole _) woM (Memref.isWhole_whole _) outM (Memref.isWhole_whole _) ctxS (Memref.isWhole_whole _)
    ctxR (Memref.isWhole_whole _) denS (Memref.isWhole_whole _) denR (Memref.isWhole_whole _) outX (Memref.isWhole_whole _)
    cc0_scratch5 cc0_scratch6 cc0_scratch7 cc0_scratch8 cc0_scratch9 cc0_scratch10 = clean (F := F)
  rw [cc0_body_eq_skeleton]
  exact body_skel_eq

end Cert.KernelIdeal.Talk

end
-- ==== Proof.Run.lean ====
/- The launch: the kernel on all devices, and the run of the whole program. -/
module

public import proofs.«01_k».proof.Proof.Deal
public import proofs.«01_k».proof.Proof.CleanEq

@[expose] public section

set_option maxRecDepth 8000

noncomputable section

namespace Cert.KernelIdeal.Talk

open Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
open Idealize.ShloMosaic.Pipeline (Dat Cfg Window BodyObligation cellOf)

variable (m : (ℓ : Loc nD τ sig) → Buf (Elt F) ℓ) (ρ : Dev nD → PrngReg)

/-- What device `c`'s argument arrays hold, window by window. -/
def inp (c : Dev nD) : Ins F where
  x := (win0_0.blk t0_0).view.read (Elt F) (m ((c : Thread nD τ).loc main_arg0))
  wq := (win0_1.blk t0_0).view.read (Elt F) (m ((c : Thread nD τ).loc main_arg1))
  k := (win0_2.blk t0_0).view.read (Elt F) (m ((c : Thread nD τ).loc main_arg2))
  v := (win0_3.blk t0_0).view.read (Elt F) (m ((c : Thread nD τ).loc main_arg3))
  wo := (win0_4.blk t0_0).view.read (Elt F) (m ((c : Thread nD τ).loc main_arg4))

/-- What device `c`'s kernel starts from, apart from buffers. -/
def start (c : Dev nD) : sProp 𝕄 := iprop((∃ K, ctx (inp m) K) ∗ at0 c ∗ payToks c ∗ owed c)
def Φ₀ (c : Dev nD) : sProp 𝕄 := iprop(start m c ∗ scr c)
def Φ₁ (c : Dev nD) : sProp 𝕄 := iprop(scr (F := F) c ∗ bigSep Finset.univ fun a : Cell => semVal (kcell (c, a)) 0)

/-- The pipeline's data: each input staged and left, the result written, what is owed paid at the one point. -/
def dats (_ : Fin 1) (c : Dev nD) : Dat τ (Elt F) Unit ℕ UU ℕ cfg0 c where
  A w := m ((cfg0.win w).arr.view.loc (c : Thread nD τ))
  after w _ := match w with
    | ⟨0, _⟩ => (inp m c).x
    | ⟨1, _⟩ => (inp m c).wq
    | ⟨2, _⟩ => (inp m c).k
    | ⟨3, _⟩ => (inp m c).v
    | ⟨4, _⟩ => (inp m c).wo
    | ⟨5, _⟩ => OUT (inp m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A staging buffer of device `c`, whole, at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

def bodyPost (c : Dev nD) : sProp 𝕄 :=
  iprop(Φ₁ c ∗ (dats m 0 c).owesAt () t0_0.succ
    ∗ stg c cc0_stg0_0 (inp m c).x ∗ stg c cc0_stg1_0 (inp m c).wq ∗ stg c cc0_stg2_0 (inp m c).k
    ∗ stg c cc0_stg3_0 (inp m c).v ∗ stg c cc0_stg4_0 (inp m c).wo ∗ stg c cc0_stg5_0 (OUT (inp m) c))

theorem sound_body (c : Dev nD) : bodyPre m c ⊢ wp frame (wpE (defs₀ (F := F)) 𝒱₀ c none) Set.univ (bodyAt0 (F := F) t0_0) (fun _ => bodyPost m c) := by
  rw [body_eq]
  unfold bodyPre Φ₀ start
  iintro ⟨⟨⟨⟨%K, #HC⟩, Hat, Htok, Hcr⟩, Hscr⟩, Ho, ⟨%d0, %g0, %hg0, H0⟩, ⟨%d1, %g1, %hg1, H1⟩, ⟨%d2, %g2, %hg2, H2⟩, ⟨%d3, %g3, %hg3, H3⟩,
    ⟨%d4, %g4, %hg4, H4⟩, ⟨%d5, %g5, %hg5, H5⟩⟩
  have h0 : g0 = (inp m c).x := by rw [hg0]; unfold Dat.before; rw [if_pos (fetch0_0 t0_0)]; rfl
  have h1 : g1 = (inp m c).wq := by rw [hg1]; unfold Dat.before; rw [if_pos (fetch0_1 t0_0)]; rfl
  have h2 : g2 = (inp m c).k := by rw [hg2]; unfold Dat.before; rw [if_pos (fetch0_2 t0_0)]; rfl
  have h3 : g3 = (inp m c).v := by rw [hg3]; unfold Dat.before; rw [if_pos (fetch0_3 t0_0)]; rfl
  have h4 : g4 = (inp m c).wo := by rw [hg4]; unfold Dat.before; rw [if_pos (fetch0_4 t0_0)]; rfl
  subst h0 h1 h2 h3 h4
  unfold Dat.owesAt Pipeline.owesWithin
  icases Ho with ⟨%W, %hW, HO⟩
  rw [show (dats m 0 c).owed t0_0.castSucc = O₀ c from rfl]
  iapply (wp_fupd frame (wpE (defs₀ (F := F)) 𝒱₀ (c : Thread nD τ) none) Set.univ)
  iapply (wp_wand_r frame (wpE (defs₀ (F := F)) 𝒱₀ (c : Thread nD τ) none) Set.univ)
  isplitl [Hat Htok Hcr Hscr HO H0 H1 H2 H3 H4 H5]
  · iapply (whole_kernel (inp m) K c)
    isplitr; · iexact HC
    isplitl [HO]; · iexists W; iexact HO
    isplitl [H0 H1 H2 H3 H4]
    · unfold ins
      isplitl [H0]; · iexact H0
      isplitl [H1]; · iexact H1
      isplitl [H2]; · iexact H2
      isplitl [H3] <;> iassumption
    isplitl [H5]; · iexists g5; iexact H5
    isplitl [Hscr]; · iexact Hscr
    isplitl [Hat]; · iexact Hat
    isplitl [Htok] <;> iassumption
  unfold done ins
  iintro %_ ⟨⟨%W', HO⟩, ⟨H0, H1, H2, H3, H4⟩, H5, Hscr, Hat⟩
  imod (cells_done (inp m) K c) $$ [Hat] with Hz
  · isplitr; · iexact HC
    iexact Hat
  imodintro
  unfold bodyPost Φ₁ Dat.owesAt Pipeline.owesWithin
  rw [show (dats m 0 c).owed t0_0.succ = 0 from rfl]
  isplitl [Hscr Hz]; · isplitl [Hscr] <;> iassumption
  isplitl [HO]
  · iexists W'
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

set_option maxRecDepth 100000 in
theorem body_obligation (c : Dev nD) : BodyObligation (dats (F := F) m 0 c) (defs₀ (F := F)) 𝒱₀ () Set.univ := fun t => by
  rw [fin_N0 t]
  rw [show ∀ Φ : Fin cfg0.W → sProp 𝕄, bigSep Finset.univ Φ = _ from fun Φ => bigSep_W0 Φ, show ∀ Φ : Fin cfg0.W → sProp 𝕄, bigSep Finset.univ Φ = _ from fun Φ => bigSep_W0 Φ]
  simp only [owns_whole_eq]
  show bodyPre m c ⊢ wp frame (wpE (defs₀ (F := F)) 𝒱₀ c none) Set.univ (bodyAt0 (F := F) t0_0) (fun _ => bodyPost m c)
  exact sound_body m c

end Cert.KernelIdeal.Talk

end
-- ==== Proof.Launch.lean ====
/- The launch of the whole program. -/
module

public import proofs.«01_k».proof.Proof.Run
public import Idealize.ShloMosaic.Lib.Pipeline.CollectiveSegs

@[expose] public section

set_option maxRecDepth 8000

noncomputable section

namespace Cert.KernelIdeal.Talk

open Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
open Idealize.ShloMosaic.Pipeline (Dat Cfg Window BodyObligation cellOf)

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m 0 c).share w = fullShare := by unfold Dat.share; split <;> rfl

/-! ## The cells and tokens the launch makes -/

theorem csem_inj : Function.Injective csem := by
  intro a b h
  match a, b with
  | none, none => rfl
  | none, some _ => cases h
  | some _, none => cases h
  | some (k, j), some (k', j') =>
    have h1 : dsem k j = dsem k' j' := SemLoc.dma.inj h
    have hk := congrArg knd h1
    have hj := congrArg slt h1
    rw [knd_dsem, knd_dsem] at hk
    rw [slt_dsem, slt_dsem] at hj
    rw [hk, hj]
theorem kcell_inj : Function.Injective kcell := by
  rintro ⟨c, a⟩ ⟨c', a'⟩ h
  have h1 : c = c' := congrArg (fun g : GSem nD τ sig => g.1.1) h
  have h2 : a = a' := csem_inj (congrArg Prod.snd h)
  rw [h1, h2]
def allCells : Finset (GSem nD τ sig) := Finset.univ.map ⟨kcell, kcell_inj⟩

def tokOf (x : (Dev nD × Cell) × Fin 15) : GSem nD τ sig × ℕ × Fin 15 := (kcell x.1, 0, x.2)
theorem tokOf_inj : Function.Injective tokOf := by
  rintro ⟨x, d⟩ ⟨x', d'⟩ h
  have h1 : x = x' := kcell_inj (congrArg Prod.fst h)
  have h2 : d = d' := congrArg (fun y : GSem nD τ sig × ℕ × Fin 15 => y.2.2) h
  rw [h1, h2]
def allToks : Finset (GSem nD τ sig × ℕ × Fin 15) := Finset.univ.map ⟨tokOf, tokOf_inj⟩

def u₀ : UU := (initOf (Pipeline.cells cfgs cellOf_inj) (Pipeline.launchToks cfgs cellOf_inj), initOf allCells allToks)

/-- What is dealt to device `c` when the program is launched, -/
def G (c : Dev nD) : sProp 𝕄 :=
  iprop((bigSep Finset.univ fun a : Cell => roundState ER (Rd (inp m)) (kcell (c, a)) 0)
    ∗ (at0 c ∗ bigSep Finset.univ fun a : Cell => reached ER (kcell (c, a)) 0) ∗ toks c)
/-- and what all devices together make of it. -/
def G' (c : Dev nD) : sProp 𝕄 :=
  iprop((∃ K : Dev nD × Cell → ℕ, bigSep Finset.univ fun ck : Dev nD × Cell => iprop(cellInv ER (Rd (inp m)) (K ck) (kcell ck) ∗ reached ER (kcell ck) 0))
    ∗ at0 c ∗ payToks c)

theorem fund : BI.own (ER (F := F) (initOf allCells allToks)) ⊢ (|==> bigSep Finset.univ (G m) : sProp 𝕄) := by
  have hX (Φ : GSem nD τ sig → sProp 𝕄) : bigSep allCells Φ = bigSep Finset.univ fun c : Dev nD => bigSep Finset.univ fun a : Cell => Φ (kcell (c, a)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod, bigSep_univ_prod]; rfl
  iintro HX
  imod (Rounds.fund ER (Rd (inp m)) allCells allToks) $$ HX with ⟨Hst, Hr, Hat, Htok⟩
  imodintro
  ihave Hst' := (Entails.of_eq (hX fun g => roundState ER (Rd (inp m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G at0; simp only [bigSep_sep']
  isplitl [Hst']; · iexact Hst'
  isplitl [Hat' Hr']
  · isplitl [Hat'] <;> iassumption
  iexact Htok'

theorem sep_swap (A B : sProp 𝕄) : iprop(A ∗ B) = iprop(B ∗ A) :=
  have h (A B : sProp 𝕄) : iprop(A ∗ B) ⊢ iprop(B ∗ A) := by iintro ⟨HA, HB⟩; isplitl [HB] <;> iassumption
  BI.Entails.antisymm (h A B) (h B A)

/-- The counters at launch: one per cell. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun a : Cell => semVal (kcell (c, a)) 0 : sProp 𝕄) := by
  have h1 : (Finset.univ : Finset Cell) = insert none (Finset.univ.map Function.Embedding.some) := by
    ext x; cases x <;> simp
  have h2 : (unscopedSems0 c : sProp 𝕄) = semVal (barCell c) 0 := by
    unfold unscopedSems0; rw [bigSep_eq_bigSepL_of_eq [SemLoc.reg barS] (by decide) (by decide)]; rfl
  rw [h1, bigSep_insert (by simp), bigSep_map, h2]
  exact sep_swap _ _

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun a : Cell => iprop(∃ κ : ℕ, cellInv ER (Rd (inp m)) κ (kcell (c, a))))
          ∗ (at0 c ∗ bigSep Finset.univ fun a : Cell => reached ER (kcell (c, a)) 0) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun a : Cell => semVal (kcell (c, a)) 0) ∗ bigSep Finset.univ fun a : Cell => roundState ER (Rd (inp m)) (kcell (c, a)) 0)
      ⊢ (|={Set.univ}=> bigSep Finset.univ fun a : Cell => iprop(∃ κ : ℕ, cellInv ER (Rd (inp m)) κ (kcell (c, a))) : sProp 𝕄) from by
        rw [← bigSep_sep']
        exact (bigSep_mono fun a _ => (Rounds.body_intro ER (Rd (inp m)) (kcell (c, a))).trans inv_alloc).trans (bigSep_fupd _ _)) $$ [Hv Hst] with Hinv
  · isplitl [Hv] <;> iassumption
  imodintro
  isplitl [Hinv]; · iexact Hinv
  isplitl [Hat]; · iexact Hat
  iexact Htok

/-- The names and marks of all cells, kept by everyone. -/
def book (K : Dev nD × Cell → ℕ) : sProp 𝕄 :=
  bigSep Finset.univ fun ck : Dev nD × Cell => iprop(cellInv ER (Rd (inp m)) (K ck) (kcell ck) ∗ reached ER (kcell ck) 0)
instance book_persistent (K : Dev nD × Cell → ℕ) : BI.Persistent (book m K) := by unfold book; infer_instance

theorem regroup :
    (bigSep Finset.univ fun c : Dev nD => iprop((bigSep Finset.univ fun a : Cell => iprop(∃ κ : ℕ, cellInv ER (Rd (inp m)) κ (kcell (c, a))))
          ∗ (at0 c ∗ bigSep Finset.univ fun a : Cell => reached ER (kcell (c, a)) 0) ∗ toks c) : sProp 𝕄)
      ⊢ bigSep Finset.univ (G' m) := by
  rw [bigSep_sep', bigSep_sep', bigSep_sep', ← bigSep_univ_prod (fun ck : Dev nD × Cell => iprop(∃ κ : ℕ, cellInv ER (Rd (inp m)) κ (kcell ck))),
    ← bigSep_univ_prod (fun ck : Dev nD × Cell => (reached ER (kcell ck) 0 : sProp 𝕄))]
  iintro ⟨HI, ⟨Hat, HR⟩, Htok⟩
  ihave HK := (BI.bigSep_exists_pi Finset.univ (fun (ck : Dev nD × Cell) (κ : ℕ) => (cellInv ER (Rd (inp m)) κ (kcell ck) : sProp 𝕄))) $$ HI
  icases HK with ⟨%K, HI⟩
  ihave HB := (show iprop((bigSep Finset.univ fun ck : Dev nD × Cell => (cellInv ER (Rd (inp m)) (K ck) (kcell ck) : sProp 𝕄))
      ∗ bigSep Finset.univ fun ck : Dev nD × Cell => (reached ER (kcell ck) 0 : sProp 𝕄)) ⊢ book m K from Entails.of_eq (bigSep_sep' _ _ _).symm) $$ [HI HR]
  · isplitl [HI] <;> iassumption
  ihave Htk := (toks_around (F := F)) $$ Htok
  have hG : ∀ c ∈ (Finset.univ : Finset (Dev nD)), iprop(book m K ∗ at0 c ∗ payToks (F := F) c) ⊢ G' m c := fun c _ => by
    unfold G' book
    iintro ⟨HB, HA⟩
    isplitl [HB]; · iexists K; iexact HB
    iexact HA
  iapply ((sep_mono_left (BI.bigSep_of_persistent (Finset.univ : Finset (Dev nD)) (book m K))).trans
    ((Entails.of_eq (bigSep_sep' Finset.univ (fun _ : Dev nD => book m K) (fun c => iprop(at0 c ∗ payToks (F := F) c))).symm).trans (bigSep_mono hG)))
  isplitl [HB]; · iexact HB
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The kernel's entry and exit -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G' ctx
  icases HG with ⟨⟨%K, HB⟩, Hat, Htok⟩
  isplitl
  · isplitl [HB Hlev]
    · iexists K
      isplitl [HB] <;> iassumption
    isplitl [Hat]; · iexact Hat
    isplitl [Htok] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scr
  rw [← sems0_eq]
  iintro ⟨Hr, Ho, Hu⟩
  isplitl [Hu]; · iexact Hu
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- Every array holds what the pipeline's data say. -/
def Final : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 100000 in
/-- From any memory with all counters at zero, the program ends with the arrays as said and all counters at zero. -/
theorem run_arrays : θ_run defs (onTc (τ := τ) (main (F := F))) ⟨m, fun _ => 0, ρ⟩ (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Talk

end
-- ==== Proof.Result.lean ====
/- What the program leaves: its arguments as they were, its result as the devices make it. -/
module

public import proofs.«01_k».proof.Proof.Launch
public import Idealize.ShloMosaic.Lib.Pipeline.ValueKit

@[expose] public section

set_option maxRecDepth 8000

noncomputable section

namespace Cert.KernelIdeal.Talk

open Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
open Idealize.ShloMosaic.Pipeline (Dat Cfg Window BodyObligation cellOf)

variable (m : (ℓ : Loc nD τ sig) → Buf (Elt F) ℓ) (ρ : Dev nD → PrngReg)

/-- The result array at the end holds the device's result. -/
theorem out_array (c : Dev nD) : (dats m 0 c).arrAt 5 cfg0.N = OUT (inp m) c := by
  refine (dats m 0 c).arrAt_eq_of_after_last 5 t0_0 (by decide +kernel) _ fun j => ?_
  blk_simp
  rfl

/-- Every final state: the arguments as launched, each device's result its `OUT`, all counters at zero. -/
theorem run_main : θ_run defs (onTc (τ := τ) (main (F := F))) ⟨m, fun _ => 0, ρ⟩ (fun r =>
    (∀ c : Dev nD, r.2.mem ((c.tc : Thread nD τ).loc main_v1) = OUT (inp m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => ⟨(h.1 c 5).trans (out_array m c),
      (h.1 c 0).trans ((dats m 0 c).arrAt_in 0 rfl _), (h.1 c 1).trans ((dats m 0 c).arrAt_in 1 rfl _),
      (h.1 c 2).trans ((dats m 0 c).arrAt_in 2 rfl _), (h.1 c 3).trans ((dats m 0 c).arrAt_in 3 rfl _),
      (h.1 c 4).trans ((dats m 0 c).arrAt_in 4 rfl _)⟩, h.2⟩) (run_arrays m ρ)

/-- The same without the result: every argument as launched, all counters at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => (h.1 c).2, h.2⟩) (run_main m ρ)

/-! ## Each device's inputs are its arguments whole -/

theorem inp_x (c : Dev nD) : (inp m c).x = m ((c : Thread nD τ).loc main_arg0) := by
  funext y
  exact congrArg (m ((c : Thread nD τ).loc main_arg0)) (funext fun a => Fin.ext (win0_0.rect_emb_val_of_index_zero t0_0 a (by revert a; decide) y))

theorem inp_wq (c : Dev nD) : (inp m c).wq = m ((c : Thread nD τ).loc main_arg1) := by
  funext y
  exact congrArg (m ((c : Thread nD τ).loc main_arg1)) (funext fun a => Fin.ext (win0_1.rect_emb_val_of_index_zero t0_0 a (by revert a; decide) y))

theorem inp_k (c : Dev nD) : (inp m c).k = m ((c : Thread nD τ).loc main_arg2) := by
  funext y
  exact congrArg (m ((c : Thread nD τ).loc main_arg2)) (funext fun a => Fin.ext (win0_2.rect_emb_val_of_index_zero t0_0 a (by revert a; decide) y))

theorem inp_v (c : Dev nD) : (inp m c).v = m ((c : Thread nD τ).loc main_arg3) := by
  funext y
  exact congrArg (m ((c : Thread nD τ).loc main_arg3)) (funext fun a => Fin.ext (win0_3.rect_emb_val_of_index_zero t0_0 a (by revert a; decide) y))

theorem inp_wo (c : Dev nD) : (inp m c).wo = m ((c : Thread nD τ).loc main_arg4) := by
  funext y
  exact congrArg (m ((c : Thread nD τ).loc main_arg4)) (funext fun a => Fin.ext (win0_4.rect_emb_val_of_index_zero t0_0 a (by revert a; decide) y))

end Cert.KernelIdeal.Talk

end
-- ==== Proof.Same.lean ====
/- The kernel and its idealization are one text: they run the same definitions. -/
module

public import proofs.«01_k».proof.Defs
public import proofs.«01_k».proof.Proof.Gen.Kernel
public import proofs.«01_k».proof.Proof.Gen.KernelIdeal

@[expose] public section

set_option maxRecDepth 100000

noncomputable section

namespace Cert.Proof

open Idealize.ShloMosaic Idealize.SL.Sem

variable {F : FTy → Type} [FloatOps F]

/-- The bodies are the same program, -/
theorem body_same : @Cert.Kernel.cc0_body F _ Cert.Kernel.Gen.facts = @Cert.KernelIdeal.cc0_body F _ Cert.KernelIdeal.Gen.facts := rfl

/-- so are the tables that name them, -/
theorem table_same : @Cert.Kernel.defs₀ F _ Cert.Kernel.Gen.facts = @Cert.KernelIdeal.defs₀ F _ Cert.KernelIdeal.Gen.facts := by
  unfold Cert.Kernel.defs₀ Cert.KernelIdeal.defs₀
  congr 1
  funext l a
  match l, a with
  | 0, (t, s) => rfl

/-- and so are the definitions with the pipeline's. -/
theorem defs_same : @Cert.Kernel.defs F _ Cert.Kernel.Gen.facts = @Cert.KernelIdeal.defs F _ Cert.KernelIdeal.Gen.facts :=
  congrArg (Pipeline.defs _) table_same

end Cert.Proof

end
-- ==== Proof.KernVal.lean ====
/- The kernel's values over the reals, one element at a time: the rows and keys of a phase, the weights of a head, the
   blocks sent to an owner, the owner's sums, and the result. -/
module

public import proofs.«01_k».proof.Proof.Contents
public import Idealize.ShloMosaic.Lib.MatmulPlain
public import Idealize.ShloMosaic.Lib.Pipeline.Value
public import Idealize.ShloMosaic.Lib.ValueIdx

@[expose] public section

set_option maxRecDepth 8000

noncomputable section

namespace Cert.KernelIdeal.Talk

open Idealize.ShloMosaic Idealize.ShloMosaic.ValueIdx Cert.KernelIdeal.Gen
open scoped BigOperators

/-- The scale of the scores. -/
def SC : EReal := Ideal.ofBits .f32 0x3DB504F3#32

/-- Row `i` of phase `p`, among the 1024. -/
def rowK (p : Fin 4) (i : Fin 256) : Fin 1024 := ⟨64 * (p.val + 4 * (i.val / 64)) + i.val % 64, by omega⟩
/-- Column `d` of head `h`, among the 1024. -/
def col (h : Fin 8) (d : Fin 128) : Fin 1024 := ⟨128 * h.val + d.val, by omega⟩
/-- The head of a column and its place in the head. -/
def hd (c : Fin 1024) : Fin 8 := ⟨c.val / 128, by omega⟩
def dm (c : Fin 1024) : Fin 128 := ⟨c.val % 128, Nat.mod_lt _ (by decide)⟩
theorem col_hd_dm (c : Fin 1024) : col (hd c) (dm c) = c := Fin.ext (by simp only [col, hd, dm]; omega)
theorem hd_col (h : Fin 8) (d : Fin 128) : hd (col h d) = h := Fin.ext (by simp only [col, hd]; omega)
theorem dm_col (h : Fin 8) (d : Fin 128) : dm (col h d) = d := Fin.ext (by simp only [col, dm]; omega)

theorem phase_apply (p : Fin 4) (X : FVec Ideal S1024x1024 .bf16) (i : Fin 256) (c : Fin 1024) :
    phase p X (ix2 i c) = X (ix2 (rowK p i) c) := by
  show concatenate S256x1024 0 (List.ofFn fun n : Fin 4 => (⟨S64x1024,
    extractStridedSlice S64x1024 ![64 * (blk p n).val, 0] X (slRow (blk p n))⟩ : (s : Shape) × (s.Idx → EReal))) _ _ = _
  refine (concatenate_ofFn_apply (t := S256x1024) (s₁ := S64x1024) (0 : Fin 2) (fun n : Fin 4 => extractStridedSlice S64x1024 ![64 * (blk p n).val, 0] X (slRow (blk p n)))
    _ rfl 64 rfl (ix2 i c) ⟨i.val / 64, by omega⟩ rfl (ix2 (⟨i.val % 64, Nat.mod_lt _ (by decide)⟩ : Fin 64) c) rfl ?_).trans ?_
  · intro b hb
    match b with
    | ⟨0, _⟩ => exact absurd rfl hb
    | ⟨1, _⟩ => rfl
  · refine extractStridedSlice_apply _ X _ _ (ix2 (rowK p i) c) ?_
    intro a
    match a with
    | ⟨0, _⟩ => rfl
    | ⟨1, _⟩ => show c.val = 0 + c.val; omega

/-- A head's columns of a phase. -/
theorem head_apply (h : Fin 8) (q : FVec Ideal S256x1024 .bf16) (i : Fin 256) (d : Fin 128) :
    extractStridedSlice S256x128 ![0, 128 * h.val] q (slHead h) (ix2 i d) = q (ix2 i (col h d)) := by
  refine extractStridedSlice_apply _ q _ _ (ix2 i (col h d)) ?_
  intro a
  match a with
  | ⟨0, _⟩ => show i.val = 0 + i.val; omega
  | ⟨1, _⟩ => rfl

/-- The weight of key `j` for row `i`. -/
theorem headW_apply (h : Fin 8) (q k : FVec Ideal S256x1024 .bf16) (i j : Fin 256) :
    headW h q k (ix2 i j) = Ideal.exp ((∑ d : Fin 128, q (ix2 i (col h d)) * k (ix2 j (col h d))) * SC) := by
  have e := Ideal.matmul_transposedRhs_apply (φ₁ := .bf16) (φ₂ := .bf16) (M := 256) (K := 128) (N := 256) none
    (extractStridedSlice S256x128 ![0, 128 * h.val] q (slHead h)) (extractStridedSlice S256x128 ![0, 128 * h.val] k (slHead h))
    (constant S256x256 .f32 0x00000000#32) i j
  show Ideal.exp ((FloatOps.matmul (F := Ideal) (φ₁ := .bf16) (φ₂ := .bf16) (DotDims.transposedRhs 256 128 256) none _ _ _ (ix2 i j) : EReal) * SC) = _
  rw [e]
  congr 2
  show Ideal.ofBits .f32 0x00000000#32 + _ = _
  rw [Ideal.ofBits_zero_f32, zero_add]
  exact Finset.sum_congr rfl fun d _ => by rw [head_apply, head_apply]

/-- A row's sum of weights. -/
theorem headL_apply (h : Fin 8) (q k : FVec Ideal S256x1024 .bf16) (i : Fin 256) :
    headL h q k (ix2 i (0 : Fin 1)) = ∑ j : Fin 256, headW h q k (ix2 i j) := by
  refine (shapeCast_apply _ _ (ix2 i (0 : Fin 1)) (ix1 i) ?_).trans ?_
  · rw [Shape.rowMajor_val_one, Shape.rowMajor_val_two]; show i.val = i.val * 1 + 0; omega
  · refine (Ideal.multiReduction_add_single _ _ _ _ _ _).trans (Finset.sum_congr rfl fun j _ => congrArg _ ?_)
    funext a; match a with | ⟨0, _⟩ => rfl | ⟨1, _⟩ => rfl

/-- A row's weighted sum of a head's values. -/
theorem headC_apply (h : Fin 8) (q k v : FVec Ideal S256x1024 .bf16) (i : Fin 256) (d : Fin 128) :
    headC h q k v (ix2 i d) = ∑ j : Fin 256, headW h q k (ix2 i j) * v (ix2 j (col h d)) := by
  have e := Ideal.matmul_plain_apply (φ₁ := .bf16) (φ₂ := .bf16) (M := 256) (K := 256) (N := 128) none
    (truncf .bf16 (headW h q k) bitsLt_bf16_f32 : FVec Ideal S256x256 .bf16)
    (extractStridedSlice S256x128 ![0, 128 * h.val] v (slHead h)) (constant S256x128 .f32 0x00000000#32) i d
  show FloatOps.matmul (DotDims.plain 256 256 128) none _ _ _ (ix2 i d) = _
  rw [e]
  show Ideal.ofBits .f32 0x00000000#32 + _ = _
  rw [Ideal.ofBits_zero_f32, zero_add]
  exact Finset.sum_congr rfl fun j _ => by rw [head_apply]; rfl

theorem allC_apply (q k v : FVec Ideal S256x1024 .bf16) (i : Fin 256) (c : Fin 1024) :
    allC q k v (ix2 i c) = headC (hd c) q k v (ix2 i (dm c)) := by
  show concatenate S256x1024 1 (List.ofFn fun n : Fin 8 => (⟨S256x128, headC n q k v⟩ : (s : Shape) × (s.Idx → EReal))) _ _ = _
  refine concatenate_ofFn_apply (t := S256x1024) (s₁ := S256x128) (1 : Fin 2) (fun n : Fin 8 => headC n q k v) _ rfl 128 rfl (ix2 i c) (hd c) rfl (ix2 i (dm c)) rfl ?_
  intro b hb
  match b with
  | ⟨0, _⟩ => rfl
  | ⟨1, _⟩ => exact absurd rfl hb

theorem allL_apply (q k : FVec Ideal S256x1024 .bf16) (i : Fin 256) (h : Fin 8) :
    allL q k (ix2 i h) = headL h q k (ix2 i (0 : Fin 1)) := by
  show concatenate S256x8 1 (List.ofFn fun n : Fin 8 => (⟨S256x1, headL n q k⟩ : (s : Shape) × (s.Idx → EReal))) _ _ = _
  refine concatenate_ofFn_apply (t := S256x8) (s₁ := S256x1) (1 : Fin 2) (fun n : Fin 8 => headL n q k) _ rfl 1 rfl (ix2 i h) h (Nat.div_one _) (ix2 i (0 : Fin 1))
    (Nat.mod_one _).symm ?_
  intro b hb
  match b with
  | ⟨0, _⟩ => rfl
  | ⟨1, _⟩ => exact absurd rfl hb

/-- Row `r` of block `a`, among the rows of its phase. -/
def rowA (a : Fin 4) (r : Fin 64) : Fin 256 := ⟨64 * a.val + r.val, by omega⟩

theorem ctxBlk_apply (a : Fin 4) (q k v : FVec Ideal S256x1024 .bf16) (r : Fin 64) (c : Fin 1024) :
    ctxBlk a q k v (ix3 (0 : Fin 1) r c) = allC q k v (ix2 (rowA a r) c) := by
  refine (shapeCast_apply _ _ _ (ix2 r c) ?_).trans ?_
  · rw [Shape.rowMajor_val_two, Shape.rowMajor_val_three]; show r.val * 1024 + c.val = (0 * 64 + r.val) * 1024 + c.val; omega
  · refine extractStridedSlice_apply _ (allC q k v) (slCtx a) _ (ix2 (rowA a r) c) ?_
    intro b
    match b with
    | ⟨0, _⟩ => rfl
    | ⟨1, _⟩ => show c.val = 0 + c.val; omega

theorem denBlk_apply (a : Fin 4) (q k : FVec Ideal S256x1024 .bf16) (r : Fin 64) (h : Fin 8) :
    denBlk a q k (ix2 r h) = allL q k (ix2 (rowA a r) h) := by
  refine (congrFun (shapeCast_self (s := S64x8) (α := EReal) _ _) _).trans ?_
  refine extractStridedSlice_apply _ (allL q k) (slDen a) _ (ix2 (rowA a r) h) ?_
  intro b
  match b with
  | ⟨0, _⟩ => rfl
  | ⟨1, _⟩ => show h.val = 0 + h.val; omega

theorem ctxIn_apply (x : Vec Ideal S1x64x1024 .fp8e4m3) (r : Fin 64) (c : Fin 1024) :
    ctxIn x (ix2 r c) = x (ix3 (0 : Fin 1) r c) := by
  refine shapeCast_apply x shapeCasts_S1x64x1024_S64x1024 (ix2 r c) (ix3 (0 : Fin 1) r c) ?_
  rw [Shape.rowMajor_val_two, Shape.rowMajor_val_three]; show (0 * 64 + r.val) * 1024 + c.val = r.val * 1024 + c.val; omega

theorem denIn_slotOf_apply (w : FVec Ideal S64x8 .bf16) (r : Fin 64) (h : Fin 8) : denIn (F := Ideal) (slotOf (F := Ideal) w) (ix2 r h) = w (ix2 r h) := by
  refine (shapeCast_apply (slotOf (F := Ideal) w) shapeCasts_S1x64x8_S64x8 (ix2 r h) (ix3 (0 : Fin 1) r h) ?_).trans rfl
  rw [Shape.rowMajor_val_two, Shape.rowMajor_val_three]; show (0 * 64 + r.val) * 8 + h.val = r.val * 8 + h.val; omega

/-! ## The inputs -/

theorem q_apply (x : Vec Ideal S1x1024x1024 .f32) (wq : Vec Ideal S1024x1024 .f32) (r c : Fin 1024) :
    k0_pay1 (F := Ideal) x wq (ix2 r c) = ∑ m : Fin 1024, x (ix3 (0 : Fin 1) r m) * wq (ix2 m c) := by
  have e := Ideal.matmul_plain_apply (φ₁ := .bf16) (φ₂ := .bf16) (M := 1024) (K := 1024) (N := 1024) none
    (truncf .bf16 (shapeCast S1024x1024 x shapeCasts_S1x1024x1024_S1024x1024 : FVec Ideal S1024x1024 .f32) bitsLt_bf16_f32 : FVec Ideal S1024x1024 .bf16)
    (truncf .bf16 (shapeCast S1024x1024 wq shapeCasts_S1024x1024_S1024x1024 : FVec Ideal S1024x1024 .f32) bitsLt_bf16_f32 : FVec Ideal S1024x1024 .bf16)
    (constant S1024x1024 .f32 0x00000000#32) r c
  show FloatOps.matmul (F := Ideal) (φ₁ := .bf16) (φ₂ := .bf16) (DotDims.plain 1024 1024 1024) none _ _ _ (ix2 r c) = _
  rw [e]
  show Ideal.ofBits .f32 0x00000000#32 + _ = _
  rw [Ideal.ofBits_zero_f32, zero_add]
  refine Finset.sum_congr rfl fun m _ => congrArg₂ (· * ·) ?_ ?_
  · refine shapeCast_apply x shapeCasts_S1x1024x1024_S1024x1024 (ix2 r m) (ix3 (0 : Fin 1) r m) ?_
    rw [Shape.rowMajor_val_two, Shape.rowMajor_val_three]; show (0 * 1024 + r.val) * 1024 + m.val = r.val * 1024 + m.val; omega
  · exact congrFun (shapeCast_self wq _) _

theorem flat_apply (k : Vec Ideal S1x1024x8x128 .f32) (r : Fin 1024) (h : Fin 8) (d : Fin 128) :
    shapeCast S1024x1024 (shapeCast S1024x8x128 k shapeCasts_S1x1024x8x128_S1024x8x128) shapeCasts_S1024x8x128_S1024x1024 (ix2 r (col h d))
      = k (ix4 (0 : Fin 1) r h d) := by
  refine (shapeCast_apply _ _ _ (ix3 r h d) ?_).trans (shapeCast_apply k _ _ (ix4 (0 : Fin 1) r h d) ?_)
  · rw [Shape.rowMajor_val_two, Shape.rowMajor_val_three]; show (r.val * 8 + h.val) * 128 + d.val = r.val * 1024 + (128 * h.val + d.val); omega
  · rw [Shape.rowMajor_val_four, Shape.rowMajor_val_three]
    show ((0 * 1024 + r.val) * 8 + h.val) * 128 + d.val = (r.val * 8 + h.val) * 128 + d.val; omega

theorem k_apply (k : Vec Ideal S1x1024x8x128 .f32) (r : Fin 1024) (h : Fin 8) (d : Fin 128) :
    k0_pay2 k (ix2 r (col h d)) = k (ix4 (0 : Fin 1) r h d) := flat_apply k r h d
theorem v_apply (v : Vec Ideal S1x1024x8x128 .f32) (r : Fin 1024) (h : Fin 8) (d : Fin 128) :
    k0_pay3 v (ix2 r (col h d)) = v (ix4 (0 : Fin 1) r h d) := flat_apply v r h d

/-! ## What is sent, and the owner's sums -/

/-- Row `r` of block `e`, among the 1024. -/
def rowE (e : Fin 16) (r : Fin 64) : Fin 1024 := ⟨64 * e.val + r.val, by omega⟩
theorem rowK_rowA (e : Fin 16) (r : Fin 64) : rowK (ph e) (rowA (pl e) r) = rowE e r :=
  Fin.ext (by simp only [rowK, rowA, ph, pl, rowE]; omega)

/-- The weight of a device's key `j` of the block's phase for row `r` of block `e`. -/
def wt (i : Ins Ideal) (e : Fin 16) (r : Fin 64) (h : Fin 8) (j : Fin 256) : EReal :=
  Ideal.exp ((∑ d : Fin 128, (∑ m : Fin 1024, i.x (ix3 (0 : Fin 1) (rowE e r) m) * i.wq (ix2 m (col h d)))
    * i.k (ix4 (0 : Fin 1) (rowK (ph e) j) h d)) * SC)

theorem wt_eq (i : Ins Ideal) (e : Fin 16) (r : Fin 64) (h : Fin 8) (j : Fin 256) :
    headW h (phase (ph e) (k0_pay1 i.x i.wq)) (phase (ph e) (k0_pay2 i.k)) (ix2 (rowA (pl e) r) j) = wt i e r h j := by
  rw [headW_apply]
  unfold wt
  congr 2
  exact Finset.sum_congr rfl fun d _ => by rw [phase_apply, phase_apply, rowK_rowA, q_apply, k_apply]

theorem sentC_apply (i : Ins Ideal) (e : Fin 16) (r : Fin 64) (c : Fin 1024) : sentC i e (ix3 (0 : Fin 1) r c)
    = ∑ j : Fin 256, wt i e r (hd c) j * i.v (ix4 (0 : Fin 1) (rowK (ph e) j) (hd c) (dm c)) := by
  unfold sentC
  rw [ctxBlk_apply, allC_apply, headC_apply]
  exact Finset.sum_congr rfl fun j _ => by rw [wt_eq, phase_apply, v_apply]

theorem sentD_apply (i : Ins Ideal) (e : Fin 16) (r : Fin 64) (h : Fin 8) : sentD i e (ix2 r h) = ∑ j : Fin 256, wt i e r h j := by
  unfold sentD
  rw [denBlk_apply, allL_apply, headL_apply]
  exact Finset.sum_congr rfl fun j _ => by rw [wt_eq]

theorem sum16 (f : Fin 16 → EReal) : sources.foldl (fun a s => a + f s) (f 0) = ∑ s : Fin 16, f s := by
  rw [Fin.sum_univ_def]
  simp only [sources, List.foldl, List.finRange, List.sum_cons, List.map, List.ofFn]
  simp [Fin.foldr, Fin.foldr.loop, add_assoc]

theorem fold_apply (f : Fin 16 → FVec Ideal S64x1024 .f32) (g : Fin 16 → FVec Ideal S64x8 .f32) (L : List (Fin 16))
    (a : FVec Ideal S64x1024 .f32) (b : FVec Ideal S64x8 .f32) :
    (∀ y, (L.foldl (fun cl s => (addf cl.1 (f s), addf cl.2 (g s))) (a, b)).1 y = L.foldl (fun u s => u + f s y) (a y))
    ∧ (∀ y, (L.foldl (fun cl s => (addf cl.1 (f s), addf cl.2 (g s))) (a, b)).2 y = L.foldl (fun u s => u + g s y) (b y)) := by
  induction L generalizing a b with
  | nil => exact ⟨fun _ => rfl, fun _ => rfl⟩
  | cons s L ih => exact ih _ _

theorem tot_fst (I : Dev nD → Ins Ideal) (c : Dev nD) (r : Fin 64) (n : Fin 1024) :
    (tot I c).1 (ix2 r n) = ∑ s : Fin 16, sentC (I s) c (ix3 (0 : Fin 1) r n) := by
  refine ((fold_apply (fun s => ctxIn (sentC (I s) c)) (fun s => denIn (slotOf (sentD (I s) c))) sources _ _).1 _).trans ?_
  refine (sum16 fun s => ctxIn (sentC (I s) c) (ix2 r n)).trans (Finset.sum_congr rfl fun s _ => ctxIn_apply _ _ _)

theorem tot_snd (I : Dev nD → Ins Ideal) (c : Dev nD) (r : Fin 64) (h : Fin 8) :
    (tot I c).2 (ix2 r h) = ∑ s : Fin 16, sentD (I s) c (ix2 r h) := by
  refine ((fold_apply (fun s => ctxIn (sentC (I s) c)) (fun s => denIn (slotOf (sentD (I s) c))) sources _ _).2 _).trans ?_
  refine (sum16 fun s => denIn (slotOf (sentD (I s) c)) (ix2 r h)).trans (Finset.sum_congr rfl fun s _ => denIn_slotOf_apply _ _ _)

/-! ## The result -/

theorem quot_apply (h : Fin 8) (cs : FVec Ideal S64x1024 .f32) (ls : FVec Ideal S64x8 .f32) (r : Fin 64) (d : Fin 128) :
    quot h cs ls (ix2 r d) = Ideal.div (cs (ix2 r (col h d))) (ls (ix2 r h)) := by
  show Ideal.div (extractStridedSlice S64x128 ![0, 128 * h.val] cs (slOutHead h) (ix2 r d))
    (broadcastTo S64x128 (extractStridedSlice S64x1 ![0, h.val] ls (slOutDen h)) broadcasts_S64x1_S64x128 (ix2 r d)) = _
  congr 1
  · refine extractStridedSlice_apply _ cs _ _ (ix2 r (col h d)) ?_
    intro a
    match a with
    | ⟨0, _⟩ => show r.val = 0 + r.val; omega
    | ⟨1, _⟩ => rfl
  · refine (broadcastTo_apply _ _ _ (ix2 r (0 : Fin 1)) ?_).trans (extractStridedSlice_apply _ ls _ _ (ix2 r h) ?_)
    · intro a
      match a with
      | ⟨0, _⟩ => rfl
      | ⟨1, _⟩ => rfl
    · intro a
      match a with
      | ⟨0, _⟩ => show r.val = 0 + r.val; omega
      | ⟨1, _⟩ => show h.val = h.val + 0; omega

theorem attn_apply (cs : FVec Ideal S64x1024 .f32) (ls : FVec Ideal S64x8 .f32) (r : Fin 64) (c : Fin 1024) :
    attn cs ls (ix2 r c) = Ideal.div (cs (ix2 r c)) (ls (ix2 r (hd c))) := by
  show concatenate S64x1024 1 (List.ofFn fun n : Fin 8 => (⟨S64x128, quot n cs ls⟩ : (s : Shape) × (s.Idx → EReal)))
    concatenates_S64x128_S64x128_S64x128_S64x128_S64x128_S64x128_S64x128_S64x128_S64x1024_d1 _ = _
  refine (concatenate_ofFn_apply (t := S64x1024) (s₁ := S64x128) (1 : Fin 2) (fun n : Fin 8 => quot n cs ls)
    concatenates_S64x128_S64x128_S64x128_S64x128_S64x128_S64x128_S64x128_S64x128_S64x1024_d1 rfl 128 rfl (ix2 r c) (hd c) rfl (ix2 r (dm c)) rfl ?_).trans ?_
  · intro b hb
    match b with
    | ⟨0, _⟩ => rfl
    | ⟨1, _⟩ => exact absurd rfl hb
  · rw [quot_apply, col_hd_dm]

theorem proj_apply (a : FVec Ideal S64x1024 .bf16) (wo : Vec Ideal S1024x1024 .f32) (r : Fin 64) (n : Fin 1024) :
    k0_pay155 a wo (ix2 r n) = ∑ c : Fin 1024, a (ix2 r c) * wo (ix2 c n) := by
  have e := Ideal.matmul_plain_apply (φ₁ := .bf16) (φ₂ := .bf16) (M := 64) (K := 1024) (N := 1024) none a
    (truncf .bf16 (shapeCast S1024x1024 wo shapeCasts_S1024x1024_S1024x1024 : FVec Ideal S1024x1024 .f32) bitsLt_bf16_f32 : FVec Ideal S1024x1024 .bf16)
    (constant S64x1024 .f32 0x00000000#32) r n
  show FloatOps.matmul (DotDims.plain 64 1024 1024) none _ _ _ (ix2 r n) = _
  rw [e]
  show Ideal.ofBits .f32 0x00000000#32 + _ = _
  rw [Ideal.ofBits_zero_f32, zero_add]
  exact Finset.sum_congr rfl fun m _ => congrArg (a (ix2 r m) * ·) (congrFun (shapeCast_self wo _) _)

/-- Row `r` of block `e` of the result, column `n`, projected with device `e`'s matrix. -/
def val (I : Dev nD → Ins Ideal) (e : Fin 16) (r : Fin 64) (n : Fin 1024) : EReal :=
  ∑ c : Fin 1024, Ideal.div
    (∑ s : Fin 16, ∑ j : Fin 256, wt (I s) e r (hd c) j * (I s).v (ix4 (0 : Fin 1) (rowK (ph e) j) (hd c) (dm c)))
    (∑ s : Fin 16, ∑ j : Fin 256, wt (I s) e r (hd c) j) * (I e).wo (ix2 c n)

theorem own_apply (I : Dev nD → Ins Ideal) (e : Dev nD) (r : Fin 64) (n : Fin 1024) :
    k0_pay155 (attn (tot I e).1 (tot I e).2) (I e).wo (ix2 r n) = val I e r n := by
  rw [proj_apply]
  unfold val
  refine Finset.sum_congr rfl fun c _ => congrArg (· * _) ?_
  rw [attn_apply, tot_fst, tot_snd]
  congr 1
  · exact Finset.sum_congr rfl fun s _ => sentC_apply _ _ _ _
  · exact Finset.sum_congr rfl fun s _ => sentD_apply _ _ _ _

theorem cast64_apply (x : FVec Ideal S64x1024 .f32) (r : Fin 64) (n : Fin 1024) :
    shapeCast S1x64x1024 x shapeCasts_S64x1024_S1x64x1024 (ix3 (0 : Fin 1) r n) = x (ix2 r n) := by
  refine shapeCast_apply x _ _ (ix2 r n) ?_
  rw [Shape.rowMajor_val_two, Shape.rowMajor_val_three]; show r.val * 1024 + n.val = (0 * 64 + r.val) * 1024 + n.val; omega

/-- Every device's result, element by element. -/
theorem OUT_apply (I : Dev nD → Ins Ideal) (c : Dev nD) (R n : Fin 1024) :
    OUT I c (ix3 (0 : Fin 1) R n) = val I (hi R) (lo R) n := by
  show outBlk I c (hi R) (ix3 (0 : Fin 1) (lo R) n) = _
  unfold outBlk
  split
  · next h =>
    rw [← h]
    exact (cast64_apply _ _ _).trans (own_apply I (hi R) (lo R) n)
  · refine (cast64_apply _ _ _).trans ((congrFun (shapeCast_self _ _) _).trans (own_apply I (hi R) (lo R) n))

end Cert.KernelIdeal.Talk

end
-- ==== Proof.RefVal.lean ====
/- The reference's result over the reals, one element at a time: its mask, its scores, its softmax, its context and its
   projection, named stage by stage, and what each holds at an index. -/
module

public import proofs.«01_k».proof.Proof.Gen.ReferenceIdeal.Run
public import Idealize.ShloMosaic.Lib.Routing.Words
public import Idealize.ShloMosaic.Lib.IdealHost
public import Idealize.ShloMosaic.Lib.Pipeline.Value
public import Idealize.ShloMosaic.Lib.ValueIdx

@[expose] public section

set_option maxRecDepth 8000

noncomputable section

namespace Cert.ReferenceIdeal.Plain

open Idealize.ShloMosaic Idealize.ShloMosaic.TcCoe Idealize.ShloMosaic.ValueIdx Idealize.ShloMosaic.Routing Cert.ReferenceIdeal Cert.ReferenceIdeal.Gen
open scoped BigOperators

/-! ## The stages -/

/-- The block of 64 that a query, or a key, lies in. -/
def qblk : IVec S1024 32 := pyDiv bcast_S_S1024 (iotaInDim S1024 32 0) (id (constantI S_ 32 64#32))
def kblk : IVec S16384 32 := pyDiv bcast_S_S16384 (iotaInDim S16384 32 0) (id (constantI S_ 32 64#32))
def qb : IVec S1024x1 32 := broadcastInDim S1024x1 ![0] bcast_S1024_S1024x1_0 qblk
def kb : IVec S1x16384 32 := broadcastInDim S1x16384 ![1] bcast_S16384_S1x16384_1 kblk
/-- The block's number modulo 4. -/
def qm : IVec S1024x1 32 := pyRem bcast_S_S1024x1 qb (id (constantI S_ 32 4#32))
def km : IVec S1x16384 32 := pyRem bcast_S_S1x16384 kb (id (constantI S_ 32 4#32))
/-- The mask: the same block, or the same number modulo 4. -/
def mask : IVec S1024x16384 1 :=
  ori (cmpi .eq (broadcastInDim S1024x16384 ![0, 1] bcast_S1024x1_S1024x16384_0_1 qb) (broadcastInDim S1024x16384 ![0, 1] bcast_S1x16384_S1024x16384_0_1 kb))
    (cmpi .eq (broadcastInDim S1024x16384 ![0, 1] bcast_S1x16384_S1024x16384_0_1 km) (broadcastInDim S1024x16384 ![0, 1] bcast_S1024x1_S1024x16384_0_1 qm))
/-- Whether a row keeps any key. -/
def keep : IVec S1024 1 := Host.reduce IntOp.ori mask (constantI S_ 1 0#1) reducesTo_S1024x16384_S1024_d1 h_S_
def keep4 : IVec S1x1x1024x1 1 := broadcastInDim S1x1x1024x1 ![2] bcast_S1024_S1x1x1024x1_2 keep

variable (x : FVec Ideal S1x1024x1024 .f32) (wq : FVec Ideal S1024x1024 .f32) (k v : FVec Ideal S1x16384x8x128 .f32) (wo : FVec Ideal S1024x1024 .f32)

/-- The queries, by head. -/
def query : FVec Ideal S1x1024x8x128 .f32 :=
  shapeCast _ (Host.dotGeneral dot_S1x1024x1024_S1024x1024_S1x1024x1024_2_0_01_1_n_n none x wq) shapeCasts_S1x1024x1024_S1x1024x8x128
/-- The scaled scores. -/
def score : FVec Ideal S1x8x1024x16384 .f32 :=
  mulf (Host.dotGeneral dot_S1x1024x8x128_S1x16384x8x128_S1x8x1024x16384_3_3_1_1_02_02 none (query x wq) k)
    (broadcastInDim S1x8x1024x16384 ![] bcast_S_S1x8x1024x16384 (constant S_ .f32 0x3DB504F3#32))
/-- The masked scores. -/
def masked : FVec Ideal S1x8x1024x16384 .f32 :=
  select (broadcastInDim S1x8x1024x16384 ![0, 1, 2, 3] bcast_S1x1x1024x16384_S1x8x1024x16384_0_1_2_3
      (broadcastInDim S1x1x1024x16384 ![2, 3] bcast_S1024x16384_S1x1x1024x16384_2_3 mask))
    (score x wq k) (broadcastInDim S1x8x1024x16384 ![] bcast_S_S1x8x1024x16384 (id (constant S_ .f32 0xFF800000#32)))
/-- A row's largest masked score. -/
def top : FVec Ideal S1x8x1024 .f32 :=
  Host.reduce FloatOps.maximumf (masked x wq k) (constant S_ .f32 0xFF800000#32) reducesTo_S1x8x1024x16384_S1x8x1024_d3 h_S_
/-- The exponentials. -/
def expo : FVec Ideal S1x8x1024x16384 .f32 :=
  Host.exp (subf (masked x wq k) (broadcastInDim S1x8x1024x16384 ![0, 1, 2, 3] bcast_S1x8x1024x1_S1x8x1024x16384_0_1_2_3
    (broadcastInDim S1x8x1024x1 ![0, 1, 2] bcast_S1x8x1024_S1x8x1024x1_0_1_2 (top x wq k))))
/-- Their sums. -/
def total : FVec Ideal S1x8x1024x1 .f32 :=
  select (broadcastInDim S1x8x1024x1 ![0, 1, 2, 3] bcast_S1x1x1024x1_S1x8x1024x1_0_1_2_3 keep4)
    (broadcastInDim S1x8x1024x1 ![0, 1, 2] bcast_S1x8x1024_S1x8x1024x1_0_1_2
      (Host.reduceAdd (expo x wq k) (constant S_ .f32 0x00000000#32) reducesTo_S1x8x1024x16384_S1x8x1024_d3 h_S_))
    (broadcastInDim S1x8x1024x1 ![] bcast_S_S1x8x1024x1 (id (constant S_ .f32 0x3F800000#32)))
/-- The weights. -/
def weight : FVec Ideal S1x8x1024x16384 .f32 :=
  select (broadcastInDim S1x8x1024x16384 ![0, 1, 2, 3] bcast_S1x1x1024x1_S1x8x1024x16384_0_1_2_3 keep4)
    (Host.divf (expo x wq k) (broadcastInDim S1x8x1024x16384 ![0, 1, 2, 3] bcast_S1x8x1024x1_S1x8x1024x16384_0_1_2_3 (total x wq k)))
    (broadcastInDim S1x8x1024x16384 ![] bcast_S_S1x8x1024x16384 (id (constant S_ .f32 0x00000000#32)))
/-- The context, by head. -/
def context : FVec Ideal S1x8x128x1024 .f32 :=
  Host.dotGeneral dot_S1x16384x8x128_S1x8x1024x16384_S1x8x128x1024_1_3_3_2_02_01 none v (weight x wq k)
/-- The context, heads side by side. -/
def flat : FVec Ideal S1x1024x1024 .f32 :=
  shapeCast _ (transpose S1x1024x8x128 [0, 3, 1, 2] (context x wq k v) transposes_S1x8x128x1024_S1x1024x8x128_0_3_1_2) shapeCasts_S1x1024x8x128_S1x1024x1024
/-- The result. -/
def out : FVec Ideal S1x1024x1024 .f32 :=
  Host.dotGeneral dot_S1x1024x1024_S1024x1024_S1x1024x1024_2_0_01_1_n_n none (flat x wq k v) wo

theorem res_eq (m : (ℓ : Loc nD τ sig) → Buf (Elt Ideal) ℓ) (c : Dev nD) :
    Value.res_main_v39 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v39
  rfl

/-! ## The mask at an index -/

theorem qblk_apply (R : Fin 1024) : qblk (ix1 R) = BitVec.ofNat 32 (R.val / 64) :=
  pyDiv_ap _ _ _ _ (a := R.val) (b := 64) rfl rfl (by omega) (by decide) (by decide)
theorem kblk_apply (j : Fin 16384) : kblk (ix1 j) = BitVec.ofNat 32 (j.val / 64) :=
  pyDiv_ap _ _ _ _ (a := j.val) (b := 64) rfl rfl (by omega) (by decide) (by decide)

theorem qb_apply (R : Fin 1024) : qb (ix2 R (0 : Fin 1)) = BitVec.ofNat 32 (R.val / 64) :=
  (broadcastInDim_apply _ _ qblk _ (ix1 R) (fun a => match a with | ⟨0, _⟩ => rfl)).trans (qblk_apply R)
theorem kb_apply (j : Fin 16384) : kb (ix2 (0 : Fin 1) j) = BitVec.ofNat 32 (j.val / 64) :=
  (broadcastInDim_apply _ _ kblk _ (ix1 j) (fun a => match a with | ⟨0, _⟩ => rfl)).trans (kblk_apply j)
theorem qm_apply (R : Fin 1024) : qm (ix2 R (0 : Fin 1)) = BitVec.ofNat 32 (R.val / 64 % 4) :=
  pyRem_ap _ _ _ _ (a := R.val / 64) (b := 4) (qb_apply R) rfl (by omega) (by decide) (by decide)
theorem km_apply (j : Fin 16384) : km (ix2 (0 : Fin 1) j) = BitVec.ofNat 32 (j.val / 64 % 4) :=
  pyRem_ap _ _ _ _ (a := j.val / 64) (b := 4) (kb_apply j) rfl (by omega) (by decide) (by decide)

/-- The keys that row `R` keeps. -/
def Kept (R : Fin 1024) (j : Fin 16384) : Prop := j.val / 64 % 4 = R.val / 64 % 4
instance (R : Fin 1024) : DecidablePred (Kept R) := fun j => by unfold Kept; infer_instance

theorem word_eq {a b : Nat} (ha : a < 2 ^ 32) (hb : b < 2 ^ 32) : (BitVec.ofNat 32 a == BitVec.ofNat 32 b) = decide (a = b) := by
  rw [Bool.eq_iff_iff, beq_iff_eq, decide_eq_true_eq]
  constructor
  · intro h
    have := congrArg BitVec.toNat h
    rw [BitVec.toNat_ofNat, BitVec.toNat_ofNat, Nat.mod_eq_of_lt ha, Nat.mod_eq_of_lt hb] at this
    exact this
  · rintro rfl; rfl

theorem mask_apply (R : Fin 1024) (j : Fin 16384) : mask (ix2 R j) = if Kept R j then 1#1 else 0#1 := by
  have eq1 : broadcastInDim S1024x16384 ![0, 1] bcast_S1024x1_S1024x16384_0_1 qb (ix2 R j) = BitVec.ofNat 32 (R.val / 64) :=
    (broadcastInDim_apply _ _ qb _ (ix2 R (0 : Fin 1)) (fun a => match a with | ⟨0, _⟩ => rfl | ⟨1, _⟩ => rfl)).trans (qb_apply R)
  have eq2 : broadcastInDim S1024x16384 ![0, 1] bcast_S1x16384_S1024x16384_0_1 kb (ix2 R j) = BitVec.ofNat 32 (j.val / 64) :=
    (broadcastInDim_apply _ _ kb _ (ix2 (0 : Fin 1) j) (fun a => match a with | ⟨0, _⟩ => rfl | ⟨1, _⟩ => rfl)).trans (kb_apply j)
  have eq3 : broadcastInDim S1024x16384 ![0, 1] bcast_S1024x1_S1024x16384_0_1 qm (ix2 R j) = BitVec.ofNat 32 (R.val / 64 % 4) :=
    (broadcastInDim_apply _ _ qm _ (ix2 R (0 : Fin 1)) (fun a => match a with | ⟨0, _⟩ => rfl | ⟨1, _⟩ => rfl)).trans (qm_apply R)
  have eq4 : broadcastInDim S1024x16384 ![0, 1] bcast_S1x16384_S1024x16384_0_1 km (ix2 R j) = BitVec.ofNat 32 (j.val / 64 % 4) :=
    (broadcastInDim_apply _ _ km _ (ix2 (0 : Fin 1) j) (fun a => match a with | ⟨0, _⟩ => rfl | ⟨1, _⟩ => rfl)).trans (km_apply j)
  show BitVec.ofBool (broadcastInDim S1024x16384 ![0, 1] bcast_S1024x1_S1024x16384_0_1 qb (ix2 R j)
      == broadcastInDim S1024x16384 ![0, 1] bcast_S1x16384_S1024x16384_0_1 kb (ix2 R j))
    ||| BitVec.ofBool (broadcastInDim S1024x16384 ![0, 1] bcast_S1x16384_S1024x16384_0_1 km (ix2 R j)
      == broadcastInDim S1024x16384 ![0, 1] bcast_S1024x1_S1024x16384_0_1 qm (ix2 R j)) = _
  rw [eq1, eq2, eq3, eq4, word_eq (by omega) (by omega), word_eq (by omega) (by omega)]
  by_cases h : Kept R j
  · rw [if_pos h, decide_eq_true (show j.val / 64 % 4 = R.val / 64 % 4 from h)]
    cases decide (R.val / 64 = j.val / 64) <;> rfl
  · have h' : ¬ j.val / 64 % 4 = R.val / 64 % 4 := h
    rw [if_neg h, decide_eq_false h', decide_eq_false (by omega)]
    rfl

theorem select_one {s : Shape} {α : Type} (c : IVec s 1) (a b : s.Idx → α) (i : s.Idx) (h : c i = 1#1) : select c a b i = a i := by
  show Scalar.select (c i) (a i) (b i) = a i
  rw [h]; rfl

theorem fold_or {ι : Type} (s : Finset ι) (f : ι → BitVec 1) (b : BitVec 1) (a : ι) (ha : a ∈ s) (h : f a = 1#1) :
    s.fold IntOp.ori b f = 1#1 := by
  classical
  rw [← Finset.insert_erase ha, Finset.fold_insert (Finset.notMem_erase a s), h]
  generalize Finset.fold IntOp.ori b f (s.erase a) = y
  revert y; decide

/-- Every row keeps a key. -/
theorem keep_apply (R : Fin 1024) : keep (ix1 R) = 1#1 := by
  unfold keep
  rw [Host.reduce_eq_fold_single IntOp.ori mask _ _ (by decide : S1024x16384.Reduces [1] S1024)]
  refine fold_or _ _ _ (⟨R.val, by omega⟩ : Fin 16384) (Finset.mem_univ _) ?_
  refine (congrArg mask (?_ : _ = ix2 R (⟨R.val, by omega⟩ : Fin 16384))).trans ((mask_apply _ _).trans (if_pos rfl))
  funext a; match a with | ⟨0, _⟩ => rfl | ⟨1, _⟩ => rfl

theorem keep4_apply (R : Fin 1024) : keep4 (ix4 (0 : Fin 1) (0 : Fin 1) R (0 : Fin 1)) = 1#1 :=
  (broadcastInDim_apply _ _ keep _ (ix1 R) (fun a => match a with | ⟨0, _⟩ => rfl)).trans (keep_apply R)

/-! ## The stages at an index -/

/-- The scale of the scores. -/
def SC : EReal := Ideal.ofBits .f32 0x3DB504F3#32

/-- Column `d` of head `h`, among the 1024; the head of a column and its place there. -/
def col (h : Fin 8) (d : Fin 128) : Fin 1024 := ⟨128 * h.val + d.val, by omega⟩
def hd (c : Fin 1024) : Fin 8 := ⟨c.val / 128, by omega⟩
def dm (c : Fin 1024) : Fin 128 := ⟨c.val % 128, Nat.mod_lt _ (by decide)⟩

/-- A product of a row of 1024 columns with a matrix. -/
theorem dot3_apply (a : FVec Ideal S1x1024x1024 .f32) (b : FVec Ideal S1024x1024 .f32) (R n : Fin 1024) :
    Host.dotGeneral dot_S1x1024x1024_S1024x1024_S1x1024x1024_2_0_01_1_n_n none a b (ix3 (0 : Fin 1) R n)
      = ∑ m : Fin 1024, a (ix3 (0 : Fin 1) R m) * b (ix2 m n) := by
  simp only [Host.dotGeneral]
  rw [Ideal.dotGeneral_apply, ← Equiv.sum_comp (contrEquiv1 dot_S1x1024x1024_S1024x1024_S1x1024x1024_2_0_01_1_n_n 1024 rfl rfl).symm]
  refine Finset.sum_congr rfl fun m _ => ?_
  have hk := contrEquiv1_symm_val dot_S1x1024x1024_S1024x1024_S1x1024x1024_2_0_01_1_n_n 1024 rfl rfl m
  refine congrArg₂ (· * ·) (congrArg a ?_) (congrArg b ?_)
  · funext i; apply Fin.ext
    match i with | ⟨0, _⟩ => rfl | ⟨1, _⟩ => rfl | ⟨2, _⟩ => exact hk
  · funext i; apply Fin.ext
    match i with | ⟨0, _⟩ => exact hk | ⟨1, _⟩ => rfl

theorem query_apply (R : Fin 1024) (h : Fin 8) (d : Fin 128) :
    query x wq (ix4 (0 : Fin 1) R h d) = ∑ m : Fin 1024, x (ix3 (0 : Fin 1) R m) * wq (ix2 m (col h d)) := by
  refine (shapeCast_apply _ _ _ (ix3 (0 : Fin 1) R (col h d)) ?_).trans (dot3_apply x wq R (col h d))
  rw [Shape.rowMajor_val_three, Shape.rowMajor_val_four]
  show (0 * 1024 + R.val) * 1024 + (128 * h.val + d.val) = ((0 * 1024 + R.val) * 8 + h.val) * 128 + d.val
  omega

/-- The score of key `j` for row `R`, head `h`. -/
def sc (R : Fin 1024) (h : Fin 8) (j : Fin 16384) : EReal :=
  (∑ d : Fin 128, (∑ m : Fin 1024, x (ix3 (0 : Fin 1) R m) * wq (ix2 m (col h d))) * k (ix4 (0 : Fin 1) j h d)) * SC

theorem score_apply (R : Fin 1024) (h : Fin 8) (j : Fin 16384) : score x wq k (ix4 (0 : Fin 1) h R j) = sc x wq k R h j := by
  show (Host.dotGeneral dot_S1x1024x8x128_S1x16384x8x128_S1x8x1024x16384_3_3_1_1_02_02 none (query x wq) k (ix4 (0 : Fin 1) h R j) : EReal)
    * SC = _
  unfold sc
  refine congrArg (· * SC) ?_
  simp only [Host.dotGeneral]
  rw [Ideal.dotGeneral_apply, ← Equiv.sum_comp (contrEquiv1 dot_S1x1024x8x128_S1x16384x8x128_S1x8x1024x16384_3_3_1_1_02_02 128 rfl rfl).symm]
  refine Finset.sum_congr rfl fun d _ => ?_
  have hk := contrEquiv1_symm_val dot_S1x1024x8x128_S1x16384x8x128_S1x8x1024x16384_3_3_1_1_02_02 128 rfl rfl d
  refine congrArg₂ (· * ·) ((congrArg (query x wq) (?_ : _ = ix4 (0 : Fin 1) R h d)).trans (query_apply x wq R h d)) (congrArg k ?_)
  · funext i; apply Fin.ext
    match i with | ⟨0, _⟩ => rfl | ⟨1, _⟩ => rfl | ⟨2, _⟩ => rfl | ⟨3, _⟩ => exact hk
  · funext i; apply Fin.ext
    match i with | ⟨0, _⟩ => rfl | ⟨1, _⟩ => rfl | ⟨2, _⟩ => rfl | ⟨3, _⟩ => exact hk

theorem minus_inf : Ideal.ofBits .f32 0xFF800000#32 = (⊥ : EReal) := by
  simp [Ideal.ofBits, Ideal.ieee]

theorem masked_apply (R : Fin 1024) (h : Fin 8) (j : Fin 16384) :
    masked x wq k (ix4 (0 : Fin 1) h R j) = if Kept R j then sc x wq k R h j else ⊥ := by
  have e : broadcastInDim S1x8x1024x16384 ![0, 1, 2, 3] bcast_S1x1x1024x16384_S1x8x1024x16384_0_1_2_3
      (broadcastInDim S1x1x1024x16384 ![2, 3] bcast_S1024x16384_S1x1x1024x16384_2_3 mask) (ix4 (0 : Fin 1) h R j) = mask (ix2 R j) :=
    (broadcastInDim_apply _ _ _ _ (ix4 (0 : Fin 1) (0 : Fin 1) R j)
      (fun a => match a with | ⟨0, _⟩ => rfl | ⟨1, _⟩ => rfl | ⟨2, _⟩ => rfl | ⟨3, _⟩ => rfl)).trans
      (broadcastInDim_apply _ _ _ _ (ix2 R j) (fun a => match a with | ⟨0, _⟩ => rfl | ⟨1, _⟩ => rfl))
  show Scalar.select (broadcastInDim S1x8x1024x16384 ![0, 1, 2, 3] bcast_S1x1x1024x16384_S1x8x1024x16384_0_1_2_3
      (broadcastInDim S1x1x1024x16384 ![2, 3] bcast_S1024x16384_S1x1x1024x16384_2_3 mask) (ix4 (0 : Fin 1) h R j))
    (score x wq k (ix4 (0 : Fin 1) h R j)) (Ideal.ofBits .f32 0xFF800000#32 : EReal) = _
  rw [e, mask_apply, score_apply, minus_inf]
  unfold Scalar.select
  by_cases hp : Kept R j
  · rw [if_pos hp, if_pos hp]; rfl
  · rw [if_neg hp, if_neg hp]; rfl

theorem top_apply (R : Fin 1024) (h : Fin 8) : top x wq k (ix3 (0 : Fin 1) h R)
    = (Finset.univ : Finset (Fin 16384)).fold max (⊥ : EReal) (fun j => masked x wq k (ix4 (0 : Fin 1) h R j)) := by
  unfold top
  rw [Host.reduce_eq_fold_single (FloatOps.maximumf (F := Ideal) (φ := .f32)) (masked x wq k) _ _
    (by decide : S1x8x1024x16384.Reduces [3] S1x8x1024)]
  show (Finset.univ : Finset (Fin 16384)).fold max (Ideal.ofBits .f32 0xFF800000#32 : EReal) _ = _
  rw [minus_inf]
  refine congrArg (Finset.fold max (⊥ : EReal) · Finset.univ) ?_
  funext j
  refine congrArg (masked x wq k) ?_
  funext a; match a with | ⟨0, _⟩ => rfl | ⟨1, _⟩ => rfl | ⟨2, _⟩ => rfl | ⟨3, _⟩ => rfl

theorem expo_apply (R : Fin 1024) (h : Fin 8) (j : Fin 16384) : expo x wq k (ix4 (0 : Fin 1) h R j)
    = Ideal.exp (masked x wq k (ix4 (0 : Fin 1) h R j) - top x wq k (ix3 (0 : Fin 1) h R)) := by
  have e : broadcastInDim S1x8x1024x16384 ![0, 1, 2, 3] bcast_S1x8x1024x1_S1x8x1024x16384_0_1_2_3
      (broadcastInDim S1x8x1024x1 ![0, 1, 2] bcast_S1x8x1024_S1x8x1024x1_0_1_2 (top x wq k)) (ix4 (0 : Fin 1) h R j)
        = top x wq k (ix3 (0 : Fin 1) h R) :=
    (broadcastInDim_apply _ _ _ _ (ix4 (0 : Fin 1) h R (0 : Fin 1))
      (fun a => match a with | ⟨0, _⟩ => rfl | ⟨1, _⟩ => rfl | ⟨2, _⟩ => rfl | ⟨3, _⟩ => rfl)).trans
      (broadcastInDim_apply _ _ _ _ (ix3 (0 : Fin 1) h R) (fun a => match a with | ⟨0, _⟩ => rfl | ⟨1, _⟩ => rfl | ⟨2, _⟩ => rfl))
  show Ideal.exp (masked x wq k (ix4 (0 : Fin 1) h R j) - broadcastInDim S1x8x1024x16384 ![0, 1, 2, 3] bcast_S1x8x1024x1_S1x8x1024x16384_0_1_2_3
      (broadcastInDim S1x8x1024x1 ![0, 1, 2] bcast_S1x8x1024_S1x8x1024x1_0_1_2 (top x wq k)) (ix4 (0 : Fin 1) h R j)) = _
  rw [e]

theorem total_apply (R : Fin 1024) (h : Fin 8) : total x wq k (ix4 (0 : Fin 1) h R (0 : Fin 1))
    = ∑ j : Fin 16384, expo x wq k (ix4 (0 : Fin 1) h R j) := by
  have e : broadcastInDim S1x8x1024x1 ![0, 1, 2, 3] bcast_S1x1x1024x1_S1x8x1024x1_0_1_2_3 keep4 (ix4 (0 : Fin 1) h R (0 : Fin 1)) = 1#1 :=
    (broadcastInDim_apply _ _ keep4 _ (ix4 (0 : Fin 1) (0 : Fin 1) R (0 : Fin 1))
      (fun a => match a with | ⟨0, _⟩ => rfl | ⟨1, _⟩ => rfl | ⟨2, _⟩ => rfl | ⟨3, _⟩ => rfl)).trans (keep4_apply R)
  unfold total
  refine (select_one _ _ _ _ e).trans ?_
  refine (broadcastInDim_apply _ _ _ _ (ix3 (0 : Fin 1) h R) (fun a => match a with | ⟨0, _⟩ => rfl | ⟨1, _⟩ => rfl | ⟨2, _⟩ => rfl)).trans ?_
  rw [hostReduceAdd_apply, Ideal.hostReduceAdd_single _ (by decide : S1x8x1024x16384.Reduces [3] S1x8x1024)]
  show Ideal.ofBits .f32 0x00000000#32 + _ = _
  rw [Ideal.ofBits_zero_f32, zero_add]
  refine Finset.sum_congr rfl fun j _ => congrArg (expo x wq k) ?_
  funext a; match a with | ⟨0, _⟩ => rfl | ⟨1, _⟩ => rfl | ⟨2, _⟩ => rfl | ⟨3, _⟩ => rfl

theorem weight_apply (R : Fin 1024) (h : Fin 8) (j : Fin 16384) : weight x wq k (ix4 (0 : Fin 1) h R j)
    = Ideal.div (expo x wq k (ix4 (0 : Fin 1) h R j)) (∑ j : Fin 16384, expo x wq k (ix4 (0 : Fin 1) h R j)) := by
  have e : broadcastInDim S1x8x1024x16384 ![0, 1, 2, 3] bcast_S1x1x1024x1_S1x8x1024x16384_0_1_2_3 keep4 (ix4 (0 : Fin 1) h R j) = 1#1 :=
    (broadcastInDim_apply _ _ keep4 _ (ix4 (0 : Fin 1) (0 : Fin 1) R (0 : Fin 1))
      (fun a => match a with | ⟨0, _⟩ => rfl | ⟨1, _⟩ => rfl | ⟨2, _⟩ => rfl | ⟨3, _⟩ => rfl)).trans (keep4_apply R)
  unfold weight
  refine (select_one _ _ _ _ e).trans ?_
  rw [hostDivf_apply]
  refine congrArg (Ideal.div (expo x wq k (ix4 (0 : Fin 1) h R j))) ?_
  exact (broadcastInDim_apply _ _ _ _ (ix4 (0 : Fin 1) h R (0 : Fin 1))
      (fun a => match a with | ⟨0, _⟩ => rfl | ⟨1, _⟩ => rfl | ⟨2, _⟩ => rfl | ⟨3, _⟩ => rfl)).trans (total_apply x wq k R h)

theorem context_apply (R : Fin 1024) (h : Fin 8) (d : Fin 128) : context x wq k v (ix4 (0 : Fin 1) h d R)
    = ∑ j : Fin 16384, v (ix4 (0 : Fin 1) j h d) * weight x wq k (ix4 (0 : Fin 1) h R j) := by
  unfold context
  simp only [Host.dotGeneral]
  rw [Ideal.dotGeneral_apply, ← Equiv.sum_comp (contrEquiv1 dot_S1x16384x8x128_S1x8x1024x16384_S1x8x128x1024_1_3_3_2_02_01 16384 rfl rfl).symm]
  refine Finset.sum_congr rfl fun j _ => ?_
  have hk := contrEquiv1_symm_val dot_S1x16384x8x128_S1x8x1024x16384_S1x8x128x1024_1_3_3_2_02_01 16384 rfl rfl j
  refine congrArg₂ (· * ·) (congrArg v ?_) (congrArg (weight x wq k) ?_)
  · funext i; apply Fin.ext
    match i with | ⟨0, _⟩ => rfl | ⟨1, _⟩ => exact hk | ⟨2, _⟩ => rfl | ⟨3, _⟩ => rfl
  · funext i; apply Fin.ext
    match i with | ⟨0, _⟩ => rfl | ⟨1, _⟩ => rfl | ⟨2, _⟩ => rfl | ⟨3, _⟩ => exact hk

theorem flat_apply (R c : Fin 1024) : flat x wq k v (ix3 (0 : Fin 1) R c) = context x wq k v (ix4 (0 : Fin 1) (hd c) (dm c) R) := by
  refine (shapeCast_apply _ _ _ (ix4 (0 : Fin 1) R (hd c) (dm c)) ?_).trans (transpose_apply _ _ _ _ (ix4 (0 : Fin 1) (hd c) (dm c) R) ?_)
  · rw [Shape.rowMajor_val_three, Shape.rowMajor_val_four]
    show ((0 * 1024 + R.val) * 8 + c.val / 128) * 128 + c.val % 128 = (0 * 1024 + R.val) * 1024 + c.val
    omega
  · intro b
    match b with | ⟨0, _⟩ => rfl | ⟨1, _⟩ => rfl | ⟨2, _⟩ => rfl | ⟨3, _⟩ => rfl

/-- The reference's result, element by element. -/
theorem out_apply (R n : Fin 1024) : out x wq k v wo (ix3 (0 : Fin 1) R n)
    = ∑ c : Fin 1024, (∑ j : Fin 16384, v (ix4 (0 : Fin 1) j (hd c) (dm c))
        * Ideal.div (Ideal.exp (masked x wq k (ix4 (0 : Fin 1) (hd c) R j) - top x wq k (ix3 (0 : Fin 1) (hd c) R)))
          (∑ i : Fin 16384, Ideal.exp (masked x wq k (ix4 (0 : Fin 1) (hd c) R i) - top x wq k (ix3 (0 : Fin 1) (hd c) R)))) * wo (ix2 c n) := by
  unfold out
  rw [dot3_apply]
  refine Finset.sum_congr rfl fun c _ => congrArg (· * wo (ix2 c n)) ?_
  rw [flat_apply, context_apply]
  refine Finset.sum_congr rfl fun j _ => congrArg (_ * ·) ?_
  rw [weight_apply]
  simp only [expo_apply]

end Cert.ReferenceIdeal.Plain

end
-- ==== Proof.Softmax.lean ====
/- The equation between the two forms of the attention of one row: the softmax with the row's maximum subtracted and a
   mask of −∞, over all keys, and the plain quotient of sums of exponentials over the kept keys. The values may be
   infinite, the scores are real. -/
module

public import Idealize.ShloMosaic.PureOps.Ideal.Laws

@[expose] public section

noncomputable section

namespace Cert.Softmax

open Idealize.ShloMosaic
open scoped BigOperators

/-- An extended real that is real. -/
def IsReal (x : EReal) : Prop := ∃ r : ℝ, x = (r : EReal)

theorem IsReal.mul {x y : EReal} (hx : IsReal x) (hy : IsReal y) : IsReal (x * y) := by
  obtain ⟨r, rfl⟩ := hx
  obtain ⟨s, rfl⟩ := hy
  exact ⟨r * s, by push_cast; rfl⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- A nonnegative real factor goes into a finite sum of extended reals. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The largest of finitely many masked real scores, one of them kept, is real. -/
theorem max_real {ι : Type} (s : Finset ι) (P : ι → Prop) [DecidablePred P] (S : ι → ℝ) :
    ((∀ i ∈ s, ¬ P i) ∧ s.fold max (⊥ : EReal) (fun i => if P i then (S i : EReal) else ⊥) = ⊥)
    ∨ IsReal (s.fold max (⊥ : EReal) (fun i => if P i then (S i : EReal) else ⊥)) := by
  classical
  induction s using Finset.induction_on with
  | empty => left; simp
  | insert a s ha ih =>
    rw [Finset.fold_insert ha]
    by_cases hp : P a
    · right
      rw [if_pos hp]
      rcases ih with ⟨_, e⟩ | ⟨r, e⟩
      · rw [e]; exact ⟨S a, max_eq_left bot_le⟩
      · rw [e]; exact ⟨max (S a) r, (EReal.coe_strictMono.monotone.map_max).symm⟩
    · rw [if_neg hp]
      rcases ih with ⟨h, e⟩ | ⟨r, e⟩
      · left
        refine ⟨fun i hi => ?_, by rw [e]; exact max_eq_left le_rfl⟩
        rcases Finset.mem_insert.1 hi with rfl | hi
        · exact hp
        · exact h i hi
      · right; exact ⟨r, by rw [e]; exact max_eq_right bot_le⟩

/-- The masked softmax's weighted sum is the quotient of the sums of exponentials over the kept keys. -/
theorem softmax_eq {ι : Type} [Fintype ι] (P : ι → Prop) [DecidablePred P] (S : ι → ℝ) (v : ι → EReal) (i0 : ι) (h0 : P i0)
    (s' : ι → EReal) (hs : ∀ i, s' i = if P i then (S i : EReal) else ⊥) (M : EReal) (hM : M = Finset.univ.fold max (⊥ : EReal) s') :
    ∑ j, v j * Ideal.div (Ideal.exp (s' j - M)) (∑ k, Ideal.exp (s' k - M))
      = Ideal.div (∑ j with P j, Ideal.exp (S j : EReal) * v j) (∑ j with P j, Ideal.exp (S j : EReal)) := by
  obtain ⟨m, hm⟩ : IsReal M := by
    have e : s' = fun i => if P i then (S i : EReal) else ⊥ := funext hs
    rw [hM, e]
    rcases max_real Finset.univ P S with ⟨h, _⟩ | h
    · exact absurd h0 (h i0 (Finset.mem_univ _))
    · exact h
  have hexp : ∀ i, Ideal.exp (s' i - M) = if P i then ((Real.exp (S i - m) : ℝ) : EReal) else 0 := fun i => by
    rw [hs, hm]
    by_cases hp : P i
    · rw [if_pos hp, if_pos hp, ← EReal.coe_sub, Ideal.exp_coe]
    · rw [if_neg hp, if_neg hp, EReal.bot_sub, Ideal.exp_bot]
  have hL : 0 < ∑ j with P j, Real.exp (S j) :=
    Finset.sum_pos (fun i _ => Real.exp_pos _) ⟨i0, Finset.mem_filter.2 ⟨Finset.mem_univ _, h0⟩⟩
  have hD : 0 < ∑ j with P j, Real.exp (S j - m) :=
    Finset.sum_pos (fun i _ => Real.exp_pos _) ⟨i0, Finset.mem_filter.2 ⟨Finset.mem_univ _, h0⟩⟩
  have hDL : ∑ j with P j, Real.exp (S j - m) = (∑ j with P j, Real.exp (S j)) * Real.exp (-m) := by
    rw [Finset.sum_mul]
    exact Finset.sum_congr rfl fun j _ => by rw [← Real.exp_add, sub_eq_add_neg]
  have e1 : ∑ k, Ideal.exp (s' k - M) = ((∑ j with P j, Real.exp (S j - m) : ℝ) : EReal) := by
    rw [coe_sum, Finset.sum_filter]
    exact Finset.sum_congr rfl fun k _ => hexp k
  have e2 : ∑ j with P j, Ideal.exp (S j : EReal) = ((∑ j with P j, Real.exp (S j) : ℝ) : EReal) := by
    rw [coe_sum]; rfl
  rw [e1, e2, Ideal.div_coe hL.ne', sum_mul_coe _ _ (by positivity)]
  refine Eq.trans ?_ (Finset.sum_filter _ _).symm
  refine Finset.sum_congr rfl fun j _ => ?_
  rw [Ideal.div_coe hD.ne', hexp]
  by_cases hp : P j
  · rw [if_pos hp, if_pos hp, Ideal.exp_coe, mul_comm ((Real.exp (S j) : ℝ) : EReal), mul_assoc, ← EReal.coe_mul, ← EReal.coe_mul]
    congr 2
    rw [hDL, sub_eq_add_neg, Real.exp_add]
    field_simp
  · rw [if_neg hp, if_neg hp, zero_mul, mul_zero]

end Cert.Softmax

end
-- ==== Proof.Value.lean ====
/- The kernel's result and the reference's are equal over the reals, when the input rows, the query weights and the keys
   are finite: the sixteen devices' partial sums of exponentials, divided, are the masked softmax. -/
module

public import proofs.«01_k».proof.Proof.KernVal
public import proofs.«01_k».proof.Proof.RefVal
public import proofs.«01_k».proof.Proof.Softmax
public import proofs.«01_k».proof.Proof.Gen.Pre_finite_KernelIdeal
public import Idealize.ShloMosaic.Lib.ReduceAll
public import Idealize.ShloMosaic.Lib.Layout

@[expose] public section

set_option maxRecDepth 8000

noncomputable section

namespace Cert.Equal

open Idealize.ShloMosaic Idealize.ShloMosaic.ValueIdx Cert.Softmax Cert.KernelIdeal.Talk
open scoped BigOperators

/-! ## The precondition read back -/

theorem plus_inf : Ideal.ofBits .f32 0x7F800000#32 = (⊤ : EReal) := by
  simp [Ideal.ofBits, Ideal.ieee]

/-- An extended real whose absolute value is below +∞ is real. -/
theorem real_of_abs (x : EReal) (h : Ideal.cmp .olt (max x (-x)) ⊤ = 1#1) : IsReal x := by
  have h' : max x (-x) < ⊤ := by
    by_contra hn
    have : Ideal.cmp .olt (max x (-x)) ⊤ = 0#1 := congrArg BitVec.ofBool (decide_eq_false hn)
    rw [this] at h
    exact absurd h (by decide)
  induction x using EReal.rec with
  | bot => exact absurd h' (by simp)
  | top => exact absurd h' (by simp)
  | coe r => exact ⟨r, rfl⟩

instance : Subsingleton Cert.Pre_finite_KernelIdeal.S_.Idx := ⟨fun a b => funext fun i => i.elim0⟩

open Cert.Pre_finite_KernelIdeal in
theorem pre_real (x : FVec Ideal S1x1024x1024 .f32) (wq : FVec Ideal S1024x1024 .f32) (k v : FVec Ideal S1x1024x8x128 .f32)
    (wo : FVec Ideal S1024x1024 .f32) (h : fn (F := Ideal) x wq k v wo = fun _ => 1#1) :
    (∀ i, IsReal (x i)) ∧ (∀ i, IsReal (wq i)) ∧ ∀ i, IsReal (k i) := by
  have h1 := congrFun h ix0
  obtain ⟨h12, h3⟩ := IntOp.andi_eq_one.1 h1
  obtain ⟨h1, h2⟩ := IntOp.andi_eq_one.1 h12
  refine ⟨fun i => real_of_abs _ ?_, fun i => real_of_abs _ ?_, fun i => real_of_abs _ ?_⟩
  · have e := Host.reduce_andi_all _ _ _ _ _ h1 i
    rw [← plus_inf]; exact e
  · have e := Host.reduce_andi_all _ _ _ _ _ h2 i
    rw [← plus_inf]; exact e
  · have e := Host.reduce_andi_all _ _ _ _ _ h3 i
    rw [← plus_inf]; exact e

/-! ## The keys of all devices -/

/-- Key `j` of device `s`, among all the keys. -/
def glob (s : Fin 16) (j : Fin 1024) : Fin 16384 := ⟨s.val * 1024 + j.val, by omega⟩

theorem block_glob (K : (⟨4, ![1, 16384, 8, 128]⟩ : Shape).Idx → EReal) (s : Fin 16) (j : Fin 1024) (h : Fin 8) (d : Fin 128) :
    Layout.block ⟨4, ![1, 1024, 8, 128]⟩ ⟨4, ![1, 16384, 8, 128]⟩ 1 16 s K (by decide) (ix4 (0 : Fin 1) j h d)
      = K (ix4 (0 : Fin 1) (glob s j) h d) := by
  rw [Layout.block_apply]
  refine congrArg K ?_
  funext a
  match a with | ⟨0, _⟩ => rfl | ⟨1, _⟩ => rfl | ⟨2, _⟩ => rfl | ⟨3, _⟩ => rfl

/-- The keys a row keeps are, device by device, the keys of its block's phase. -/
theorem sum_kept (R : Fin 1024) (f : Fin 16384 → EReal) :
    ∑ j with Cert.ReferenceIdeal.Plain.Kept R j, f j = ∑ s : Fin 16, ∑ t : Fin 256, f (glob s (rowK (ph (hi R)) t)) := by
  rw [← Fintype.sum_prod_type' (f := fun (s : Fin 16) (t : Fin 256) => f (glob s (rowK (ph (hi R)) t)))]
  refine Finset.sum_nbij' (fun j => ((⟨j.val / 1024, by omega⟩, ⟨64 * (j.val % 1024 / 256) + j.val % 64, by omega⟩) : Fin 16 × Fin 256))
    (fun q => glob q.1 (rowK (ph (hi R)) q.2)) ?_ ?_ ?_ ?_ ?_
  · intro j _; exact Finset.mem_univ _
  · rintro ⟨s, t⟩ _
    refine Finset.mem_filter.2 ⟨Finset.mem_univ _, ?_⟩
    show (s.val * 1024 + (64 * (R.val / 64 % 4 + 4 * (t.val / 64)) + t.val % 64)) / 64 % 4 = R.val / 64 % 4
    omega
  · intro j hj
    have hk : j.val / 64 % 4 = R.val / 64 % 4 := (Finset.mem_filter.1 hj).2
    refine Fin.ext ?_
    show j.val / 1024 * 1024 + (64 * (R.val / 64 % 4 + 4 * ((64 * (j.val % 1024 / 256) + j.val % 64) / 64)) + (64 * (j.val % 1024 / 256) + j.val % 64) % 64) = j.val
    omega
  · rintro ⟨s, t⟩ _
    refine Prod.ext (Fin.ext ?_) (Fin.ext ?_)
    · show (s.val * 1024 + (64 * (R.val / 64 % 4 + 4 * (t.val / 64)) + t.val % 64)) / 1024 = s.val
      omega
    · show 64 * ((s.val * 1024 + (64 * (R.val / 64 % 4 + 4 * (t.val / 64)) + t.val % 64)) % 1024 / 256) + (s.val * 1024 + (64 * (R.val / 64 % 4 + 4 * (t.val / 64)) + t.val % 64)) % 64 = t.val
      omega
  · intro j hj
    have hk : j.val / 64 % 4 = R.val / 64 % 4 := (Finset.mem_filter.1 hj).2
    refine congrArg f (Fin.ext ?_)
    show j.val = j.val / 1024 * 1024 + (64 * (R.val / 64 % 4 + 4 * ((64 * (j.val % 1024 / 256) + j.val % 64) / 64)) + (64 * (j.val % 1024 / 256) + j.val % 64) % 64)
    omega

theorem scale_real : IsReal (Cert.ReferenceIdeal.Plain.SC) := by
  unfold Cert.ReferenceIdeal.Plain.SC
  simp [Ideal.ofBits, Ideal.ieee, -EReal.coe_mul]
  exact ⟨_, rfl⟩

theorem rowE_hi_lo (R : Fin 1024) : rowE (hi R) (lo R) = R := Fin.ext (by simp only [rowE, hi, lo]; omega)

/-! ## The two results -/

section
variable (I : Fin 16 → Ins Ideal) (x : FVec Ideal Cert.ReferenceIdeal.S1x1024x1024 .f32) (wq : FVec Ideal Cert.ReferenceIdeal.S1024x1024 .f32)
  (k v : FVec Ideal Cert.ReferenceIdeal.S1x16384x8x128 .f32) (wo : FVec Ideal Cert.ReferenceIdeal.S1024x1024 .f32)
  (hx : ∀ s, (I s).x = x) (hq : ∀ s, (I s).wq = wq) (hw : ∀ s, (I s).wo = wo)
  (hk : ∀ s j h d, (I s).k (ix4 (0 : Fin 1) j h d) = k (ix4 (0 : Fin 1) (glob s j) h d))
  (hv : ∀ s j h d, (I s).v (ix4 (0 : Fin 1) j h d) = v (ix4 (0 : Fin 1) (glob s j) h d))
include hx hq hk

/-- A device's weight is the exponential of the reference's score. -/
theorem wt_sc (s : Fin 16) (R : Fin 1024) (h : Fin 8) (t : Fin 256) :
    wt (I s) (hi R) (lo R) h t = Ideal.exp (Cert.ReferenceIdeal.Plain.sc x wq k R h (glob s (rowK (ph (hi R)) t))) := by
  unfold wt
  rw [hx, hq, rowE_hi_lo]
  simp only [hk]
  rfl

theorem sc_real (fx : ∀ i, IsReal (x i)) (fq : ∀ i, IsReal (wq i)) (fk : ∀ s i, IsReal ((I s).k i)) (R : Fin 1024) (h : Fin 8) (j : Fin 16384) :
    IsReal (Cert.ReferenceIdeal.Plain.sc x wq k R h j) := by
  unfold Cert.ReferenceIdeal.Plain.sc
  refine IsReal.mul (IsReal.sum _ fun d => IsReal.mul (IsReal.sum _ fun m => IsReal.mul (fx _) (fq _)) ?_) scale_real
  have e : j = glob ⟨j.val / 1024, by omega⟩ ⟨j.val % 1024, by omega⟩ := Fin.ext (by simp only [glob]; omega)
  rw [e, ← hk]
  exact fk _ _

include hw hv
theorem OUT_eq (fx : ∀ i, IsReal (x i)) (fq : ∀ i, IsReal (wq i)) (fk : ∀ s i, IsReal ((I s).k i)) (c : Fin 16) :
    OUT I c = Cert.ReferenceIdeal.Plain.out x wq k v wo := by
  have main : ∀ R n : Fin 1024, OUT I c (ix3 (0 : Fin 1) R n) = Cert.ReferenceIdeal.Plain.out x wq k v wo (ix3 (0 : Fin 1) R n) := fun R n => by
    rw [OUT_apply, Cert.ReferenceIdeal.Plain.out_apply]
    unfold val
    refine Finset.sum_congr rfl fun q _ => ?_
    rw [hw]
    refine congrArg (· * wo (ix2 q n)) ?_
    choose S hS using fun j => sc_real I x wq k hx hq hk fx fq fk R (hd q) j
    have key := softmax_eq (Cert.ReferenceIdeal.Plain.Kept R) S (fun j => v (ix4 (0 : Fin 1) j (hd q) (dm q))) ⟨R.val, by omega⟩ rfl
      (fun j => Cert.ReferenceIdeal.Plain.masked x wq k (ix4 (0 : Fin 1) (hd q) R j))
      (fun j => by rw [Cert.ReferenceIdeal.Plain.masked_apply, hS])
      (Cert.ReferenceIdeal.Plain.top x wq k (ix3 (0 : Fin 1) (hd q) R)) (Cert.ReferenceIdeal.Plain.top_apply x wq k R (hd q))
    refine Eq.trans ?_ key.symm
    rw [sum_kept, sum_kept]
    simp only [wt_sc I x wq k hx hq hk, hv, hS]
  funext y
  have e : y = ix3 (0 : Fin 1) (y 1) (y 2) := by
    funext a
    match a with
    | ⟨0, _⟩ => exact Subsingleton.elim (α := Fin 1) _ _
    | ⟨1, _⟩ => rfl
    | ⟨2, _⟩ => rfl
  rw [e]
  exact main (y 1) (y 2)
end

end Cert.Equal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Result
public import proofs.«01_k».proof.Proof.Same
public import proofs.«01_k».proof.Proof.Value

@[expose] public section

noncomputable section

namespace Cert.Proof

open Idealize.ShloMosaic Idealize.SL.Sem

/-- The kernel's frame at the machine's words. -/
theorem frame_kernel : Cert.quiescent_Kernel := fun m ρ _ => by
  have h := Cert.KernelIdeal.Talk.run_frame (F := Bits) m ρ
  rw [← defs_same] at h
  exact h

/-- The kernel's frame over the reals. -/
theorem frame_ideal : Cert.quiescent_KernelIdeal := fun m ρ _ => Cert.KernelIdeal.Talk.run_frame (F := Ideal) m ρ

/-- The same where the precondition holds. -/
theorem frame_ideal_pre : Cert.quiescent_KernelIdeal_pre_finite_KernelIdeal := fun m ρ _ =>
  Cert.KernelIdeal.Talk.run_frame (F := Ideal) m ρ

/-- The reference's frame: it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the precondition holds. -/
theorem frame_reference_pre : Cert.quiescent_ReferenceIdeal_pre_finite_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite inputs every device's result is the reference's, over the reals. -/
theorem value : Cert.algebraic_KernelIdeal_ReferenceIdeal_pre_finite_KernelIdeal := fun m g m' g' hpre hargs => by
  refine ⟨Cert.ReferenceIdeal.Value.res_main_v39 m' 0, ?_, ?_⟩
  · refine (θ_run Cert.KernelIdeal.defs _ _).mono (fun r h c => ?_) (Cert.KernelIdeal.Talk.run_main (F := Ideal) m g)
    refine ⟨((h.1 c).1).trans ?_, (h.1 c).2⟩
    have real := fun s => Cert.Equal.pre_real _ _ _ _ _ (hpre s)
    refine (Cert.Equal.OUT_eq (Cert.KernelIdeal.Talk.inp m) _ _ _ _ _
      (fun s => (Cert.KernelIdeal.Talk.inp_x m s).trans (hargs s).1)
      (fun s => (Cert.KernelIdeal.Talk.inp_wq m s).trans (hargs s).2.1)
      (fun s => (Cert.KernelIdeal.Talk.inp_wo m s).trans (hargs s).2.2.2.2)
      (fun s j h d => (congrFun ((Cert.KernelIdeal.Talk.inp_k m s).trans (hargs s).2.2.1) _).trans (Cert.Equal.block_glob _ s j h d))
      (fun s j h d => (congrFun ((Cert.KernelIdeal.Talk.inp_v m s).trans (hargs s).2.2.2.1) _).trans (Cert.Equal.block_glob _ s j h d))
      (fun i => (congrFun (hargs 0).1 i) ▸ (real 0).1 i)
      (fun i => (congrFun (hargs 0).2.1 i) ▸ (real 0).2.1 i)
      (fun s i => (congrFun (Cert.KernelIdeal.Talk.inp_k m s) i).symm ▸ (real s).2.2 i) c).trans ?_
    exact (Cert.ReferenceIdeal.Plain.res_eq m' 0).symm
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_ideal, frame_ideal_pre, frame_reference, frame_reference_pre, trivial, value⟩

end Cert.Proof

end
